-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x256x1024 .f32) (main_arg1 : FVec F S1024x1024 .f32) (main_arg2 : FVec F S1x16384x8x128 .f32) (main_arg3 : FVec F S1x16384x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S2048x128 : Shape := ⟨2, ![2048, 128]⟩
abbrev S4x16x64 : Shape := ⟨3, ![4, 16, 64]⟩
abbrev S4x512x128 : Shape := ⟨3, ![4, 512, 128]⟩
abbrev S64x1024 : Shape := ⟨2, ![64, 1024]⟩
abbrev S4x64x1024 : Shape := ⟨3, ![4, 64, 1024]⟩
abbrev S2x2 : Shape := ⟨2, ![2, 2]⟩
abbrev S_ : Shape := ⟨0, ![]⟩
abbrev S4 : Shape := ⟨1, ![4]⟩
abbrev S3 : Shape := ⟨1, ![3]⟩
abbrev S1x1 : Shape := ⟨2, ![1, 1]⟩
abbrev S1x2048x8x128 : Shape := ⟨4, ![1, 2048, 8, 128]⟩
abbrev S2048x8x128 : Shape := ⟨3, ![2048, 8, 128]⟩
abbrev S256x1024 : Shape := ⟨2, ![256, 1024]⟩
abbrev S2048x1024 : Shape := ⟨2, ![2048, 1024]⟩
abbrev S512x1024 : Shape := ⟨2, ![512, 1024]⟩
abbrev S64x128 : Shape := ⟨2, ![64, 128]⟩
abbrev S512x128 : Shape := ⟨2, ![512, 128]⟩
abbrev S64x512 : Shape := ⟨2, ![64, 512]⟩
abbrev S64 : Shape := ⟨1, ![64]⟩
abbrev S64x1 : Shape := ⟨2, ![64, 1]⟩
abbrev S1x1x64 : Shape := ⟨3, ![1, 1, 64]⟩
abbrev S1 : Shape := ⟨1, ![1]⟩
abbrev S1x512x128 : Shape := ⟨3, ![1, 512, 128]⟩
abbrev S1x16x64 : Shape := ⟨3, ![1, 16, 64]⟩
abbrev S16x64 : Shape := ⟨2, ![16, 64]⟩
abbrev S1x64x128 : Shape := ⟨3, ![1, 64, 128]⟩
abbrev S1x64x1024 : Shape := ⟨3, ![1, 64, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1x256x1024, .f32⟩
  | .local _ .vmem, ⟨3, _⟩ => ⟨S2048x128, .bf16⟩
  | .local _ .vmem, ⟨4, _⟩ => ⟨S4x16x64, .f32⟩
  | .local _ .vmem, ⟨5, _⟩ => ⟨S4x512x128, .bf16⟩
  | .local _ .vmem, ⟨6, _⟩ => ⟨S4x16x64, .f32⟩
  | .local _ .vmem, ⟨7, _⟩ => ⟨S64x1024, .bf16⟩
  | .local _ .vmem, ⟨8, _⟩ => ⟨S4x64x1024, .bf16⟩
  | .local _ .vmem, ⟨9, _⟩ => ⟨S1x4096x8x128, .f32⟩
  | .local _ .vmem, ⟨10, _⟩ => ⟨S1x4096x8x128, .f32⟩
  | .local _ .vmem, ⟨11, _⟩ => ⟨S1024x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_24 : BitVec 32 := 1#32
  let v22 : BitVec 32 := Scalar.muli v4 c1_i32_24
  let v23 : BitVec 32 := Scalar.addi c0_i32_25 v22
  v23.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_27 : BitVec 32 := 1#32
  let v24 : BitVec 32 := Scalar.muli v6 c1_i32_27
  let v25 : BitVec 32 := Scalar.addi c0_i32_28 v24
  v25.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_30 : BitVec 32 := 1#32
  let v26 : BitVec 32 := Scalar.muli v8 c1_i32_30
  let v27 : BitVec 32 := Scalar.addi c0_i32_31 v26
  v27.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_353 : BitVec 32 := 0#32
  let v1021 : BitVec 1 := Scalar.cmpi .ne v2 c0_i32_353
  let v1022 : BitVec 32 := Scalar.extui v1021
  let c0_i32_354 : BitVec 32 := 0#32
  let v1023 : BitVec 1 := Scalar.cmpi .ne v1022 c0_i32_354
  v1023

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_979 : BitVec 32 := 0#32
  let c0_i32_980 : BitVec 32 := 0#32
  ![v2.toNat, 0, 0]
def k0_dev4 : Nat :=
  let c0_i32_978 : BitVec 32 := 0#32
  let c0_i32_976 : BitVec 32 := 0#32
  let c1_i32_977 : BitVec 32 := 1#32
  let v2871 : BitVec 32 := Scalar.muli c0_i32_976 c1_i32_977
  let v2872 : BitVec 32 := Scalar.addi c0_i32_978 v2871
  v2872.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_988 : BitVec 32 := 0#32
  let c0_i32_989 : BitVec 32 := 0#32
  ![v2.toNat, 0, 0]
def k0_dev5 : Nat :=
  let c0_i32_987 : BitVec 32 := 0#32
  let c0_i32_985 : BitVec 32 := 0#32
  let c1_i32_986 : BitVec 32 := 1#32
  let v2880 : BitVec 32 := Scalar.muli c0_i32_985 c1_i32_986
  let v2881 : BitVec 32 := Scalar.addi c0_i32_987 v2880
  v2881.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_451 : BitVec 32 := 1#32
  let v1370 : BitVec 1 := Scalar.cmpi .ne v2 c1_i32_451
  let v1371 : BitVec 32 := Scalar.extui v1370
  let c0_i32_452 : BitVec 32 := 0#32
  let v1372 : BitVec 1 := Scalar.cmpi .ne v1371 c0_i32_452
  v1372

def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_979 : BitVec 32 := 0#32
  let c0_i32_980 : BitVec 32 := 0#32
  ![v2.toNat, 0, 0]
def k0_dev6 : Nat :=
  let c0_i32_978 : BitVec 32 := 0#32
  let c1_i32_976 : BitVec 32 := 1#32
  let c1_i32_977 : BitVec 32 := 1#32
  let v2871 : BitVec 32 := Scalar.muli c1_i32_976 c1_i32_977
  let v2872 : BitVec 32 := Scalar.addi c0_i32_978 v2871
  v2872.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_988 : BitVec 32 := 0#32
  let c0_i32_989 : BitVec 32 := 0#32
  ![v2.toNat, 0, 0]
def k0_dev7 : Nat :=
  let c0_i32_987 : BitVec 32 := 0#32
  let c1_i32_985 : BitVec 32 := 1#32
  let c1_i32_986 : BitVec 32 := 1#32
  let v2880 : BitVec 32 := Scalar.muli c1_i32_985 c1_i32_986
  let v2881 : BitVec 32 := Scalar.addi c0_i32_987 v2880
  v2881.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_549 : BitVec 32 := 2#32
  let v1719 : BitVec 1 := Scalar.cmpi .ne v2 c2_i32_549
  let v1720 : BitVec 32 := Scalar.extui v1719
  let c0_i32_550 : BitVec 32 := 0#32
  let v1721 : BitVec 1 := Scalar.cmpi .ne v1720 c0_i32_550
  v1721

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_979 : BitVec 32 := 0#32
  let c0_i32_980 : BitVec 32 := 0#32
  ![v2.toNat, 0, 0]
def k0_dev8 : Nat :=
  let c0_i32_978 : BitVec 32 := 0#32
  let c2_i32_976 : BitVec 32 := 2#32
  let c1_i32_977 : BitVec 32 := 1#32
  let v2871 : BitVec 32 := Scalar.muli c2_i32_976 c1_i32_977
  let v2872 : BitVec 32 := Scalar.addi c0_i32_978 v2871
  v2872.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_987 : BitVec 32 := 0#32
  let c0_i32_988 : BitVec 32 := 0#32
  ![v2.toNat, 0, 0]
def k0_dev9 : Nat :=
  let c0_i32_986 : BitVec 32 := 0#32
  let c2_i32_984 : BitVec 32 := 2#32
  let c1_i32_985 : BitVec 32 := 1#32
  let v2880 : BitVec 32 := Scalar.muli c2_i32_984 c1_i32_985
  let v2881 : BitVec 32 := Scalar.addi c0_i32_986 v2880
  v2881.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_647 : BitVec 32 := 3#32
  let v2068 : BitVec 1 := Scalar.cmpi .ne v2 c3_i32_647
  let v2069 : BitVec 32 := Scalar.extui v2068
  let c0_i32_648 : BitVec 32 := 0#32
  let v2070 : BitVec 1 := Scalar.cmpi .ne v2069 c0_i32_648
  v2070

def k0_off10 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_979 : BitVec 32 := 0#32
  let c0_i32_980 : BitVec 32 := 0#32
  ![v2.toNat, 0, 0]
def k0_dev10 : Nat :=
  let c0_i32_978 : BitVec 32 := 0#32
  let c3_i32_976 : BitVec 32 := 3#32
  let c1_i32_977 : BitVec 32 := 1#32
  let v2871 : BitVec 32 := Scalar.muli c3_i32_976 c1_i32_977
  let v2872 : BitVec 32 := Scalar.addi c0_i32_978 v2871
  v2872.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_987 : BitVec 32 := 0#32
  let c0_i32_988 : BitVec 32 := 0#32
  ![v2.toNat, 0, 0]
def k0_dev11 : Nat :=
  let c0_i32_986 : BitVec 32 := 0#32
  let c3_i32_984 : BitVec 32 := 3#32
  let c1_i32_985 : BitVec 32 := 1#32
  let v2880 : BitVec 32 := Scalar.muli c3_i32_984 c1_i32_985
  let v2881 : BitVec 32 := Scalar.addi c0_i32_986 v2880
  v2881.toNat
def k0_off13 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  ![v4.toNat]
def k0_off14 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c0_i32_652 : BitVec 32 := 0#32
  let c0_i32_653 : BitVec 32 := 0#32
  ![v4.toNat, 0, 0]
def k0_off15 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c0_i32_660 : BitVec 32 := 0#32
  let c0_i32_661 : BitVec 32 := 0#32
  ![v4.toNat, 0, 0]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2116 : Index := Scalar.indexCast v2
  let c0_694 : Index := 0#32
  let c0_695 : Index := 0#32
  ![v2116.toNat, 0, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2119 : Index := Scalar.indexCast v2
  let c8_696 : Index := 8#32
  let c0_697 : Index := 0#32
  ![v2119.toNat, 8, 0]
def k0_off18 (d0 : Dev nD) (c0_i32_698 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v2122 : BitVec 32 := Scalar.muli v2 c512_i32
  let v2123 : BitVec 32 := Scalar.addi v2122 c0_i32_698
  let v2124 : Index := Scalar.indexCast v2123
  let c0_699 : Index := 0#32
  ![v2124.toNat, 0]
def k0_off19 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2126 : Index := Scalar.indexCast v4
  let c0_700 : Index := 0#32
  let c0_701 : Index := 0#32
  ![v2126.toNat, 0, 0]
def k0_off20 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2129 : Index := Scalar.indexCast v4
  let c8_702 : Index := 8#32
  let c0_703 : Index := 0#32
  ![v2129.toNat, 8, 0]
def k0_off21 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2132 : Index := Scalar.indexCast v4
  let c0_704 : Index := 0#32
  let c0_705 : Index := 0#32
  ![v2132.toNat, 0, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2197 : Index := Scalar.indexCast v2
  let c1_720 : Index := 1#32
  let c0_721 : Index := 0#32
  ![v2197.toNat, 1, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2200 : Index := Scalar.indexCast v2
  let c9_722 : Index := 9#32
  let c0_723 : Index := 0#32
  ![v2200.toNat, 9, 0]
def k0_off24 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2207 : Index := Scalar.indexCast v4
  let c1_726 : Index := 1#32
  let c0_727 : Index := 0#32
  ![v2207.toNat, 1, 0]
def k0_off25 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2210 : Index := Scalar.indexCast v4
  let c9_728 : Index := 9#32
  let c0_729 : Index := 0#32
  ![v2210.toNat, 9, 0]
def k0_off26 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2213 : Index := Scalar.indexCast v4
  let c64_730 : Index := 64#32
  let c0_731 : Index := 0#32
  ![v2213.toNat, 64, 0]
def k0_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2278 : Index := Scalar.indexCast v2
  let c2_746 : Index := 2#32
  let c0_747 : Index := 0#32
  ![v2278.toNat, 2, 0]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2281 : Index := Scalar.indexCast v2
  let c10_748 : Index := 10#32
  let c0_749 : Index := 0#32
  ![v2281.toNat, 10, 0]
def k0_off29 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2288 : Index := Scalar.indexCast v4
  let c2_752 : Index := 2#32
  let c0_753 : Index := 0#32
  ![v2288.toNat, 2, 0]
def k0_off30 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2291 : Index := Scalar.indexCast v4
  let c10_754 : Index := 10#32
  let c0_755 : Index := 0#32
  ![v2291.toNat, 10, 0]
def k0_off31 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2294 : Index := Scalar.indexCast v4
  let c128_756 : Index := 128#32
  let c0_757 : Index := 0#32
  ![v2294.toNat, 128, 0]
def k0_off32 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2359 : Index := Scalar.indexCast v2
  let c3_772 : Index := 3#32
  let c0_773 : Index := 0#32
  ![v2359.toNat, 3, 0]
def k0_off33 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2362 : Index := Scalar.indexCast v2
  let c11_774 : Index := 11#32
  let c0_775 : Index := 0#32
  ![v2362.toNat, 11, 0]
def k0_off34 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2369 : Index := Scalar.indexCast v4
  let c3_778 : Index := 3#32
  let c0_779 : Index := 0#32
  ![v2369.toNat, 3, 0]
def k0_off35 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2372 : Index := Scalar.indexCast v4
  let c11_780 : Index := 11#32
  let c0_781 : Index := 0#32
  ![v2372.toNat, 11, 0]
def k0_off36 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2375 : Index := Scalar.indexCast v4
  let c192_782 : Index := 192#32
  let c0_783 : Index := 0#32
  ![v2375.toNat, 192, 0]
def k0_off37 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2440 : Index := Scalar.indexCast v2
  let c4_798 : Index := 4#32
  let c0_799 : Index := 0#32
  ![v2440.toNat, 4, 0]
def k0_off38 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2443 : Index := Scalar.indexCast v2
  let c12_800 : Index := 12#32
  let c0_801 : Index := 0#32
  ![v2443.toNat, 12, 0]
def k0_off39 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2450 : Index := Scalar.indexCast v4
  let c4_804 : Index := 4#32
  let c0_805 : Index := 0#32
  ![v2450.toNat, 4, 0]
def k0_off40 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2453 : Index := Scalar.indexCast v4
  let c12_806 : Index := 12#32
  let c0_807 : Index := 0#32
  ![v2453.toNat, 12, 0]
def k0_off41 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2456 : Index := Scalar.indexCast v4
  let c256_808 : Index := 256#32
  let c0_809 : Index := 0#32
  ![v2456.toNat, 256, 0]
def k0_off42 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2521 : Index := Scalar.indexCast v2
  let c5_824 : Index := 5#32
  let c0_825 : Index := 0#32
  ![v2521.toNat, 5, 0]
def k0_off43 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2524 : Index := Scalar.indexCast v2
  let c13_826 : Index := 13#32
  let c0_827 : Index := 0#32
  ![v2524.toNat, 13, 0]
def k0_off44 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2531 : Index := Scalar.indexCast v4
  let c5_830 : Index := 5#32
  let c0_831 : Index := 0#32
  ![v2531.toNat, 5, 0]
def k0_off45 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2534 : Index := Scalar.indexCast v4
  let c13_832 : Index := 13#32
  let c0_833 : Index := 0#32
  ![v2534.toNat, 13, 0]
def k0_off46 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2537 : Index := Scalar.indexCast v4
  let c320_834 : Index := 320#32
  let c0_835 : Index := 0#32
  ![v2537.toNat, 320, 0]
def k0_off47 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2602 : Index := Scalar.indexCast v2
  let c6_850 : Index := 6#32
  let c0_851 : Index := 0#32
  ![v2602.toNat, 6, 0]
def k0_off48 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2605 : Index := Scalar.indexCast v2
  let c14_852 : Index := 14#32
  let c0_853 : Index := 0#32
  ![v2605.toNat, 14, 0]
def k0_off49 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2612 : Index := Scalar.indexCast v4
  let c6_856 : Index := 6#32
  let c0_857 : Index := 0#32
  ![v2612.toNat, 6, 0]
def k0_off50 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2615 : Index := Scalar.indexCast v4
  let c14_858 : Index := 14#32
  let c0_859 : Index := 0#32
  ![v2615.toNat, 14, 0]
def k0_off51 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2618 : Index := Scalar.indexCast v4
  let c384_860 : Index := 384#32
  let c0_861 : Index := 0#32
  ![v2618.toNat, 384, 0]
def k0_off52 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2683 : Index := Scalar.indexCast v2
  let c7_876 : Index := 7#32
  let c0_877 : Index := 0#32
  ![v2683.toNat, 7, 0]
def k0_off53 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2686 : Index := Scalar.indexCast v2
  let c15_878 : Index := 15#32
  let c0_879 : Index := 0#32
  ![v2686.toNat, 15, 0]
def k0_off54 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2693 : Index := Scalar.indexCast v4
  let c7_882 : Index := 7#32
  let c0_883 : Index := 0#32
  ![v2693.toNat, 7, 0]
def k0_off55 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2696 : Index := Scalar.indexCast v4
  let c15_884 : Index := 15#32
  let c0_885 : Index := 0#32
  ![v2696.toNat, 15, 0]
def k0_off56 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2699 : Index := Scalar.indexCast v4
  let c448_886 : Index := 448#32
  let c0_887 : Index := 0#32
  ![v2699.toNat, 448, 0]
def k0_off57 (d0 : Dev nD) : Fin 3 → Nat :=
  let c0_906 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_905 : BitVec 32 := 64#32
  let v2769 : BitVec 32 := Scalar.muli v2 c64_i32_905
  let v2770 : Index := Scalar.indexCast v2769
  let c0_907 : Index := 0#32
  ![0, v2770.toNat, 0]
def k0_off58 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_913 : BitVec 32 := 0#32
  let c0_i32_914 : BitVec 32 := 0#32
  ![v2.toNat, 0, 0]
def k0_dev12 (d0 : Dev nD) : Nat :=
  let c0_i32_912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_911 : BitVec 32 := 1#32
  let v2778 : BitVec 32 := Scalar.muli v4 c1_i32_911
  let v2779 : BitVec 32 := Scalar.addi c0_i32_912 v2778
  v2779.toNat
def k0_dev13 (d0 : Dev nD) : Nat :=
  let c0_i32_917 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_916 : BitVec 32 := 1#32
  let v2786 : BitVec 32 := Scalar.muli v6 c1_i32_916
  let v2787 : BitVec 32 := Scalar.addi c0_i32_917 v2786
  v2787.toNat
def k0_dev14 (d0 : Dev nD) : Nat :=
  let c0_i32_922 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_921 : BitVec 32 := 1#32
  let v2794 : BitVec 32 := Scalar.muli v8 c1_i32_921
  let v2795 : BitVec 32 := Scalar.addi c0_i32_922 v2794
  v2795.toNat
def k0_off60 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c0_i32_928 : BitVec 32 := 0#32
  let c0_i32_929 : BitVec 32 := 0#32
  ![v4.toNat, 0, 0]
def k0_off61 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v2808 : Index := Scalar.indexCast v4
  let c0_930 : Index := 0#32
  let c0_931 : Index := 0#32
  ![v2808.toNat, 0, 0]
def k0_off62 (d0 : Dev nD) (c1_i32_0 : BitVec 32) : Fin 3 → Nat :=
  let c0_933 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c64_i32_932 : BitVec 32 := 64#32
  let v2812 : BitVec 32 := Scalar.muli v4 c64_i32_932
  let v2813 : Index := Scalar.indexCast v2812
  let c0_934 : Index := 0#32
  ![0, v2813.toNat, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_955 : BitVec 32 := 0#32
  let v2847 : BitVec 1 := Scalar.cmpi .ne v2 c0_i32_955
  let v2848 : BitVec 32 := Scalar.extui v2847
  let c0_i32_956 : BitVec 32 := 0#32
  let v2849 : BitVec 1 := Scalar.cmpi .ne v2848 c0_i32_956
  v2849

def k0_off63 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_980 : BitVec 32 := 0#32
  let c0_i32_981 : BitVec 32 := 0#32
  ![v2.toNat, 0, 0]
def k0_off64 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_988 : BitVec 32 := 0#32
  let c0_i32_989 : BitVec 32 := 0#32
  ![v2.toNat, 0, 0]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_957 : BitVec 32 := 1#32
  let v2850 : BitVec 1 := Scalar.cmpi .ne v2 c1_i32_957
  let v2851 : BitVec 32 := Scalar.extui v2850
  let c0_i32_958 : BitVec 32 := 0#32
  let v2852 : BitVec 1 := Scalar.cmpi .ne v2851 c0_i32_958
  v2852

def k0_off65 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_980 : BitVec 32 := 0#32
  let c0_i32_981 : BitVec 32 := 0#32
  ![v2.toNat, 0, 0]
def k0_off66 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_988 : BitVec 32 := 0#32
  let c0_i32_989 : BitVec 32 := 0#32
  ![v2.toNat, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_959 : BitVec 32 := 2#32
  let v2853 : BitVec 1 := Scalar.cmpi .ne v2 c2_i32_959
  let v2854 : BitVec 32 := Scalar.extui v2853
  let c0_i32_960 : BitVec 32 := 0#32
  let v2855 : BitVec 1 := Scalar.cmpi .ne v2854 c0_i32_960
  v2855

def k0_off67 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_979 : BitVec 32 := 0#32
  let c0_i32_980 : BitVec 32 := 0#32
  ![v2.toNat, 0, 0]
def k0_off68 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_987 : BitVec 32 := 0#32
  let c0_i32_988 : BitVec 32 := 0#32
  ![v2.toNat, 0, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_961 : BitVec 32 := 3#32
  let v2856 : BitVec 1 := Scalar.cmpi .ne v2 c3_i32_961
  let v2857 : BitVec 32 := Scalar.extui v2856
  let c0_i32_962 : BitVec 32 := 0#32
  let v2858 : BitVec 1 := Scalar.cmpi .ne v2857 c0_i32_962
  v2858

def k0_off69 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_979 : BitVec 32 := 0#32
  let c0_i32_980 : BitVec 32 := 0#32
  ![v2.toNat, 0, 0]
def k0_off70 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_987 : BitVec 32 := 0#32
  let c0_i32_988 : BitVec 32 := 0#32
  ![v2.toNat, 0, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x16384x8x128 : Shape := ⟨4, ![1, 16384, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S16384 : Shape := ⟨1, ![16384]⟩
abbrev S1x16384 : Shape := ⟨2, ![1, 16384]⟩
abbrev S256x16384 : Shape := ⟨2, ![256, 16384]⟩
abbrev S1x8x256x16384 : Shape := ⟨4, ![1, 8, 256, 16384]⟩
abbrev S1x1x256x16384 : Shape := ⟨4, ![1, 1, 256, 16384]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x1024, .f32⟩
  | 2 => ⟨S1x16384x8x128, .f32⟩
  | 3 => ⟨S1x16384x8x128, .f32⟩
  | 4 => ⟨S1024x1024, .f32⟩
  | 5 => ⟨S1x256x1024, .f32⟩
  | 6 => ⟨S1x256x8x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S16384, .i32⟩
  | 28 => ⟨S_, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S16384, .i32⟩
  | 37 => ⟨S16384, .i32⟩
  | 38 => ⟨S_, .i32⟩
  | 39 => ⟨S16384, .i32⟩
  | 40 => ⟨S16384, .i1⟩
  | 41 => ⟨S16384, .i1⟩
  | 42 => ⟨S_, .i32⟩
  | 43 => ⟨S16384, .i32⟩
  | 44 => ⟨S16384, .i32⟩
  | 45 => ⟨S16384, .i32⟩
  | 46 => ⟨S1x16384, .i32⟩
  | 47 => ⟨S256x16384, .i32⟩
  | 48 => ⟨S256x16384, .i32⟩
  | 49 => ⟨S256x16384, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x16384, .i32⟩
  | 57 => ⟨S1x16384, .i32⟩
  | 58 => ⟨S_, .i32⟩
  | 59 => ⟨S1x16384, .i32⟩
  | 60 => ⟨S1x16384, .i1⟩
  | 61 => ⟨S_, .i32⟩
  | 62 => ⟨S1x16384, .i32⟩
  | 63 => ⟨S1x16384, .i1⟩
  | 64 => ⟨S_, .i32⟩
  | 65 => ⟨S_, .i1⟩
  | 66 => ⟨S1x16384, .i1⟩
  | 67 => ⟨S1x16384, .i1⟩
  | 68 => ⟨S1x16384, .i1⟩
  | 69 => ⟨S1x16384, .i32⟩
  | 70 => ⟨S1x16384, .i32⟩
  | 71 => ⟨S1x16384, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x16384, .i32⟩
  | 95 => ⟨S256x16384, .i32⟩
  | 96 => ⟨S256x16384, .i1⟩
  | 97 => ⟨S256x16384, .i1⟩
  | 98 => ⟨S1x8x256x16384, .f32⟩
  | 99 => ⟨S_, .f32⟩
  | 100 => ⟨S1x8x256x16384, .f32⟩
  | 101 => ⟨S1x8x256x16384, .f32⟩
  | 102 => ⟨S1x1x256x16384, .i1⟩
  | 103 => ⟨S_, .f32⟩
  | 104 => ⟨S_, .f32⟩
  | 105 => ⟨S1x8x256x16384, .i1⟩
  | 106 => ⟨S1x8x256x16384, .f32⟩
  | 107 => ⟨S1x8x256x16384, .f32⟩
  | 108 => ⟨S_, .f32⟩
  | 109 => ⟨S1x8x256, .f32⟩
  | 110 => ⟨S1x8x256x1, .f32⟩
  | 111 => ⟨S1x8x256x16384, .f32⟩
  | 112 => ⟨S1x8x256x16384, .f32⟩
  | 113 => ⟨S1x8x256x16384, .f32⟩
  | 114 => ⟨S_, .i1⟩
  | 115 => ⟨S256, .i1⟩
  | 116 => ⟨S1x1x256x1, .i1⟩
  | 117 => ⟨S_, .f32⟩
  | 118 => ⟨S1x8x256, .f32⟩
  | 119 => ⟨S1x8x256x1, .f32⟩
  | 120 => ⟨S_, .f32⟩
  | 121 => ⟨S_, .f32⟩
  | 122 => ⟨S1x8x256x1, .i1⟩
  | 123 => ⟨S1x8x256x1, .f32⟩
  | 124 => ⟨S1x8x256x1, .f32⟩
  | 125 => ⟨S1x8x256x16384, .f32⟩
  | 126 => ⟨S1x8x256x16384, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x8x256x16384, .i1⟩
  | 3 => ⟨S1x8x256x16384, .f32⟩
  | 4 => ⟨S1x8x256x16384, .f32⟩
  | 5 => ⟨S1x8x128x256, .f32⟩
  | 6 => ⟨S1x256x8x128, .f32⟩
  | 7 => ⟨S1x256x1024, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Vals.lean ====
/- The values the kernel computes, named: per device, query block and head the running maximum, the sum of
   weights and the weighted sum of values over the device's own keys; the contents of every scratch buffer once
   it is filled; the attention output of a query block after the exchange, and the result's staging buffer. -/
module

public import proofs.«01_k».proof.Proof.Gen.KernelIdeal
public import proofs.«01_k».proof.Proof.Gen.KernelIdeal.Skeleton
public import proofs.«01_k».proof.Proof.Gen.KernelIdeal.Points
public import Idealize.ShloMosaic.Lib.ValueLayout

@[expose] public section

set_option maxRecDepth 16384

noncomputable section

namespace Cert.AttnProof

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ)

/-! ## What the device reads from its arguments -/

/-- The activations and the query weights as the pipeline stages them. -/
def xV (c : Dev nD) : (cc0_stg0_0 : Ref sig .tc).ty.Contents (Elt F) :=
  (win0_0.blk (0 : Fin 1)).view.read (Elt F) (m ((c : Thread nD τ).loc main_arg0))
def wqV (c : Dev nD) : (cc0_stg1_0 : Ref sig .tc).ty.Contents (Elt F) :=
  (win0_1.blk (0 : Fin 1)).view.read (Elt F) (m ((c : Thread nD τ).loc main_arg1))

/-- The device's shard of the keys, of the values, and the output weights. -/
def kBuf (c : Dev nD) : (cc0_scratch6 : Ref sig .tc).ty.Contents (Elt F) := m ((c : Thread nD τ).loc main_arg2)
def vBuf (c : Dev nD) : (cc0_scratch7 : Ref sig .tc).ty.Contents (Elt F) := m ((c : Thread nD τ).loc main_arg3)
def woBuf (c : Dev nD) : (cc0_scratch8 : Ref sig .tc).ty.Contents (Elt F) := m ((c : Thread nD τ).loc main_arg4)

theorem inb_half : ∀ b : Fin 2, ∀ a, (![0, 2048 * b.val, 0, 0] : Fin 4 → ℕ) a + S1x2048x8x128.size a ≤ S1x4096x8x128.size a := by decide

/-- Half `b` of the shard's rows. -/
abbrev halfR (b : Fin 2) : Rect S1x4096x8x128 := Rect.unit (s := S1x4096x8x128) ![0, 2048 * b.val, 0, 0] S1x2048x8x128.size (inb_half b)

def kH (c : Dev nD) (b : Fin 2) : Vec F S1x2048x8x128 .f32 := (Memref.whole cc0_scratch6).view.readAt (Elt F) (halfR b).toLoadRect (kBuf m c)
def vH (c : Dev nD) (b : Fin 2) : Vec F S1x2048x8x128 .f32 := (Memref.whole cc0_scratch7).view.readAt (Elt F) (halfR b).toLoadRect (vBuf m c)

/-! ## One chunk of keys against one query block -/

theorem sl_q : ∀ q : Fin 4, S256x1024.Slices ![64 * q.val, 0] S64x1024 := by decide
theorem sl_sel : ∀ (q : Fin 4) (t : Fin 8), S2048x1024.Slices ![64 * q.val + 256 * t.val, 0] S64x1024 := by decide
theorem sl_qh : ∀ h : Fin 8, S64x1024.Slices ![0, 128 * h.val] S64x128 := by decide
theorem sl_kh : ∀ h : Fin 8, S512x1024.Slices ![0, 128 * h.val] S512x128 := by decide

/-- The projected queries of block `q`. -/
def qB (c : Dev nD) (q : Fin 4) : FVec F S64x1024 .bf16 :=
  truncf .bf16 (extractStridedSlice S64x1024 ![64 * q.val, 0] (k0_pay1 (xV m c) (wqV m c)) (sl_q q)) bitsLt_bf16_f32

/-- The eight key blocks of a chunk whose number is `q` modulo 4, stacked. -/
def sel (f : FVec F S2048x1024 .f32) (q : Fin 4) : FVec F S512x1024 .bf16 :=
  concatenate S512x1024 0
    [⟨S64x1024, truncf .bf16 (extractStridedSlice S64x1024 ![64 * q.val + 256 * (0 : Fin 8).val, 0] f (sl_sel q 0)) bitsLt_bf16_f32⟩,
     ⟨S64x1024, truncf .bf16 (extractStridedSlice S64x1024 ![64 * q.val + 256 * (1 : Fin 8).val, 0] f (sl_sel q 1)) bitsLt_bf16_f32⟩,
     ⟨S64x1024, truncf .bf16 (extractStridedSlice S64x1024 ![64 * q.val + 256 * (2 : Fin 8).val, 0] f (sl_sel q 2)) bitsLt_bf16_f32⟩,
     ⟨S64x1024, truncf .bf16 (extractStridedSlice S64x1024 ![64 * q.val + 256 * (3 : Fin 8).val, 0] f (sl_sel q 3)) bitsLt_bf16_f32⟩,
     ⟨S64x1024, truncf .bf16 (extractStridedSlice S64x1024 ![64 * q.val + 256 * (4 : Fin 8).val, 0] f (sl_sel q 4)) bitsLt_bf16_f32⟩,
     ⟨S64x1024, truncf .bf16 (extractStridedSlice S64x1024 ![64 * q.val + 256 * (5 : Fin 8).val, 0] f (sl_sel q 5)) bitsLt_bf16_f32⟩,
     ⟨S64x1024, truncf .bf16 (extractStridedSlice S64x1024 ![64 * q.val + 256 * (6 : Fin 8).val, 0] f (sl_sel q 6)) bitsLt_bf16_f32⟩,
     ⟨S64x1024, truncf .bf16 (extractStridedSlice S64x1024 ![64 * q.val + 256 * (7 : Fin 8).val, 0] f (sl_sel q 7)) bitsLt_bf16_f32⟩]
    concatenates_S64x1024_S64x1024_S64x1024_S64x1024_S64x1024_S64x1024_S64x1024_S64x1024_S512x1024_d0

/-- Scores of head `h`: queries against the selected keys, scaled. -/
def sP (qv : FVec F S64x1024 .bf16) (ks : FVec F S512x1024 .bf16) (h : Fin 8) : FVec F S64x512 .f32 :=
  mulf (matmul dot_S64x128_S512x128_S64x512_1_1_0_0_n_n none (extractStridedSlice S64x128 ![0, 128 * h.val] qv (sl_qh h))
      (extractStridedSlice S512x128 ![0, 128 * h.val] ks (sl_kh h)) (constant S64x512 .f32 0x00000000#32))
    (broadcast S64x512 (Scalar.ofBits .f32 0x3DB504F3#32))

/-- Row maximum, weights, their sum, and the weighted values. -/
def mP (s : FVec F S64x512 .f32) : FVec F S64 .f32 :=
  multiReduction .maximumf [1] S64 s 0xFF800000#32 reduces_S64x512_S64 (.inl rfl) rfl
def wP (s : FVec F S64x512 .f32) : FVec F S64x512 .f32 :=
  exp (subf s (broadcastTo S64x512 (shapeCast S64x1 (mP s) shapeCasts_S64_S64x1) broadcasts_S64x1_S64x512))
def lP (s : FVec F S64x512 .f32) : FVec F S64 .f32 :=
  multiReduction .add [1] S64 (wP s) 0x00000000#32 reduces_S64x512_S64 (.inl rfl) rfl
def oP (s : FVec F S64x512 .f32) (vs : FVec F S512x1024 .bf16) (h : Fin 8) : FVec F S64x128 .f32 :=
  matmul dot_S64x512_S512x128_S64x128_1_0_0_1_n_n none (truncf .bf16 (wP s) bitsLt_bf16_f32)
    (extractStridedSlice S512x128 ![0, 128 * h.val] vs (sl_kh h)) (constant S64x128 .f32 0x00000000#32)

def bcC (v : FVec F S64 .f32) : FVec F S64x128 .f32 :=
  broadcastTo S64x128 (shapeCast S64x1 v shapeCasts_S64_S64x1) broadcasts_S64x1_S64x128

/-! ## The device's two chunks together -/

/-- Scores of chunk `b`, query block `q`, head `h` on device `c`. -/
def sC (c : Dev nD) (b : Fin 2) (q : Fin 4) (h : Fin 8) : FVec F S64x512 .f32 :=
  sP (qB m c q) (sel (k0_pay6 (kH m c b)) q) h
def mC (c : Dev nD) (b : Fin 2) (q : Fin 4) (h : Fin 8) : FVec F S64 .f32 := mP (sC m c b q h)
def lC (c : Dev nD) (b : Fin 2) (q : Fin 4) (h : Fin 8) : FVec F S64 .f32 := lP (sC m c b q h)
def oC (c : Dev nD) (b : Fin 2) (q : Fin 4) (h : Fin 8) : FVec F S64x128 .f32 := oP (sC m c b q h) (sel (k0_pay7 (vH m c b)) q) h

/-- The maximum over both chunks; the sum and the weighted values rescaled to it. -/
def mT (c : Dev nD) (q : Fin 4) (h : Fin 8) : FVec F S64 .f32 := maximumf (mC m c 0 q h) (mC m c 1 q h)
def lT (c : Dev nD) (q : Fin 4) (h : Fin 8) : FVec F S64 .f32 :=
  addf (mulf (lC m c 0 q h) (exp (subf (mC m c 0 q h) (mT m c q h)))) (mulf (lC m c 1 q h) (exp (subf (mC m c 1 q h) (mT m c q h))))
def oT (c : Dev nD) (q : Fin 4) (h : Fin 8) : FVec F S64x128 .f32 :=
  addf (mulf (oC m c 0 q h) (bcC (exp (subf (mC m c 0 q h) (mT m c q h))))) (mulf (oC m c 1 q h) (bcC (exp (subf (mC m c 1 q h) (mT m c q h)))))
/-- The weighted values in the format they travel in. -/
def oB (c : Dev nD) (q : Fin 4) (h : Fin 8) : FVec F S64x128 .bf16 := truncf .bf16 (oT m c q h) bitsLt_bf16_f32

/-! ## The filled buffers -/

/-- The device's own weighted values, 64 rows per query block and head. -/
def bufO (c : Dev nD) : (cc0_scratch0 : Ref sig .tc).ty.Contents (Elt F) := fun i : S2048x128.Idx =>
  oB m c ⟨(i 0).val / 512, by have := (i 0).isLt; exact Nat.div_lt_of_lt_mul this⟩ ⟨(i 0).val % 512 / 64, Nat.div_lt_of_lt_mul (Nat.mod_lt _ (by decide))⟩
    (ix2 ⟨(i 0).val % 64, Nat.mod_lt _ (by decide)⟩ (i 1))
/-- The device's own maxima (rows 0 to 7 of each query block) and sums (rows 8 to 15). -/
def bufML (c : Dev nD) : (cc0_scratch1 : Ref sig .tc).ty.Contents (Elt F) := fun i : S4x16x64.Idx =>
  if (i 1).val < 8 then mT m c (i 0) ⟨(i 1).val % 8, Nat.mod_lt _ (by decide)⟩ (ix1 (i 2))
  else lT m c (i 0) ⟨(i 1).val % 8, Nat.mod_lt _ (by decide)⟩ (ix1 (i 2))
/-- What device `c` receives: from each peer that peer's block for query block `c`. -/
def recvO (c : Dev nD) : (cc0_scratch2 : Ref sig .tc).ty.Contents (Elt F) := fun i : S4x512x128.Idx =>
  oB m (i 0) c ⟨(i 1).val / 64, by have := (i 1).isLt; exact Nat.div_lt_of_lt_mul this⟩ (ix2 ⟨(i 1).val % 64, Nat.mod_lt _ (by decide)⟩ (i 2))
def recvML (c : Dev nD) : (cc0_scratch3 : Ref sig .tc).ty.Contents (Elt F) := fun i : S4x16x64.Idx =>
  if (i 1).val < 8 then mT m (i 0) c ⟨(i 1).val % 8, Nat.mod_lt _ (by decide)⟩ (ix1 (i 2))
  else lT m (i 0) c ⟨(i 1).val % 8, Nat.mod_lt _ (by decide)⟩ (ix1 (i 2))

/-! ## The four devices together -/

set_option backward.proofsInPublic true in
/-- The device `j` places after `c`. -/
def nx (c : Dev nD) (j : ℕ) : Dev nD := ⟨(c.val + j) % 4, Nat.mod_lt _ (by decide)⟩

/-- A tile of maxima, of sums, of weighted values as a load delivers it. -/
def ldM (p : Dev nD) (q : Fin 4) (h : Fin 8) : Vec F S1x1x64 .f32 := fun i => mT m p q h (ix1 (i 2))
def ldL (p : Dev nD) (q : Fin 4) (h : Fin 8) : Vec F S1x1x64 .f32 := fun i => lT m p q h (ix1 (i 2))
def ldO (p : Dev nD) (q : Fin 4) (h : Fin 8) : Vec F S1x64x128 .bf16 := fun i => oB m p q h (ix2 (i 1) (i 2))

/-- The overall maximum of head `h` of device `c`'s query block. -/
def mA (c : Dev nD) (h : Fin 8) : FVec F S64 .f32 :=
  maximumf (maximumf (shapeCast S64 (ldM m c c h) shapeCasts_S1x1x64_S64) (shapeCast S64 (ldM m (nx c 1) c h) shapeCasts_S1x1x64_S64))
    (maximumf (shapeCast S64 (ldM m (nx c 2) c h) shapeCasts_S1x1x64_S64) (shapeCast S64 (ldM m (nx c 3) c h) shapeCasts_S1x1x64_S64))
/-- The factor rescaling device `p`'s share to that maximum. -/
def eA (c p : Dev nD) (h : Fin 8) : FVec F S64 .f32 := exp (subf (shapeCast S64 (ldM m p c h) shapeCasts_S1x1x64_S64) (mA m c h))
def dA (c p : Dev nD) (h : Fin 8) : FVec F S64 .f32 := mulf (eA m c p h) (shapeCast S64 (ldL m p c h) shapeCasts_S1x1x64_S64)
def nA (c p : Dev nD) (h : Fin 8) : FVec F S64x128 .f32 :=
  mulf (bcC (eA m c p h)) (extf .f32 (shapeCast S64x128 (ldO m p c h) shapeCasts_S1x64x128_S64x128) bitsLt_bf16_f32)
/-- The own share, whose weighted values are loaded without the leading axis. -/
def nO (c : Dev nD) (h : Fin 8) : FVec F S64x128 .f32 := mulf (bcC (eA m c c h)) (extf .f32 (oB m c c h) bitsLt_bf16_f32)
/-- The attention output of head `h`. -/
def ctxA (c : Dev nD) (h : Fin 8) : FVec F S64x128 .f32 :=
  divf (addf (addf (addf (addf (broadcast S64x128 (Scalar.ofBits .f32 0x00000000#32)) (nO m c h)) (nA m c (nx c 1) h)) (nA m c (nx c 2) h)) (nA m c (nx c 3) h))
    (bcC (addf (addf (addf (addf (broadcast S64 (Scalar.ofBits .f32 0x00000000#32)) (dA m c c h)) (dA m c (nx c 1) h)) (dA m c (nx c 2) h)) (dA m c (nx c 3) h)))

/-- The projected output of device `c`'s query block. -/
def outQ (c : Dev nD) : FVec F S64x1024 .f32 :=
  matmul dot_S64x1024_S1024x1024_S64x1024_1_0_0_1_n_n none
    (truncf .bf16 (concatenate S64x1024 1 [⟨S64x128, ctxA m c 0⟩, ⟨S64x128, ctxA m c 1⟩, ⟨S64x128, ctxA m c 2⟩, ⟨S64x128, ctxA m c 3⟩,
      ⟨S64x128, ctxA m c 4⟩, ⟨S64x128, ctxA m c 5⟩, ⟨S64x128, ctxA m c 6⟩, ⟨S64x128, ctxA m c 7⟩]
      concatenates_S64x128_S64x128_S64x128_S64x128_S64x128_S64x128_S64x128_S64x128_S64x1024_d1) bitsLt_bf16_f32)
    (truncf .bf16 (woBuf m c : FVec F S1024x1024 .f32) bitsLt_bf16_f32) (constant S64x1024 .f32 0x00000000#32)

/-- The same in the format it travels in; what a device receives of it. -/
def outS (c : Dev nD) : (cc0_scratch4 : Ref sig .tc).ty.Contents (Elt F) := (truncf .bf16 (outQ m c) bitsLt_bf16_f32 : FVec F S64x1024 .bf16)
def outR (c : Dev nD) : (cc0_scratch5 : Ref sig .tc).ty.Contents (Elt F) := fun i : S4x64x1024.Idx => (outS m (i 0) : FVec F S64x1024 .bf16) (ix2 (i 1) (i 2))

/-- The result of device `c`: its own rows as computed, the other rows as received. -/
def outW (c : Dev nD) : (cc0_stg2_0 : Ref sig .tc).ty.Contents (Elt F) := fun i : S1x256x1024.Idx =>
  if (i 1).val / 64 = c.val then outQ m c (ix2 ⟨(i 1).val % 64, Nat.mod_lt _ (by decide)⟩ (i 2))
  else (extf .f32 (outS m (⟨(i 1).val / 64, by have := (i 1).isLt; exact Nat.div_lt_of_lt_mul this⟩ : Dev nD) : FVec F S64x1024 .bf16) bitsLt_bf16_f32 : FVec F S64x1024 .f32)
    (ix2 ⟨(i 1).val % 64, Nat.mod_lt _ (by decide)⟩ (i 2))

end Cert.AttnProof
end
-- ==== Proof.Cells.lean ====
/- The semaphores of the kernel as cells with one round each: who credits a cell, by how much, and what it hands
   over with the credit; what each device owes its peers at launch; and the order the waits go in. -/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: given contents, every counter zero, given generator registers. -/
def s₀ : MemSt nD τ sig (Elt F) := ⟨m, fun _ => 0, ρ⟩

/-! ## The cells -/

/-- A device's semaphores: the barrier; the copies of the keys and values (array `a`, half `b`) and of the output
    weights; and for each kind of transfer the sending and the receiving side. -/
inductive Ck where
  | bar
  | kv (a b : Fin 2)
  | wo
  | so (q : Dev nD)
  | ro (p : Dev nD)
  | sml (q : Dev nD)
  | rml (p : Dev nD)
  | sout (j : Fin 3)
  | rout (p : Dev nD)
deriving DecidableEq

abbrev ckList : List Ck :=
  [.bar, .kv 0 0, .kv 0 1, .kv 1 0, .kv 1 1, .wo, .so 0, .so 1, .so 2, .so 3, .ro 0, .ro 1, .ro 2, .ro 3,
   .sml 0, .sml 1, .sml 2, .sml 3, .rml 0, .rml 1, .rml 2, .rml 3, .sout 0, .sout 1, .sout 2, .rout 0, .rout 1, .rout 2, .rout 3]

theorem ckList_nodup : ckList.Nodup := by decide
theorem mem_ckList (k : Ck) : k ∈ ckList := by
  cases k with
  | bar => decide
  | kv a b => revert a b; decide
  | wo => decide
  | so q => revert q; decide
  | ro q => revert q; decide
  | sml q => revert q; decide
  | rml q => revert q; decide
  | sout q => revert q; decide
  | rout q => revert q; decide

instance : Fintype Ck := ⟨⟨ckList, ckList_nodup⟩, mem_ckList⟩

/-- The barrier semaphore. -/
abbrev barS : Sem sig := (SemArray.scalar (sig.barrier 0 rfl) : Sems sig S_).sem

theorem inb4 : ∀ q : Fin 4, ∀ a, (![q.val] : Fin 1 → ℕ) a + S1.size a ≤ S4.size a := by decide
theorem inb3 : ∀ q : Fin 3, ∀ a, (![q.val] : Fin 1 → ℕ) a + S1.size a ≤ S3.size a := by decide
theorem inb22 : ∀ a b : Fin 2, ∀ x, (![a.val, b.val] : Fin 2 → ℕ) x + S1x1.size x ≤ S2x2.size x := by decide

/-- Entry `q` of an array of four semaphores, of three, of two by two. -/
abbrev at4 (A : DmaSems sig S4) (q : Fin 4) : DmaSem sig := ((A.slice (Rect.unit (s := S4) ![q.val] S1.size (inb4 q))).squeeze S_ squeezes_S1_S_).sem
abbrev at3 (A : DmaSems sig S3) (q : Fin 3) : DmaSem sig := ((A.slice (Rect.unit (s := S3) ![q.val] S1.size (inb3 q))).squeeze S_ squeezes_S1_S_).sem
abbrev at22 (A : DmaSems sig S2x2) (a b : Fin 2) : DmaSem sig :=
  ((A.slice (Rect.unit (s := S2x2) ![a.val, b.val] S1x1.size (inb22 a b))).squeeze S_ squeezes_S1x1_S_).sem

/-- The semaphore of each kind. -/
def csem : Ck → SemLoc sig
  | .bar => .reg barS
  | .kv a b => .dma (at22 cc0_scratch9 a b)
  | .wo => .dma cc0_scratch10.sem
  | .so q => .dma (at4 cc0_scratch11 q)
  | .ro p => .dma (at4 cc0_scratch12 p)
  | .sml q => .dma (at4 cc0_scratch13 q)
  | .rml p => .dma (at4 cc0_scratch14 p)
  | .sout j => .dma (at3 cc0_scratch15 j)
  | .rout p => .dma (at4 cc0_scratch16 p)

/-- Which kind a semaphore is. -/
def kindOf (s : SemLoc sig) : Option Ck := ckList.find? fun k => csem k = s

theorem kindOf_csem : ∀ k : Ck, kindOf (csem k) = some k := by decide

theorem csem_inj : Function.Injective csem := fun a b h => by
  have := kindOf_csem a; rw [h, kindOf_csem b] at this; exact (Option.some.inj this).symm

abbrev kcell (ck : Dev nD × Ck) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : csem k = csem k' := congrArg (fun g : GSem nD τ sig => g.2) h
  rw [h1, csem_inj h2]

/-- How much one transfer credits its semaphore: half the keys, the output weights, a block of weighted values, of maxima
    and sums, of output rows. -/
def nKV : ℕ := (cc0_scratch6 : Ref sig .tc).dmaCredit S2048x8x128 .f32
def nW : ℕ := (cc0_scratch8 : Ref sig .tc).dmaCredit S1024x1024 .f32
def nOb : ℕ := (cc0_scratch2 : Ref sig .tc).dmaCredit S512x128 .bf16
def nML : ℕ := (cc0_scratch3 : Ref sig .tc).dmaCredit S16x64 .f32
def nT : ℕ := (cc0_scratch5 : Ref sig .tc).dmaCredit S64x1024 .bf16

theorem nKV_pos : 0 < nKV := View.dmaCredit_pos (View.whole cc0_scratch6 |>.slice (halfR 0) |>.reshape S2048x8x128 squeezes_S1x2048x8x128_S2048x8x128.numel_eq) (by decide)
theorem nW_pos : 0 < nW := View.dmaCredit_pos (View.whole cc0_scratch8) (by decide)
theorem nOb_pos : 0 < nOb := by decide
theorem nML_pos : 0 < nML := by decide
theorem nT_pos : 0 < nT := by decide

def amt : Ck → ℕ
  | .bar => 1
  | .kv _ _ => nKV
  | .wo => nW
  | .so _ => nOb
  | .ro _ => nOb
  | .sml _ => nML
  | .rml _ => nML
  | .sout _ => nT
  | .rout _ => nT

theorem amt_pos (k : Ck) : 0 < amt k := by
  cases k with
  | bar => exact Nat.one_pos
  | kv a b => exact nKV_pos
  | wo => exact nW_pos
  | so q => exact nOb_pos
  | ro q => exact nOb_pos
  | sml q => exact nML_pos
  | rml q => exact nML_pos
  | sout q => exact nT_pos
  | rout q => exact nT_pos

/-- Who credits device `c`'s cell of each kind. -/
def payers (c : Dev nD) : Ck → Finset (Dev nD)
  | .bar => Finset.univ.erase c
  | .kv _ _ => {c}
  | .wo => {c}
  | .so q => if q = c then ∅ else {c}
  | .ro p => if p = c then ∅ else {p}
  | .sml q => if q = c then ∅ else {c}
  | .rml p => if p = c then ∅ else {p}
  | .sout _ => {c}
  | .rout p => if p = c then ∅ else {p}

/-! ## The slabs -/

theorem inb_o : ∀ q : Fin 4, ∀ a, (![512 * q.val, 0] : Fin 2 → ℕ) a + S512x128.size a ≤ S2048x128.size a := by decide
theorem inb_ml : ∀ q : Fin 4, ∀ a, (![q.val, 0, 0] : Fin 3 → ℕ) a + S1x16x64.size a ≤ S4x16x64.size a := by decide
theorem inb_ro : ∀ q : Fin 4, ∀ a, (![q.val, 0, 0] : Fin 3 → ℕ) a + S1x512x128.size a ≤ S4x512x128.size a := by decide
theorem inb_rt : ∀ q : Fin 4, ∀ a, (![q.val, 0, 0] : Fin 3 → ℕ) a + S1x64x1024.size a ≤ S4x64x1024.size a := by decide

abbrev oR (q : Fin 4) : Rect S2048x128 := Rect.unit (s := S2048x128) ![512 * q.val, 0] S512x128.size (inb_o q)
abbrev mlR (q : Fin 4) : Rect S4x16x64 := Rect.unit (s := S4x16x64) ![q.val, 0, 0] S1x16x64.size (inb_ml q)
abbrev roR (q : Fin 4) : Rect S4x512x128 := Rect.unit (s := S4x512x128) ![q.val, 0, 0] S1x512x128.size (inb_ro q)
abbrev rtR (q : Fin 4) : Rect S4x64x1024 := Rect.unit (s := S4x64x1024) ![q.val, 0, 0] S1x64x1024.size (inb_rt q)

/-- A slab of each scratch buffer of device `c` at the contents `f` of the whole buffer. -/
def oPt (c q : Dev nD) (f : (cc0_scratch0 : Ref sig .tc).ty.Contents (Elt F)) : sProp 𝕄 :=
  ((c : Thread nD τ).loc cc0_scratch0) ↦[((oR q).set : Finset S2048x128.Idx)]{fullShare} f
def mlPt (c q : Dev nD) (f : (cc0_scratch1 : Ref sig .tc).ty.Contents (Elt F)) : sProp 𝕄 :=
  ((c : Thread nD τ).loc cc0_scratch1) ↦[((mlR q).set : Finset S4x16x64.Idx)]{fullShare} f
def roPt (c q : Dev nD) (f : (cc0_scratch2 : Ref sig .tc).ty.Contents (Elt F)) : sProp 𝕄 :=
  ((c : Thread nD τ).loc cc0_scratch2) ↦[((roR q).set : Finset S4x512x128.Idx)]{fullShare} f
def rmlPt (c q : Dev nD) (f : (cc0_scratch3 : Ref sig .tc).ty.Contents (Elt F)) : sProp 𝕄 :=
  ((c : Thread nD τ).loc cc0_scratch3) ↦[((mlR q).set : Finset S4x16x64.Idx)]{fullShare} f
def rtPt (c q : Dev nD) (f : (cc0_scratch5 : Ref sig .tc).ty.Contents (Elt F)) : sProp 𝕄 :=
  ((c : Thread nD τ).loc cc0_scratch5) ↦[((rtR q).set : Finset S4x64x1024.Idx)]{fullShare} f
def kPt (c : Dev nD) (b : Fin 2) (f : (cc0_scratch6 : Ref sig .tc).ty.Contents (Elt F)) : sProp 𝕄 :=
  ((c : Thread nD τ).loc cc0_scratch6) ↦[((halfR b).set : Finset S1x4096x8x128.Idx)]{fullShare} f
def vPt (c : Dev nD) (b : Fin 2) (f : (cc0_scratch7 : Ref sig .tc).ty.Contents (Elt F)) : sProp 𝕄 :=
  ((c : Thread nD τ).loc cc0_scratch7) ↦[((halfR b).set : Finset S1x4096x8x128.Idx)]{fullShare} f
/-- Half `b` of the device's keys and values in main memory, at the launch contents. -/
def kSrc (c : Dev nD) (b : Fin 2) : sProp 𝕄 :=
  ((c : Thread nD τ).loc main_arg2) ↦[((halfR b).set : Finset S1x4096x8x128.Idx)]{fullShare} m ((c : Thread nD τ).loc main_arg2)
def vSrc (c : Dev nD) (b : Fin 2) : sProp 𝕄 :=
  ((c : Thread nD τ).loc main_arg3) ↦[((halfR b).set : Finset S1x4096x8x128.Idx)]{fullShare} m ((c : Thread nD τ).loc main_arg3)
def wPt (c : Dev nD) (f : (cc0_scratch8 : Ref sig .tc).ty.Contents (Elt F)) : sProp 𝕄 := ((c : Thread nD τ).loc cc0_scratch8) ↦{fullShare} f
def wSrc (c : Dev nD) : sProp 𝕄 := ((c : Thread nD τ).loc main_arg4) ↦{fullShare} m ((c : Thread nD τ).loc main_arg4)
/-- The three shares of the block that is sent to all three peers at once. -/
def shr : Fin 3 → PosShare TreeShare
  | 0 => fullShare.left
  | 1 => fullShare.right.left
  | 2 => fullShare.right.right
def sPt (c : Dev nD) (q : PosShare TreeShare) (f : (cc0_scratch4 : Ref sig .tc).ty.Contents (Elt F)) : sProp 𝕄 := ((c : Thread nD τ).loc cc0_scratch4) ↦{q} f

omit [FloatOps F] in
instance (c q : Dev nD) (f) : BI.Storable (upEmb : UEmb _ 𝕄) (oPt (F := F) c q f) := by unfold oPt; infer_instance
omit [FloatOps F] in
instance (c q : Dev nD) (f) : BI.Storable (upEmb : UEmb _ 𝕄) (mlPt (F := F) c q f) := by unfold mlPt; infer_instance
omit [FloatOps F] in
instance (c q : Dev nD) (f) : BI.Storable (upEmb : UEmb _ 𝕄) (roPt (F := F) c q f) := by unfold roPt; infer_instance
omit [FloatOps F] in
instance (c q : Dev nD) (f) : BI.Storable (upEmb : UEmb _ 𝕄) (rmlPt (F := F) c q f) := by unfold rmlPt; infer_instance
omit [FloatOps F] in
instance (c q : Dev nD) (f) : BI.Storable (upEmb : UEmb _ 𝕄) (rtPt (F := F) c q f) := by unfold rtPt; infer_instance
omit [FloatOps F] in
instance (c : Dev nD) (b f) : BI.Storable (upEmb : UEmb _ 𝕄) (kPt (F := F) c b f) := by unfold kPt; infer_instance
omit [FloatOps F] in
instance (c : Dev nD) (b f) : BI.Storable (upEmb : UEmb _ 𝕄) (vPt (F := F) c b f) := by unfold vPt; infer_instance
omit [FloatOps F] in
instance (c : Dev nD) (b) : BI.Storable (upEmb : UEmb _ 𝕄) (kSrc (F := F) m c b) := by unfold kSrc; infer_instance
omit [FloatOps F] in
instance (c : Dev nD) (b) : BI.Storable (upEmb : UEmb _ 𝕄) (vSrc (F := F) m c b) := by unfold vSrc; infer_instance
omit [FloatOps F] in
instance (c : Dev nD) (f) : BI.Storable (upEmb : UEmb _ 𝕄) (wPt (F := F) c f) := by unfold wPt; infer_instance
omit [FloatOps F] in
instance (c : Dev nD) : BI.Storable (upEmb : UEmb _ 𝕄) (wSrc (F := F) m c) := by unfold wSrc; infer_instance
omit [FloatOps F] in
instance (c : Dev nD) (q f) : BI.Storable (upEmb : UEmb _ 𝕄) (sPt (F := F) c q f) := by unfold sPt; infer_instance

/-! ## The schedule -/

/-- What the barrier signal from `d` hands device `c`: the slabs of `d` that `c` is to write into. -/
def barPayA (c d : Dev nD) : sProp 𝕄 := iprop((∃ f, roPt (F := F) d c f) ∗ (∃ f, rmlPt (F := F) d c f))
def barPayB (c d : Dev nD) : sProp 𝕄 := iprop(∃ f, rtPt (F := F) d c f)

/-- What the credit of device `c`'s cell from `d` hands over: for a receiving side the slab filled with what `d` sent, for
    a sending side the slab sent, for a local copy both ends. -/
def payOf (c d : Dev nD) : Ck → sProp 𝕄
  | .bar => iprop(barPayA (F := F) c d ∗ barPayB (F := F) c d)
  | .kv a b => if a = 0 then iprop(kPt (F := F) c b (kBuf m c) ∗ kSrc (F := F) m c b) else iprop(vPt (F := F) c b (vBuf m c) ∗ vSrc (F := F) m c b)
  | .wo => iprop(wPt (F := F) c (woBuf m c) ∗ wSrc (F := F) m c)
  | .so q => oPt (F := F) c q (bufO m c)
  | .ro p => roPt (F := F) c p (recvO m c)
  | .sml q => mlPt (F := F) c q (bufML m c)
  | .rml p => rmlPt (F := F) c p (recvML m c)
  | .sout j => sPt (F := F) c (shr j) (outS m c)
  | .rout p => rtPt (F := F) c p (outR m c)

instance payOf_storable (c d : Dev nD) (k : Ck) : BI.Storable (upEmb : UEmb _ 𝕄) (payOf (F := F) m c d k) := by
  cases k with
  | kv a b => dsimp only [payOf]; split <;> infer_instance
  | bar => dsimp only [payOf, barPayA, barPayB]; infer_instance
  | _ => dsimp only [payOf]; infer_instance

/-- One round per cell. -/
def rd : Rounds.Schedule (GSem nD τ sig) (Dev nD) 𝕄 where
  duties g r := if r = 0 ∧ g.1.2 = .tc then (kindOf g.2).elim ∅ (payers g.1.1) else ∅
  unitless _ := False
  amount g _ _ := (kindOf g.2).elim 1 amt
  payload g _ d := (kindOf g.2).elim iprop(emp) (payOf (F := F) m g.1.1 d)
  amount_pos g _ _ _ := by
    cases kindOf g.2 with
    | none => exact Nat.one_pos
    | some k => exact amt_pos k

instance rd_storable (g : GSem nD τ sig) (r : ℕ) (d : Dev nD) : BI.Storable (upEmb : UEmb _ 𝕄) ((rd (F := F) m).payload g r d) := by
  show BI.Storable upEmb ((kindOf g.2).elim iprop(emp) (payOf (F := F) m g.1.1 d))
  cases kindOf g.2 with
  | none => dsimp only [Option.elim]; infer_instance
  | some k => dsimp only [Option.elim]; infer_instance

theorem duties_eq (c : Dev nD) (k : Ck) : (rd (F := F) m).duties (kcell (c, k)) 0 = payers c k := by
  dsimp only [rd]; rw [if_pos ⟨rfl, rfl⟩, kindOf_csem]; rfl
theorem duties_later (g : GSem nD τ sig) (r : ℕ) (hr : 1 ≤ r) : (rd (F := F) m).duties g r = ∅ := by
  dsimp only [rd]; rw [if_neg fun h => by omega]
theorem amount_eq (c : Dev nD) (k : Ck) (d : Dev nD) : (rd (F := F) m).amount (kcell (c, k)) 0 d = amt k := by
  dsimp only [rd]; rw [kindOf_csem]; rfl
theorem payload_eq (c : Dev nD) (k : Ck) (d : Dev nD) : (rd (F := F) m).payload (kcell (c, k)) 0 d = payOf (F := F) m c d k := by
  dsimp only [rd]; rw [kindOf_csem]; rfl
theorem expect_eq (c : Dev nD) (k : Ck) : (rd (F := F) m).expect (kcell (c, k)) 0 = (payers c k).card * amt k := by
  unfold Schedule.expect Schedule.amountOf
  rw [duties_eq, Finset.sum_congr rfl fun d _ => amount_eq m c k d, Finset.sum_const, smul_eq_mul]
/-- What a wait for the whole round hands over. -/
theorem rest_eq (c : Dev nD) (k : Ck) : bigSep ((rd (F := F) m).duties (kcell (c, k)) 0 \ ∅) (fun d => (rd (F := F) m).payload (kcell (c, k)) 0 d)
    = bigSep (payers c k) fun d => payOf (F := F) m c d k := by
  rw [Finset.sdiff_empty, duties_eq]
  exact congrArg (bigSep (payers c k)) (funext fun d => payload_eq m c k d)

/-! ## What a device owes, and the order of the waits -/

/-- The credits owed, cell by cell; the head is paid first. -/
def owed : List (Dev nD × Ck) → CellTallies nD τ sig Unit
  | [] => 0
  | x :: l => owed l + tallyAt (kcell x) () (amt x.2)

/-- The two transfers of query block `q`, unless the block is the device's own. -/
def oweQ (c q : Dev nD) : List (Dev nD × Ck) := if q = c then [] else [(q, .ro c), (q, .rml c)]
def oweT (c : Dev nD) : List (Dev nD × Ck) := [(nx c 1, .rout c), (nx c 2, .rout c), (nx c 3, .rout c)]
def oweS (c : Dev nD) : List (Dev nD × Ck) := oweQ c 0 ++ (oweQ c 1 ++ (oweQ c 2 ++ (oweQ c 3 ++ oweT c)))
def owe0 (c : Dev nD) : List (Dev nD × Ck) := (nx c 1, .bar) :: (nx c 2, .bar) :: (nx c 3, .bar) :: oweS c
def O₀ (c : Dev nD) : CellTallies nD τ sig Unit := owed (owe0 c)

theorem owed_kcell (l : List (Dev nD × Ck)) (x : Dev nD × Ck) : owed l (kcell x) () = l.count x * amt x.2 := by
  induction l with
  | nil => show (0 : CellTallies nD τ sig Unit) _ _ = _; rw [List.count_nil, Nat.zero_mul]; rfl
  | cons y l ih =>
    show (owed l + tallyAt (kcell y) () (amt y.2)) (kcell x) () = _
    rw [Pi.add_apply, Finsupp.add_apply, ih, tallyAt_apply, List.count_cons]
    by_cases h : y = x
    · subst h; rw [if_pos ⟨rfl, rfl⟩, if_pos (by simp), Nat.add_mul, Nat.one_mul]
    · rw [if_neg fun h' => h (kcell_inj h'.1).symm, if_neg (by simpa using h)]; rfl

theorem owed_pos {l : List (Dev nD × Ck)} {g : GSem nD τ sig} {u : Unit} (h : 0 < owed l g u) : ∃ x ∈ l, g = kcell x := by
  induction l with
  | nil => exact absurd h (Nat.lt_irrefl 0)
  | cons y l ih =>
    change 0 < (owed l + tallyAt (kcell y) () (amt y.2)) g u at h
    rw [Pi.add_apply, Finsupp.add_apply, tallyAt_apply] at h
    by_cases hy : g = kcell y
    · exact ⟨y, List.mem_cons_self, hy⟩
    · rw [if_neg fun h' => hy h'.1, Nat.add_zero] at h
      obtain ⟨x, hx, e⟩ := ih h
      exact ⟨x, List.mem_cons_of_mem _ hx, e⟩

/-- Every device's debts to one cell add up to the round of a cell its peers credit, and to nothing for the others. -/
theorem owe0_count : ∀ (c : Dev nD) (k : Ck), (∑ d : Dev nD, (owe0 d).count (c, k))
    = match k with | .bar => 3 | .ro p => if p = c then 0 else 1 | .rml p => if p = c then 0 else 1 | .rout p => if p = c then 0 else 1 | _ => 0 := by
  decide +kernel

def L (g : GSem nD τ sig) : Finset Unit := if g.1.2 = .tc then {()} else ∅
/-- The barrier is waited on before the attention blocks, those before the output rows. -/
def lvK : Ck → ℕ
  | .bar => 1
  | .ro _ => 2
  | .rml _ => 2
  | .rout _ => 3
  | _ => 0
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × Ck) : lv (kcell x) () = lvK x.2 := by dsimp only [lv]; rw [kindOf_csem]; rfl

omit [FloatOps F] in
/-- A device may wait on a semaphore below everything it still owes. -/
theorem mayWait_of (c : Dev nD) (sm : SemLoc sig) (l : List (Dev nD × Ck))
    (h : ∀ x ∈ l, lv ((c : Thread nD τ), sm) () < lvK x.2) :
    (levAts L lv : sProp 𝕄) ⊢ MayWait (c : Thread nD τ) sm () (owed l) :=
  MayOwe.of_cut (L := L) (lev := lv) (lv ((c : Thread nD τ), sm) ())
    (fun p hp => by rw [Finset.mem_singleton.mp hp, L_tc]; exact Finset.mem_singleton_self _)
    (fun g u hg => by obtain ⟨x, hx, rfl⟩ := owed_pos hg; rw [L_tc]; exact Finset.mem_singleton_self _)
    (fun p hp => by rw [Finset.mem_singleton.mp hp])
    (fun g u hg => by obtain ⟨x, hx, rfl⟩ := owed_pos hg; rw [show u = () from rfl, lv_kcell]; exact h x hx)

theorem lev_oweT : ∀ c : Dev nD, ∀ x ∈ oweT c, 2 < lvK x.2 := by decide
theorem lev_oweS : ∀ c : Dev nD, ∀ x ∈ oweS c, 1 < lvK x.2 := by decide
theorem lev_owe0 : ∀ c : Dev nD, ∀ x ∈ owe0 c, 0 < lvK x.2 := by decide

/-! ## Devices relative to one another -/

theorem nx_ne : ∀ (c : Dev nD), nx c 1 ≠ c ∧ nx c 2 ≠ c ∧ nx c 3 ≠ c := by decide
theorem nx_univ : ∀ c : Dev nD, (Finset.univ : Finset (Dev nD)) = {c, nx c 1, nx c 2, nx c 3} := by decide
theorem nx_erase : ∀ c : Dev nD, (Finset.univ : Finset (Dev nD)).erase c = {nx c 1, nx c 2, nx c 3} := by decide
theorem nx_nodup : ∀ c : Dev nD, nx c 1 ∉ ({nx c 2, nx c 3} : Finset (Dev nD)) ∧ nx c 2 ∉ ({nx c 3} : Finset (Dev nD)) := by decide

omit [FloatOps F] in
theorem sep_nx (c : Dev nD) (Φ : Dev nD → sProp 𝕄) : bigSep (Finset.univ.erase c) Φ = iprop(Φ (nx c 1) ∗ Φ (nx c 2) ∗ Φ (nx c 3)) := by
  rw [nx_erase, bigSep_insert (nx_nodup c).1, bigSep_insert (nx_nodup c).2, bigSep_singleton]; rfl
omit [FloatOps F] in
theorem sep_all (c : Dev nD) (Φ : Dev nD → sProp 𝕄) : bigSep Finset.univ Φ = iprop(Φ c ∗ Φ (nx c 1) ∗ Φ (nx c 2) ∗ Φ (nx c 3)) := by
  rw [bigSep_erase (Finset.mem_univ c), sep_nx]; rfl
omit [FloatOps F] in
theorem sep_lit (Φ : Dev nD → sProp 𝕄) : bigSep Finset.univ Φ = iprop(Φ 0 ∗ Φ 1 ∗ Φ 2 ∗ Φ 3) := by
  rw [bigSep_univ_eq_bigSepL [0, 1, 2, 3] (by decide) (by decide)]; rfl
omit [FloatOps F] in
theorem sep_ite (c : Dev nD) (Φ : Dev nD → sProp 𝕄) : bigSep (Finset.univ.erase c) Φ = bigSep Finset.univ fun p => if p = c then iprop(emp) else Φ p := by
  have : (Finset.univ : Finset (Dev nD)).erase c = Finset.univ.filter fun p => ¬ p = c := by
    ext x; simp
  rw [this, bigSep_filter]
  exact congrArg (bigSep Finset.univ) (funext fun p => by by_cases h : p = c <;> simp [h] <;> rfl)

end Cert.AttnProof
end
-- ==== Proof.Rules.lean ====
/- The effects of the body as rules over the cells: signals, waits, local copies and transfers to a peer, with the
   debts kept as a list; what lands where; the tiles stored one after the other and the tiles loaded. -/
module

public import proofs.«01_k».proof.Proof.Cells

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a device's program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, and that its round is reached; and the levels. -/
def recs (K : Dev nD × Ck → ℕ) : sProp 𝕄 :=
  iprop((bigSep Finset.univ fun x => iprop(cellInv ER (rd (F := F) m) (K x) (kcell x) ∗ reached ER (kcell x) 0)) ∗ levAts L lv)

instance recs_persistent (K : Dev nD × Ck → ℕ) : BI.Persistent (recs (F := F) m K) := by unfold recs; infer_instance

theorem recs_inv (K : Dev nD × Ck → ℕ) (x : Dev nD × Ck) :
    recs (F := F) m K ⊢ iprop(cellInv ER (rd (F := F) m) (K x) (kcell x) ∗ reached ER (kcell x) 0) := by
  unfold recs
  iintro ⟨H, -⟩
  have h : (bigSep Finset.univ fun x => iprop(cellInv ER (rd (F := F) m) (K x) (kcell x) ∗ reached ER (kcell x) 0))
      ⊢ iprop(cellInv ER (rd (F := F) m) (K x) (kcell x) ∗ reached ER (kcell x) 0) := bigSep_elim (Finset.mem_univ x)
  iapply h
  iexact H
theorem recs_lev (K : Dev nD × Ck → ℕ) : recs (F := F) m K ⊢ (levAts L lv : sProp 𝕄) := by
  unfold recs; iintro ⟨-, H⟩; iexact H

/-- What the device still owes, after any waits. -/
def ow (c : Dev nD) (l : List (Dev nD × Ck)) : sProp 𝕄 := iprop(∃ W, owes (c : Thread nD τ) (owed l) W)

/-- The token to credit cell `(c, k)` as payer `d`; the position of the waiter. -/
abbrev tok (c : Dev nD) (k : Ck) (d : Dev nD) : sProp 𝕄 := dutyTok ER (kcell (c, k)) 0 d
abbrev pos (c : Dev nD) (k : Ck) (r : ℕ) : sProp 𝕄 := atPos ER (kcell (c, k)) r ∅ 0
abbrev crd (c : Dev nD) (k : Ck) : sProp 𝕄 := cred (tallyAt (kcell (c, k)) () (amt k))

variable (K : Dev nD × Ck → ℕ)

section Sync

/-- A barrier signal to `n` hands over the slabs of the signalling device that `n` writes into. -/
theorem r_signal {α : Type} {k : PUnit → Prog (TpuEff nD τ sig (Elt F) Λ₀ .tc) α} {Q : α → sProp 𝕄} (c n : Dev nD) (hne : c ≠ n) {k' : ℕ} (hk' : k' = 1) (l : List (Dev nD × Ck)) :
    iprop(recs (F := F) m K ∗ ow (F := F) c ((n, .bar) :: l) ∗ tok n .bar c ∗ barPayA (F := F) n c ∗ barPayB (F := F) n c)
      ⊢ iprop((ow (F := F) c l -∗ WP (F := F) c (k ⟨⟩) Q) -∗ WP (F := F) c (.op (.semSignal (n : Thread nD τ) barS k') k) Q) := by
  subst hk'
  unfold ow
  iintro ⟨#Hr, ⟨%W, Ho⟩, Ht, HA, HB⟩ Hk
  ihave Hx := (recs_inv m K (n, .bar)) $$ Hr
  icases Hx with ⟨#Hi, #Hre⟩
  iapply (Rounds.wp_signal 𝒱₀ ER (rd (F := F) m) (c : Thread nD τ) none (dst := (n : Thread nD τ)) (κ := K (n, .bar)) (d := c) (sem := barS)
    (by rw [show ((n : Thread nD τ), SemLoc.reg barS) = kcell (n, .bar) from rfl, duties_eq]; exact Finset.mem_erase.mpr ⟨hne, Finset.mem_univ _⟩)
    (amount_eq m n .bar c) () (owed l) rfl) $$ [Ho Ht HA HB]
  · isplitr; · iexact Hi
    isplitl [Ho]; · iexact Ho
    isplitl [Ht]; · iexact Ht
    isplitl [HA HB]
    · rw [show (rd (F := F) m).payload ((n : Thread nD τ), SemLoc.reg barS) 0 c = iprop(barPayA (F := F) n c ∗ barPayB (F := F) n c)
        from payload_eq m n .bar c]
      isplitl [HA] <;> iassumption
    iexact Hre
  iintro Ho
  iapply Hk
  iexists W; iexact Ho

/-- A wait for the whole round of a cell hands over what its payers put in. -/
theorem r_wait_gen {α : Type} {k : PUnit → Prog (TpuEff nD τ sig (Elt F) Λ₀ .tc) α} {Q : α → sProp 𝕄} (c : Dev nD) (kk : Ck) {w : TpuEff nD τ sig (Elt F) Λ₀ (c : Thread nD τ).2 PUnit} {sm : SemLoc sig} {k' : ℕ}
    (hw : ∀ K' : PUnit → sProp 𝕄, wpE (defs₀ (F := F)) 𝒱₀ (c : Thread nD τ) none Set.univ w K' = waitSpec (c : Thread nD τ) Set.univ sm k' K')
    (hsm : sm = csem kk) (hk' : k' = (payers c kk).card * amt kk) (l : List (Dev nD × Ck)) (hl : ∀ x ∈ l, lvK kk < lvK x.2) :
    iprop(recs (F := F) m K ∗ cred (tallyAt (kcell (c, kk)) () k') ∗ ow (F := F) c l ∗ pos (F := F) c kk 0)
      ⊢ iprop(((ow (F := F) c l ∗ pos (F := F) c kk 1 ∗ bigSep (payers c kk) fun d => payOf (F := F) m c d kk) -∗ WP (F := F) c (k ⟨⟩) Q)
          -∗ WP (F := F) c (.op w k) Q) := by
  subst hsm
  unfold ow
  iintro ⟨#Hr, Hc, ⟨%W, Ho⟩, Hp⟩ Hk
  ihave Hx := (recs_inv m K (c, kk)) $$ Hr
  icases Hx with ⟨#Hi, -⟩
  ihave #Hl := (recs_lev m K) $$ Hr
  iapply (Rounds.wp_wait_rest_token 𝒱₀ ER (rd (F := F) m) (c : Thread nD τ) none (κ := K (c, kk))
      hw (Set.mem_univ _) () (O := owed l) (W := W) (R := 0) (m := 0) (T := ∅)
      (by rw [Nat.zero_add, hk', ← expect_eq m c kk])) $$ [Hc Ho Hp]
  · isplitr; · iexact Hi
    isplitl [Hc]; · iexact Hc
    isplitl [Ho]; · iexact Ho
    isplitr
    · iapply (mayWait_of c (csem kk) l (fun x hx => by rw [show ((c : Thread nD τ), csem kk) = kcell (c, kk) from rfl, lv_kcell]; exact hl x hx)); iexact Hl
    iexact Hp
  iintro ⟨Ho, Hp, -, Hpay⟩
  iapply Hk
  isplitl [Ho]; · iexists _; iexact Ho
  isplitl [Hp]; · iexact Hp
  iapply (Entails.of_eq (rest_eq m c kk)); iexact Hpay

/-- The same of a transfer's semaphore with one payer. -/
theorem r_waitD {α : Type} {k : PUnit → Prog (TpuEff nD τ sig (Elt F) Λ₀ .tc) α} {Q : α → sProp 𝕄} (c : Dev nD) (kk : Ck) (d : Dev nD) {sm : DmaSem sig} {sp sp' : Space} {s s' : Shape} {e e' : EltTy}
    {src : Memref sig (c : Thread nD τ).2.kind sp' s' e'} {κ' : Kind} {dst : Memref sig κ' sp s e} {hsrc : src.view.WordExact} {hdst : dst.view.WordExact}
    (hsm : SemLoc.dma sm = csem kk) (hN : dst.view.dmaCredit = amt kk) (hd : payers c kk = {d})
    (l : List (Dev nD × Ck)) (hl : ∀ x ∈ l, lvK kk < lvK x.2) :
    iprop(recs (F := F) m K ∗ crd (F := F) c kk ∗ ow (F := F) c l ∗ pos (F := F) c kk 0)
      ⊢ iprop(((ow (F := F) c l ∗ pos (F := F) c kk 1 ∗ payOf (F := F) m c d kk) -∗ WP (F := F) c (k ⟨⟩) Q)
          -∗ WP (F := F) c (.op (.waitDma2 sm src dst hsrc hdst) k) Q) := by
  have h := r_wait_gen (F := F) m K (Q := Q) (k := k) c kk (wpE_waitDma2_eq 𝒱₀ (c : Thread nD τ) none Set.univ (src := src) (dst := dst) (hsrc := hsrc) (hdst := hdst))
    hsm (k' := dst.view.dmaCredit) (by rw [hN, hd, Finset.card_singleton, Nat.one_mul]) l hl
  rw [hN, hd, bigSep_singleton] at h
  exact h

/-- A local copy: both ends come back with the credit of its semaphore. -/
theorem r_copy {α : Type} {k : PUnit → Prog (TpuEff nD τ sig (Elt F) Λ₀ .tc) α} {Q : α → sProp 𝕄} (c : Dev nD) (kk : Ck) {sm : SemLoc sig} {sp sp' : Space} {s : Shape} {e : EltTy}
    {src : Memref sig (c : Thread nD τ).2.kind sp s e} {dst : Memref sig (c : Thread nD τ).2.kind sp' s e}
    {hsrc : src.view.WordExact} {hdst : dst.view.WordExact} {hsem : DmaTarget.Typed (nD := nD) sp sm (.here dst)}
    {q : PosShare TreeShare} {fs : Buf (Elt F) (src.view.loc (c : Thread nD τ))} {fd : Buf (Elt F) (dst.view.loc (c : Thread nD τ))}
    (hsm : sm = csem kk) (hd : payers c kk = {c}) (hN : dst.view.amount sm = amt kk)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ payOf (F := F) m c c kk) :
    iprop(recs (F := F) m K ∗ tok (F := F) c kk c ∗ (src.view.loc (c : Thread nD τ) ↦[src.view.set]{q} fs)
        ∗ (dst.view.loc (c : Thread nD τ) ↦[dst.view.set]{fullShare} fd))
      ⊢ iprop((crd (F := F) c kk -∗ WP (F := F) c (k ⟨⟩) Q) -∗ WP (F := F) c (.op (.enqueueDma src (.here dst) sm hsrc hdst hsem) k) Q) := by
  subst hsm
  iintro ⟨#Hr, Ht, Hs, Hd⟩ Hk
  ihave Hx := (recs_inv m K (c, kk)) $$ Hr
  icases Hx with ⟨#Hi, #Hre⟩
  iapply (Rounds.wp_copy_pointsTo 𝒱₀ ER (rd (F := F) m) (c : Thread nD τ) none (κ := K (c, kk)) (r := 0) (d := c) (fs := fs) (fd := fd) (q := q)
    (by rw [show ((c : Thread nD τ), csem kk) = kcell (c, kk) from rfl, duties_eq, hd]; exact Finset.mem_singleton_self _)
    () (amt kk) hN (amount_eq m c kk c) (by rw [show ((c : Thread nD τ), csem kk) = kcell (c, kk) from rfl, payload_eq]; exact hpay)) $$ [Ht Hs Hd]
  · isplitr; · iexact Hi
    isplitl [Hs]; · iexact Hs
    isplitl [Hd]; · iexact Hd
    isplitl [Ht]; · iexact Ht
    iexact Hre
  iintro Hc
  iapply Hk; iexact Hc

/-- A transfer to device `n`: the source comes back with the sending side's credit, what lands goes to `n`. -/
theorem r_send {α : Type} {k : PUnit → Prog (TpuEff nD τ sig (Elt F) Λ₀ .tc) α} {Q : α → sProp 𝕄} (c n n' : Dev nD) (hn : n' = n) (k₁ k₂ : Ck) {sS sR : SemLoc sig} {sp sp' : Space} {s : Shape} {e : EltTy}
    {src : Memref sig (c : Thread nD τ).2.kind sp s e} {dst : Memref sig (Dev.tc n' : Thread nD τ).2.kind sp' s e}
    {hsc : dst.view.ref.isScScratch = false}
    {hsrc : src.view.WordExact} {hdst : dst.view.WordExact} {hsem : DmaTarget.Typed sp sR (.remote (Dev.tc n' : Thread nD τ) dst sS hsc)}
    {q : PosShare TreeShare} {fs : Buf (Elt F) (src.view.loc (c : Thread nD τ))} {fd : Buf (Elt F) (dst.view.loc (Dev.tc n' : Thread nD τ))}
    (hS : sS = csem k₁) (hR : sR = csem k₂) (hd₁ : payers c k₁ = {c}) (hd₂ : payers n k₂ = {c}) (hN : dst.view.amount sR = amt k₂) (hN' : amt k₁ = amt k₂)
    (hpay₁ : (src.view.loc (c : Thread nD τ) ↦[src.view.set]{q} fs) ⊢ payOf (F := F) m c c k₁)
    (hpay₂ : (dst.view.loc (Dev.tc n' : Thread nD τ) ↦[dst.view.set]{fullShare} (dst.view.write (Elt F) fd (src.view.read (Elt F) fs) Finset.univ))
      ⊢ payOf (F := F) m n c k₂) (l : List (Dev nD × Ck)) :
    iprop(recs (F := F) m K ∗ ow (F := F) c ((n, k₂) :: l) ∗ tok (F := F) c k₁ c ∗ tok (F := F) n k₂ c
        ∗ (src.view.loc (c : Thread nD τ) ↦[src.view.set]{q} fs) ∗ (dst.view.loc (Dev.tc n' : Thread nD τ) ↦[dst.view.set]{fullShare} fd))
      ⊢ iprop(((crd (F := F) c k₁ ∗ ow (F := F) c l) -∗ WP (F := F) c (k ⟨⟩) Q)
          -∗ WP (F := F) c (.op (.enqueueDma src (.remote (Dev.tc n' : Thread nD τ) dst sS hsc) sR hsrc hdst hsem) k) Q) := by
  subst hn; subst hS; subst hR
  unfold ow
  iintro ⟨#Hr, ⟨%W, Ho⟩, Ht1, Ht2, Hs, Hd⟩ Hk
  ihave Hx := (recs_inv m K (c, k₁)) $$ Hr
  icases Hx with ⟨#Hi, #Hre⟩
  ihave Hx' := (recs_inv m K (n', k₂)) $$ Hr
  icases Hx' with ⟨#Hi', #Hre'⟩
  iapply (Rounds.wp_send_pointsTo 𝒱₀ ER (rd (F := F) m) (c : Thread nD τ) none (κ₁ := K (c, k₁)) (κ₂ := K (n', k₂)) (r₁ := 0) (r₂ := 0)
    (d₁ := c) (d₂ := c) (fd := fd) (fs := fs) (q := q)
    (by rw [show ((c : Thread nD τ), csem k₁) = kcell (c, k₁) from rfl, duties_eq, hd₁]; exact Finset.mem_singleton_self _)
    (by rw [show ((Dev.tc n' : Thread nD τ), csem k₂) = kcell (n', k₂) from rfl, duties_eq, hd₂]; exact Finset.mem_singleton_self _)
    () () (amt k₂) hN ((amount_eq m c k₁ c).trans hN') (amount_eq m n' k₂ c) (owed l) rfl (W := W)
    (by rw [show ((c : Thread nD τ), csem k₁) = kcell (c, k₁) from rfl, payload_eq]; exact hpay₁)
    (by rw [show ((Dev.tc n' : Thread nD τ), csem k₂) = kcell (n', k₂) from rfl, payload_eq]; exact hpay₂)) $$ [Ho Ht1 Ht2 Hs Hd]
  · isplitr; · iexact Hi
    isplitr; · iexact Hi'
    isplitl [Hs]; · iexact Hs
    isplitl [Hd]; · iexact Hd
    isplitl [Ho]; · iexact Ho
    isplitl [Ht1]; · iexact Ht1
    isplitr; · iexact Hre
    isplitl [Ht2]; · iexact Ht2
    iexact Hre'
  iintro ⟨Hc, Ho⟩
  iapply Hk
  isplitl [Hc]; · unfold crd; rw [hN']; iexact Hc
  iexists W; iexact Ho

end Sync

/-! ## What lands -/

/-- What is written through a view is the contents it reads as, on the view's elements. -/
theorem land {sp : Space} {s : Shape} {e : EltTy} (v : View sig .tc sp s e) (f g : v.ty.Contents (Elt F)) (w : s.Idx → Elt F e)
    (h : ∀ x, w x = v.read (Elt F) g x) : ∀ i ∈ v.set, v.write (Elt F) f w Finset.univ i = g i := by
  intro i hi
  obtain ⟨x, -, rfl⟩ := Finset.mem_map.mp hi
  rw [View.write_emb_of_mem _ _ (Finset.mem_univ x), h, View.read_apply]
  exact cast_cast _ _ _ |>.trans (cast_eq _ _)

end Cert.AttnProof
end
-- ==== Proof.Moves.lean ====
/- The copies and transfers of this kernel as instances of the rules, the tiles it stores into its two result
   buffers and into the staging buffer, and the tiles it loads. -/
module

public import proofs.«01_k».proof.Proof.Rules

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-! ## The filled buffers, tile by tile -/

theorem oB_congr (c : Dev nD) {a q : Fin 4} {b h : Fin 8} {x j : S64x128.Idx} (h1 : a.val = q.val) (h2 : b.val = h.val)
    (h3 : (x 0).val = (j 0).val) (h4 : (x 1).val = (j 1).val) : oB m c a b x = oB m c q h j := by
  obtain rfl := Fin.ext h1; obtain rfl := Fin.ext h2
  rw [eq_ix2 x, eq_ix2 j, Fin.ext h3, Fin.ext h4]

theorem bufO_at (c : Dev nD) (q : Fin 4) (h : Fin 8) (i : S2048x128.Idx) (j : S64x128.Idx)
    (h0 : (i 0).val = 512 * q.val + 64 * h.val + (j 0).val) (h1 : (i 1).val = (j 1).val) : bufO m c i = oB m c q h j := by
  have hj : (j 0).val < 64 := (j 0).isLt
  have hh := h.isLt
  exact oB_congr m c (by show (i 0).val / 512 = _; omega) (by show (i 0).val % 512 / 64 = _; omega) (by show (i 0).val % 64 = _; omega) h1

theorem recvO_at (c p : Dev nD) (h : Fin 8) (i : S4x512x128.Idx) (j : S64x128.Idx)
    (hp : (i 0).val = p.val) (h0 : (i 1).val = 64 * h.val + (j 0).val) (h1 : (i 2).val = (j 1).val) : recvO m c i = oB m p c h j := by
  have hj : (j 0).val < 64 := (j 0).isLt
  have hh := h.isLt
  have e : (i 0 : Fin 4) = p := Fin.ext hp
  subst e
  exact oB_congr m _ rfl (by show (i 1).val / 64 = _; omega) (by show (i 1).val % 64 = _; omega) h1

theorem vec64_congr (f : Fin 4 → Fin 8 → FVec F S64 .f32) {a q : Fin 4} {b h : Fin 8} {x j : Fin 64} (h1 : a.val = q.val) (h2 : b.val = h.val)
    (h3 : x.val = j.val) : f a b (ix1 x) = f q h (ix1 j) := by
  obtain rfl := Fin.ext h1; obtain rfl := Fin.ext h2; obtain rfl := Fin.ext h3; rfl

theorem bufML_m (c : Dev nD) (q : Fin 4) (h : Fin 8) (i : S4x16x64.Idx) (j : Fin 64)
    (h0 : (i 0).val = q.val) (h1 : (i 1).val = h.val) (h2 : (i 2).val = j.val) : bufML m c i = mT m c q h (ix1 j) := by
  have hh := h.isLt
  unfold bufML
  rw [if_pos (by omega)]
  exact vec64_congr (mT m c) h0 (by show (i 1).val % 8 = _; omega) h2
theorem bufML_l (c : Dev nD) (q : Fin 4) (h : Fin 8) (i : S4x16x64.Idx) (j : Fin 64)
    (h0 : (i 0).val = q.val) (h1 : (i 1).val = 8 + h.val) (h2 : (i 2).val = j.val) : bufML m c i = lT m c q h (ix1 j) := by
  have hh := h.isLt
  unfold bufML
  rw [if_neg (by omega)]
  exact vec64_congr (lT m c) h0 (by show (i 1).val % 8 = _; omega) h2
theorem recvML_m (c p : Dev nD) (h : Fin 8) (i : S4x16x64.Idx) (j : Fin 64)
    (h0 : (i 0).val = p.val) (h1 : (i 1).val = h.val) (h2 : (i 2).val = j.val) : recvML m c i = mT m p c h (ix1 j) := by
  have hh := h.isLt
  unfold recvML
  rw [if_pos (by omega)]
  exact vec64_congr (fun p h => mT m p c h) h0 (by show (i 1).val % 8 = _; omega) h2
theorem recvML_l (c p : Dev nD) (h : Fin 8) (i : S4x16x64.Idx) (j : Fin 64)
    (h0 : (i 0).val = p.val) (h1 : (i 1).val = 8 + h.val) (h2 : (i 2).val = j.val) : recvML m c i = lT m p c h (ix1 j) := by
  have hh := h.isLt
  unfold recvML
  rw [if_neg (by omega)]
  exact vec64_congr (fun p h => lT m p c h) h0 (by show (i 1).val % 8 = _; omega) h2
/-- A peer's slab is the same on both sides of the transfer. -/
theorem recvML_eq (c q : Dev nD) (i i' : S4x16x64.Idx) (h0 : (i 0).val = q.val) (h0' : (i' 0).val = c.val) (h1 : (i 1).val = (i' 1).val)
    (h2 : (i 2).val = (i' 2).val) : bufML m c i = recvML m q i' := by
  have hh : (i 1).val < 16 := (i 1).isLt
  by_cases h : (i 1).val < 8
  · exact (bufML_m m c q ⟨(i 1).val, h⟩ i (i 2) h0 rfl rfl).trans (recvML_m m q c ⟨(i 1).val, h⟩ i' (i 2) h0' h1.symm h2.symm).symm
  · have hlt : (i 1).val - 8 < 8 := by omega
    exact (bufML_l m c q ⟨(i 1).val - 8, hlt⟩ i (i 2) h0 (by show _ = 8 + ((i 1).val - 8); omega) rfl).trans
      (recvML_l m q c ⟨(i 1).val - 8, hlt⟩ i' (i 2) h0' (by show _ = 8 + ((i 1).val - 8); omega) h2.symm).symm

/-! ## The local copies -/

section Copies
variable (c : Dev nD) (b : Fin 2)

abbrev kSrcM (b : Fin 2) (hr : ∀ a, (halfR b).stride a = 1) : Memref sig .tc .hbm S2048x8x128 .f32 :=
  ((Memref.whole main_arg2).slice (halfR b) hr).squeeze S2048x8x128 squeezes_S1x2048x8x128_S2048x8x128
abbrev kDstM (b : Fin 2) (hr : ∀ a, (halfR b).stride a = 1) : Memref sig .tc .vmem S2048x8x128 .f32 :=
  ((Memref.whole cc0_scratch6).slice (halfR b) hr).squeeze S2048x8x128 squeezes_S1x2048x8x128_S2048x8x128

theorem kSrcM_set (hr) : (kSrcM b hr).view.set = (halfR b).set := (View.set_reshape _ _).trans (View.set_slice_whole _ _)
theorem kDstM_set (hr) : (kDstM b hr).view.set = (halfR b).set := (View.set_reshape _ _).trans (View.set_slice_whole _ _)

theorem kSrc_eq (hr) : kSrc (F := F) m c b = ((kSrcM b hr).view.loc (c : Thread nD τ) ↦[(kSrcM b hr).view.set]{fullShare} m ((c : Thread nD τ).loc main_arg2) : sProp 𝕄) := by
  rw [kSrcM_set]; rfl
theorem kPt_eq (hr) (f) : kPt (F := F) c b f = ((kDstM b hr).view.loc (c : Thread nD τ) ↦[(kDstM b hr).view.set]{fullShare} f : sProp 𝕄) := by
  rw [kDstM_set]; rfl

theorem k_land (hr hr') (f) : ((kDstM b hr).view.loc (c : Thread nD τ) ↦[(kDstM b hr).view.set]{fullShare}
      ((kDstM b hr).view.write (Elt F) f ((kSrcM b hr').view.read (Elt F) (m ((c : Thread nD τ).loc main_arg2))) Finset.univ) : sProp 𝕄)
    = kPt (F := F) c b (kBuf m c) := by
  rw [kPt_eq c b hr]
  exact pointsTo_congr (land (F := F) (kDstM b hr).view f (kBuf m c) ((kSrcM b hr').view.read (Elt F) (m ((c : Thread nD τ).loc main_arg2))) fun x => rfl)

/-- One such transfer credits this much. -/
theorem kN (hr) : (kDstM b hr).view.dmaCredit = nKV := rfl

theorem c_k {α : Type} {k : PUnit → Prog (TpuEff nD τ sig (Elt F) Λ₀ .tc) α} {Q : α → sProp 𝕄} {sm : DmaSem sig} (hsm : SemLoc.dma sm = csem (.kv 0 b))
    {hr hr' hsrc hdst hsem} :
    iprop(recs (F := F) m K ∗ tok (F := F) c (.kv 0 b) c ∗ kSrc (F := F) m c b ∗ (∃ f, kPt (F := F) c b f))
      ⊢ iprop((crd (F := F) c (.kv 0 b) -∗ WP (F := F) c (k ⟨⟩) Q)
        -∗ WP (F := F) c (.op (.enqueueDma (kSrcM b hr) (.here (kDstM b hr')) (.dma sm) hsrc hdst hsem) k) Q) := by
  iintro ⟨#Hr, Ht, Hs, ⟨%f, Hd⟩⟩
  ihave Hs := (Entails.of_eq (kSrc_eq m c b hr)) $$ Hs
  ihave Hd := (Entails.of_eq (kPt_eq c b hr' f)) $$ Hd
  iapply (r_copy (F := F) m K c (.kv 0 b) (src := kSrcM b hr) (dst := kDstM b hr') (fs := m ((c : Thread nD τ).loc main_arg2)) (fd := f) (q := fullShare) hsm rfl
    (show (kDstM b hr').view.amount (SemLoc.dma sm) = amt (.kv 0 b) from kN b hr')
    (by rw [k_land, ← kSrc_eq m c b hr]; dsimp only [payOf]; rw [if_pos rfl])) $$ [Ht Hs Hd]
  isplitr; · iexact Hr
  isplitl [Ht]; · iexact Ht
  isplitl [Hs]; · iexact Hs
  iexact Hd

abbrev vSrcM (b : Fin 2) (hr : ∀ a, (halfR b).stride a = 1) : Memref sig .tc .hbm S2048x8x128 .f32 :=
  ((Memref.whole main_arg3).slice (halfR b) hr).squeeze S2048x8x128 squeezes_S1x2048x8x128_S2048x8x128
abbrev vDstM (b : Fin 2) (hr : ∀ a, (halfR b).stride a = 1) : Memref sig .tc .vmem S2048x8x128 .f32 :=
  ((Memref.whole cc0_scratch7).slice (halfR b) hr).squeeze S2048x8x128 squeezes_S1x2048x8x128_S2048x8x128

theorem vSrc_eq (hr) : vSrc (F := F) m c b = ((vSrcM b hr).view.loc (c : Thread nD τ) ↦[(vSrcM b hr).view.set]{fullShare} m ((c : Thread nD τ).loc main_arg3) : sProp 𝕄) := by
  rw [show (vSrcM b hr).view.set = (halfR b).set from (View.set_reshape _ _).trans (View.set_slice_whole _ _)]; rfl
theorem vPt_eq (hr) (f) : vPt (F := F) c b f = ((vDstM b hr).view.loc (c : Thread nD τ) ↦[(vDstM b hr).view.set]{fullShare} f : sProp 𝕄) := by
  rw [show (vDstM b hr).view.set = (halfR b).set from (View.set_reshape _ _).trans (View.set_slice_whole _ _)]; rfl
theorem v_land (hr hr') (f) : ((vDstM b hr).view.loc (c : Thread nD τ) ↦[(vDstM b hr).view.set]{fullShare}
      ((vDstM b hr).view.write (Elt F) f ((vSrcM b hr').view.read (Elt F) (m ((c : Thread nD τ).loc main_arg3))) Finset.univ) : sProp 𝕄)
    = vPt (F := F) c b (vBuf m c) := by
  rw [vPt_eq c b hr]
  exact pointsTo_congr (land (F := F) (vDstM b hr).view f (vBuf m c) ((vSrcM b hr').view.read (Elt F) (m ((c : Thread nD τ).loc main_arg3))) fun x => rfl)
theorem vN (hr) : (vDstM b hr).view.dmaCredit = nKV := rfl

theorem c_v {α : Type} {k : PUnit → Prog (TpuEff nD τ sig (Elt F) Λ₀ .tc) α} {Q : α → sProp 𝕄} {sm : DmaSem sig} (hsm : SemLoc.dma sm = csem (.kv 1 b))
    {hr hr' hsrc hdst hsem} :
    iprop(recs (F := F) m K ∗ tok (F := F) c (.kv 1 b) c ∗ vSrc (F := F) m c b ∗ (∃ f, vPt (F := F) c b f))
      ⊢ iprop((crd (F := F) c (.kv 1 b) -∗ WP (F := F) c (k ⟨⟩) Q)
        -∗ WP (F := F) c (.op (.enqueueDma (vSrcM b hr) (.here (vDstM b hr')) (.dma sm) hsrc hdst hsem) k) Q) := by
  iintro ⟨#Hr, Ht, Hs, ⟨%f, Hd⟩⟩
  ihave Hs := (Entails.of_eq (vSrc_eq m c b hr)) $$ Hs
  ihave Hd := (Entails.of_eq (vPt_eq c b hr' f)) $$ Hd
  iapply (r_copy (F := F) m K c (.kv 1 b) (src := vSrcM b hr) (dst := vDstM b hr') (fs := m ((c : Thread nD τ).loc main_arg3)) (fd := f) (q := fullShare) hsm rfl
    (show (vDstM b hr').view.amount (SemLoc.dma sm) = amt (.kv 1 b) from vN b hr')
    (by rw [v_land, ← vSrc_eq m c b hr]; dsimp only [payOf]; rw [if_neg (by decide)])) $$ [Ht Hs Hd]
  isplitr; · iexact Hr
  isplitl [Ht]; · iexact Ht
  isplitl [Hs]; · iexact Hs
  iexact Hd

theorem wSrc_eq : wSrc (F := F) m c = ((Memref.whole main_arg4).view.loc (c : Thread nD τ) ↦[(Memref.whole main_arg4).view.set]{fullShare} m ((c : Thread nD τ).loc main_arg4) : sProp 𝕄) := by
  rw [show (Memref.whole main_arg4).view.set = Finset.univ from View.set_whole _]; rfl
theorem wPt_eq (f) : wPt (F := F) c f = ((Memref.whole cc0_scratch8).view.loc (c : Thread nD τ) ↦[(Memref.whole cc0_scratch8).view.set]{fullShare} f : sProp 𝕄) := by
  rw [show (Memref.whole cc0_scratch8).view.set = Finset.univ from View.set_whole _]; rfl
theorem w_land (f) : ((Memref.whole cc0_scratch8).view.loc (c : Thread nD τ) ↦[(Memref.whole cc0_scratch8).view.set]{fullShare}
      ((Memref.whole cc0_scratch8).view.write (Elt F) f ((Memref.whole main_arg4).view.read (Elt F) (m ((c : Thread nD τ).loc main_arg4))) Finset.univ) : sProp 𝕄)
    = wPt (F := F) c (woBuf m c) := by
  rw [wPt_eq c]
  exact pointsTo_congr (land (F := F) (Memref.whole cc0_scratch8).view f (woBuf m c) ((Memref.whole main_arg4).view.read (Elt F) (m ((c : Thread nD τ).loc main_arg4))) fun x => rfl)
theorem wN : (Memref.whole cc0_scratch8).view.dmaCredit = nW := rfl

theorem c_w {α : Type} {k : PUnit → Prog (TpuEff nD τ sig (Elt F) Λ₀ .tc) α} {Q : α → sProp 𝕄} {sm : DmaSem sig} (hsm : SemLoc.dma sm = csem .wo)
    {hsrc hdst hsem} :
    iprop(recs (F := F) m K ∗ tok (F := F) c .wo c ∗ wSrc (F := F) m c ∗ (∃ f, wPt (F := F) c f))
      ⊢ iprop((crd (F := F) c .wo -∗ WP (F := F) c (k ⟨⟩) Q)
        -∗ WP (F := F) c (.op (.enqueueDma (Memref.whole main_arg4) (.here (Memref.whole cc0_scratch8)) (.dma sm) hsrc hdst hsem) k) Q) := by
  iintro ⟨#Hr, Ht, Hs, ⟨%f, Hd⟩⟩
  ihave Hs := (Entails.of_eq (wSrc_eq m c)) $$ Hs
  ihave Hd := (Entails.of_eq (wPt_eq c f)) $$ Hd
  iapply (r_copy (F := F) m K c .wo (src := Memref.whole main_arg4) (dst := Memref.whole cc0_scratch8) (fs := m ((c : Thread nD τ).loc main_arg4)) (fd := f) (q := fullShare) hsm rfl
    (show (Memref.whole cc0_scratch8).view.amount (SemLoc.dma sm) = amt .wo from wN)
    (by rw [w_land, ← wSrc_eq m c]; dsimp only [payOf]; exact BI.Entails.refl _)) $$ [Ht Hs Hd]
  isplitr; · iexact Hr
  isplitl [Ht]; · iexact Ht
  isplitl [Hs]; · iexact Hs
  iexact Hd

end Copies

/-! ## The transfers -/

section Sends
variable (c q : Dev nD)

abbrev oSrcM (q : Fin 4) (hr : ∀ a, (oR q).stride a = 1) : Memref sig .tc .vmem S512x128 .bf16 := (Memref.whole cc0_scratch0).slice (oR q) hr
abbrev oDstM (c : Fin 4) (hr : ∀ a, (roR c).stride a = 1) : Memref sig .tc .vmem S512x128 .bf16 :=
  ((Memref.whole cc0_scratch2).slice (roR c) hr).squeeze S512x128 squeezes_S1x512x128_S512x128
abbrev mlSrcM (q : Fin 4) (hr : ∀ a, (mlR q).stride a = 1) : Memref sig .tc .vmem S16x64 .f32 :=
  ((Memref.whole cc0_scratch1).slice (mlR q) hr).squeeze S16x64 squeezes_S1x16x64_S16x64
abbrev mlDstM (c : Fin 4) (hr : ∀ a, (mlR c).stride a = 1) : Memref sig .tc .vmem S16x64 .f32 :=
  ((Memref.whole cc0_scratch3).slice (mlR c) hr).squeeze S16x64 squeezes_S1x16x64_S16x64
abbrev tDstM (c : Fin 4) (hr : ∀ a, (rtR c).stride a = 1) : Memref sig .tc .vmem S64x1024 .bf16 :=
  ((Memref.whole cc0_scratch5).slice (rtR c) hr).squeeze S64x1024 squeezes_S1x64x1024_S64x1024

theorem oPt_eq (hr) (f) : oPt (F := F) c q f = ((oSrcM q hr).view.loc (c : Thread nD τ) ↦[(oSrcM q hr).view.set]{fullShare} f : sProp 𝕄) := by
  rw [show (oSrcM q hr).view.set = (oR q).set from View.set_slice_whole _ _]; rfl
theorem roPt_eq (hr) (f) : roPt (F := F) q c f = ((oDstM c hr).view.loc (q : Thread nD τ) ↦[(oDstM c hr).view.set]{fullShare} f : sProp 𝕄) := by
  rw [show (oDstM c hr).view.set = (roR c).set from (View.set_reshape _ _).trans (View.set_slice_whole _ _)]; rfl
theorem mlPt_eq (hr) (f) : mlPt (F := F) c q f = ((mlSrcM q hr).view.loc (c : Thread nD τ) ↦[(mlSrcM q hr).view.set]{fullShare} f : sProp 𝕄) := by
  rw [show (mlSrcM q hr).view.set = (mlR q).set from (View.set_reshape _ _).trans (View.set_slice_whole _ _)]; rfl
theorem rmlPt_eq (hr) (f) : rmlPt (F := F) q c f = ((mlDstM c hr).view.loc (q : Thread nD τ) ↦[(mlDstM c hr).view.set]{fullShare} f : sProp 𝕄) := by
  rw [show (mlDstM c hr).view.set = (mlR c).set from (View.set_reshape _ _).trans (View.set_slice_whole _ _)]; rfl
theorem rtPt_eq (hr) (f) : rtPt (F := F) q c f = ((tDstM c hr).view.loc (q : Thread nD τ) ↦[(tDstM c hr).view.set]{fullShare} f : sProp 𝕄) := by
  rw [show (tDstM c hr).view.set = (rtR c).set from (View.set_reshape _ _).trans (View.set_slice_whole _ _)]; rfl
theorem sPt_eq (s : PosShare TreeShare) (f) : sPt (F := F) c s f = ((Memref.whole cc0_scratch4).view.loc (c : Thread nD τ) ↦[(Memref.whole cc0_scratch4).view.set]{s} f : sProp 𝕄) := by
  rw [show (Memref.whole cc0_scratch4).view.set = Finset.univ from View.set_whole _]; rfl

theorem oN (hr) : (oDstM c hr).view.dmaCredit = nOb := rfl
theorem mlN (hr) : (mlDstM c hr).view.dmaCredit = nML := rfl
theorem tN (hr) : (tDstM c hr).view.dmaCredit = nT := rfl

theorem o_land (hr hr') (f) : ((oDstM c hr').view.loc (q : Thread nD τ) ↦[(oDstM c hr').view.set]{fullShare}
      ((oDstM c hr').view.write (Elt F) f ((oSrcM q hr).view.read (Elt F) (bufO m c)) Finset.univ) : sProp 𝕄)
    = roPt (F := F) q c (recvO m q) := by
  rw [roPt_eq c q hr']
  refine pointsTo_congr (land (F := F) (oDstM c hr').view f (recvO m q) ((oSrcM q hr).view.read (Elt F) (bufO m c)) fun x => ?_)
  have hx : (x 0).val < 512 := (x 0).isLt
  have e : Shape.reshapeEquiv squeezes_S1x512x128_S512x128.numel_eq x = ix3 0 (x 0) (x 1) := by
    conv_lhs => rw [eq_ix2 x]
    exact reshapeEquiv_ix2_1ab _ _ _
  have hh : (x 0).val / 64 < 8 := by omega
  have hm : (x 0).val % 64 < 64 := Nat.mod_lt _ (by decide)
  refine (bufO_at m c q ⟨(x 0).val / 64, hh⟩ ((oR q).emb x) (ix2 ⟨(x 0).val % 64, hm⟩ (x 1)) ?_ ?_).trans
    (recvO_at m q c ⟨(x 0).val / 64, hh⟩ ((roR c).emb (Shape.reshapeEquiv squeezes_S1x512x128_S512x128.numel_eq x)) (ix2 ⟨(x 0).val % 64, hm⟩ (x 1)) ?_ ?_ ?_).symm
  · show 512 * q.val + 1 * (x 0).val = 512 * q.val + 64 * ((x 0).val / 64) + (x 0).val % 64; omega
  · show 0 + 1 * (x 1).val = (x 1).val; omega
  · rw [e]; show c.val + 1 * 0 = c.val; omega
  · rw [e]; show 0 + 1 * (x 0).val = 64 * ((x 0).val / 64) + (x 0).val % 64; omega
  · rw [e]; show 0 + 1 * (x 1).val = (x 1).val; omega

theorem ml_land (hr hr') (f) : ((mlDstM c hr').view.loc (q : Thread nD τ) ↦[(mlDstM c hr').view.set]{fullShare}
      ((mlDstM c hr').view.write (Elt F) f ((mlSrcM q hr).view.read (Elt F) (bufML m c)) Finset.univ) : sProp 𝕄)
    = rmlPt (F := F) q c (recvML m q) := by
  rw [rmlPt_eq c q hr']
  refine pointsTo_congr (land (F := F) (mlDstM c hr').view f (recvML m q) ((mlSrcM q hr).view.read (Elt F) (bufML m c)) fun x => ?_)
  have e : Shape.reshapeEquiv squeezes_S1x16x64_S16x64.numel_eq x = ix3 0 (x 0) (x 1) := by
    conv_lhs => rw [eq_ix2 x]
    exact reshapeEquiv_ix2_1ab _ _ _
  refine recvML_eq m c q ((mlR q).emb (Shape.reshapeEquiv squeezes_S1x16x64_S16x64.numel_eq x)) ((mlR c).emb (Shape.reshapeEquiv squeezes_S1x16x64_S16x64.numel_eq x)) ?_ ?_ ?_ ?_
  · rw [e]; show q.val + 1 * 0 = q.val; omega
  · rw [e]; show c.val + 1 * 0 = c.val; omega
  · rfl
  · rfl

theorem t_land (hr') (f) : ((tDstM c hr').view.loc (q : Thread nD τ) ↦[(tDstM c hr').view.set]{fullShare}
      ((tDstM c hr').view.write (Elt F) f ((Memref.whole cc0_scratch4).view.read (Elt F) (outS m c)) Finset.univ) : sProp 𝕄)
    = rtPt (F := F) q c (outR m q) := by
  rw [rtPt_eq c q hr']
  refine pointsTo_congr (land (F := F) (tDstM c hr').view f (outR m q) ((Memref.whole cc0_scratch4).view.read (Elt F) (outS m c)) fun x => ?_)
  have e : Shape.reshapeEquiv squeezes_S1x64x1024_S64x1024.numel_eq x = ix3 0 (x 0) (x 1) := by
    conv_lhs => rw [eq_ix2 x]
    exact reshapeEquiv_ix2_1ab _ _ _
  have key : ∀ (p : Fin 4) (a : Fin 64) (b : Fin 1024), p.val = c.val → a.val = (x 0).val → b.val = (x 1).val →
      (outS m p : FVec F S64x1024 .bf16) (ix2 a b) = (outS m c : FVec F S64x1024 .bf16) x := by
    intro p a b h1 h2 h3
    obtain rfl := Fin.ext h1
    rw [eq_ix2 x, Fin.ext h2, Fin.ext h3]; rfl
  refine (key ((rtR c).emb (Shape.reshapeEquiv squeezes_S1x64x1024_S64x1024.numel_eq x) 0)
    ((rtR c).emb (Shape.reshapeEquiv squeezes_S1x64x1024_S64x1024.numel_eq x) 1) ((rtR c).emb (Shape.reshapeEquiv squeezes_S1x64x1024_S64x1024.numel_eq x) 2) ?_ ?_ ?_).symm
  · rw [e]; show c.val + 1 * 0 = c.val; omega
  · rw [e]; show 0 + 1 * (x 0).val = (x 0).val; omega
  · rw [e]; show 0 + 1 * (x 1).val = (x 1).val; omega

theorem s_o {α : Type} {k : PUnit → Prog (TpuEff nD τ sig (Elt F) Λ₀ .tc) α} {Q : α → sProp 𝕄} (n : Dev nD) (hn : n = q) (hq : q ≠ c)
    {sS sR : DmaSem sig} (hS : SemLoc.dma sS = csem (.so q)) (hR : SemLoc.dma sR = csem (.ro c)) {hr hr' hsc hsrc hdst hsem} (l : List (Dev nD × Ck)) :
    iprop(recs (F := F) m K ∗ ow (F := F) c ((q, .ro c) :: l) ∗ tok (F := F) c (.so q) c ∗ tok (F := F) q (.ro c) c ∗ oPt (F := F) c q (bufO m c) ∗ (∃ f, roPt (F := F) q c f))
      ⊢ iprop(((crd (F := F) c (.so q) ∗ ow (F := F) c l) -∗ WP (F := F) c (k ⟨⟩) Q)
        -∗ WP (F := F) c (.op (.enqueueDma (oSrcM q hr) (.remote (Dev.tc n : Thread nD τ) (oDstM c hr') (.dma sS) hsc) (.dma sR) hsrc hdst hsem) k) Q) := by
  subst hn
  iintro ⟨#Hr, Ho, Ht1, Ht2, Hs, ⟨%f, Hd⟩⟩
  ihave Hs := (Entails.of_eq (oPt_eq c n hr (bufO m c))) $$ Hs
  ihave Hd := (Entails.of_eq (roPt_eq c n hr' f)) $$ Hd
  iapply (r_send (F := F) m K c n n rfl (.so n) (.ro c) (src := oSrcM n hr) (dst := oDstM c hr') (fs := bufO m c) (fd := f) (q := fullShare) hS hR
    (if_neg hq) (if_neg (Ne.symm hq)) (show (oDstM c hr').view.amount (SemLoc.dma sR) = amt (.ro c) from oN c hr') rfl
    (by rw [← oPt_eq c n hr]; dsimp only [payOf]; exact BI.Entails.refl _) (by rw [o_land]; dsimp only [payOf]; exact BI.Entails.refl _) l) $$ [Ho Ht1 Ht2 Hs Hd]
  isplitr; · iexact Hr
  isplitl [Ho]; · iexact Ho
  isplitl [Ht1]; · iexact Ht1
  isplitl [Ht2]; · iexact Ht2
  isplitl [Hs]; · iexact Hs
  iexact Hd

theorem s_ml {α : Type} {k : PUnit → Prog (TpuEff nD τ sig (Elt F) Λ₀ .tc) α} {Q : α → sProp 𝕄} (n : Dev nD) (hn : n = q) (hq : q ≠ c)
    {sS sR : DmaSem sig} (hS : SemLoc.dma sS = csem (.sml q)) (hR : SemLoc.dma sR = csem (.rml c)) {hr hr' hsc hsrc hdst hsem} (l : List (Dev nD × Ck)) :
    iprop(recs (F := F) m K ∗ ow (F := F) c ((q, .rml c) :: l) ∗ tok (F := F) c (.sml q) c ∗ tok (F := F) q (.rml c) c ∗ mlPt (F := F) c q (bufML m c) ∗ (∃ f, rmlPt (F := F) q c f))
      ⊢ iprop(((crd (F := F) c (.sml q) ∗ ow (F := F) c l) -∗ WP (F := F) c (k ⟨⟩) Q)
        -∗ WP (F := F) c (.op (.enqueueDma (mlSrcM q hr) (.remote (Dev.tc n : Thread nD τ) (mlDstM c hr') (.dma sS) hsc) (.dma sR) hsrc hdst hsem) k) Q) := by
  subst hn
  iintro ⟨#Hr, Ho, Ht1, Ht2, Hs, ⟨%f, Hd⟩⟩
  ihave Hs := (Entails.of_eq (mlPt_eq c n hr (bufML m c))) $$ Hs
  ihave Hd := (Entails.of_eq (rmlPt_eq c n hr' f)) $$ Hd
  iapply (r_send (F := F) m K c n n rfl (.sml n) (.rml c) (src := mlSrcM n hr) (dst := mlDstM c hr') (fs := bufML m c) (fd := f) (q := fullShare) hS hR
    (if_neg hq) (if_neg (Ne.symm hq)) (show (mlDstM c hr').view.amount (SemLoc.dma sR) = amt (.rml c) from mlN c hr') rfl
    (by rw [← mlPt_eq c n hr]; dsimp only [payOf]; exact BI.Entails.refl _) (by rw [ml_land]; dsimp only [payOf]; exact BI.Entails.refl _) l) $$ [Ho Ht1 Ht2 Hs Hd]
  isplitr; · iexact Hr
  isplitl [Ho]; · iexact Ho
  isplitl [Ht1]; · iexact Ht1
  isplitl [Ht2]; · iexact Ht2
  isplitl [Hs]; · iexact Hs
  iexact Hd

theorem s_t {α : Type} {k : PUnit → Prog (TpuEff nD τ sig (Elt F) Λ₀ .tc) α} {Q : α → sProp 𝕄} (j : Fin 3) (n : Dev nD) (hn : n = q) (hq : q ≠ c)
    {sS sR : DmaSem sig} (hS : SemLoc.dma sS = csem (.sout j)) (hR : SemLoc.dma sR = csem (.rout c)) {hr' hsc hsrc hdst hsem} (l : List (Dev nD × Ck)) :
    iprop(recs (F := F) m K ∗ ow (F := F) c ((q, .rout c) :: l) ∗ tok (F := F) c (.sout j) c ∗ tok (F := F) q (.rout c) c ∗ sPt (F := F) c (shr j) (outS m c) ∗ barPayB (F := F) c q)
      ⊢ iprop(((crd (F := F) c (.sout j) ∗ ow (F := F) c l) -∗ WP (F := F) c (k ⟨⟩) Q)
        -∗ WP (F := F) c (.op (.enqueueDma (Memref.whole cc0_scratch4) (.remote (Dev.tc n : Thread nD τ) (tDstM c hr') (.dma sS) hsc) (.dma sR) hsrc hdst hsem) k) Q) := by
  subst hn
  unfold barPayB
  iintro ⟨#Hr, Ho, Ht1, Ht2, Hs, ⟨%f, Hd⟩⟩
  ihave Hs := (Entails.of_eq (sPt_eq c (shr j) (outS m c))) $$ Hs
  ihave Hd := (Entails.of_eq (rtPt_eq c n hr' f)) $$ Hd
  iapply (r_send (F := F) m K c n n rfl (.sout j) (.rout c) (src := Memref.whole cc0_scratch4) (dst := tDstM c hr') (fs := outS m c) (fd := f) (q := shr j) hS hR
    rfl (if_neg (Ne.symm hq)) (show (tDstM c hr').view.amount (SemLoc.dma sR) = amt (.rout c) from tN c hr') rfl
    (by rw [← sPt_eq]; dsimp only [payOf]; exact BI.Entails.refl _) (by rw [t_land]; dsimp only [payOf]; exact BI.Entails.refl _) l) $$ [Ho Ht1 Ht2 Hs Hd]
  isplitr; · iexact Hr
  isplitl [Ho]; · iexact Ho
  isplitl [Ht1]; · iexact Ht1
  isplitl [Ht2]; · iexact Ht2
  isplitl [Hs]; · iexact Hs
  iexact Hd

end Sends

end Cert.AttnProof
end
-- ==== Proof.Tiles.lean ====
/- The tiles the kernel stores into its two result buffers, one query block and head after the other, and the tiles
   it loads once the exchange is done. -/
module

public import proofs.«01_k».proof.Proof.Moves

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-! ## Stores and loads on part of a buffer -/

section Slab
variable (c : Dev nD)

/-- A load through a rectangle of a buffer of which a part `S` is held. -/
theorem ld_gen {α : Type} {Q : α → sProp 𝕄} {cs : CoreSpace} {s : Shape} {e : EltTy} (M : Memref sig .tc cs s e) (r : Rect s)
    {k : (r.shape.Idx → Elt F e) → Prog (TpuEff nD τ sig (Elt F) Λ₀ .tc) α} {hl : M.view.LoadsAt r.toLoadRect}
    (S : Finset (Idx ((M.access r).loc (c : Thread nD τ)))) {sh : PosShare TreeShare} (f : Buf (Elt F) ((M.access r).loc (c : Thread nD τ))) (hS : (M.access r).set ⊆ S) :
    ((M.access r).loc (c : Thread nD τ) ↦[S]{sh} f : sProp 𝕄)
      ⊢ iprop((((M.access r).loc (c : Thread nD τ) ↦[S]{sh} f) -∗ WP (F := F) c (k ((M.access r).read (Elt F) f)) Q)
          -∗ WP (F := F) c (.op (.load M r.toLoadRect hl) k) Q) :=
  wp_load_rect 𝒱₀ (c : Thread nD τ) none Set.univ (m := M) (r := r) (S := S) (f := f) (q := sh) hS

/-- A store through a rectangle of a buffer of which a part `S` is held: on the rectangle `R` the contents become `g`. -/
theorem st_gen {α : Type} {k : PUnit → Prog (TpuEff nD τ sig (Elt F) Λ₀ .tc) α} {Q : α → sProp 𝕄} {cs : CoreSpace} {s : Shape} {e : EltTy}
    (M : Memref sig .tc cs s e) (r : Rect s) {w : r.shape.Idx → Elt F e} {hx : (M.access r).Stores Finset.univ} {hm}
    (S R : Finset (Idx ((M.access r).loc (c : Thread nD τ)))) (f : Buf (Elt F) ((M.access r).loc (c : Thread nD τ))) (g : (M.access r).ty.Contents (Elt F))
    (hset : (M.access r).set = R) (hS : R ⊆ S) (hw : ∀ x, w x = (M.access r).read (Elt F) g x) {P : sProp 𝕄}
    (hP : ∀ f' : Buf (Elt F) ((M.access r).loc (c : Thread nD τ)), (∀ i ∈ R, f' i = g i) → (∀ i, i ∉ R → f' i = f i) →
      ((M.access r).loc (c : Thread nD τ) ↦[S]{fullShare} f' : sProp 𝕄) ⊢ P) :
    ((M.access r).loc (c : Thread nD τ) ↦[S]{fullShare} f : sProp 𝕄)
      ⊢ iprop((P -∗ WP (F := F) c (k ⟨⟩) Q) -∗ WP (F := F) c (.op (.store M r w Finset.univ hx hm) k) Q) := by
  subst hset
  iintro H Hk
  iapply (wp_store 𝒱₀ (c : Thread nD τ) none Set.univ (m := M) (r := r) (S := S) (f := f) (w := w) hS) $$ H
  iintro H
  iapply Hk
  iapply (hP _ (land (F := F) (M.access r) f g w hw) fun i hi => View.write_of_not_mem _ _ _ hi)
  iexact H

end Slab

/-! ## One query block's tiles -/

section Rows
variable (c : Dev nD) (q : Fin 4)

/-- The weighted values of the first `n` heads of query block `q` are stored. -/
def oFill (n : ℕ) : sProp 𝕄 :=
  iprop(∃ f, ⌜∀ i : S2048x128.Idx, 512 * q.val ≤ (i 0).val → (i 0).val < 512 * q.val + 64 * n → f i = bufO m c i⌝ ∗ oPt (F := F) c q f)
/-- The maxima of the first `a` heads and the sums of the first `n` heads are. -/
def mlFill (a n : ℕ) : sProp 𝕄 :=
  iprop(∃ f, ⌜∀ i : S4x16x64.Idx, (i 0).val = q.val → (i 1).val < a ∨ (8 ≤ (i 1).val ∧ (i 1).val < 8 + n) → f i = bufML m c i⌝ ∗ mlPt (F := F) c q f)

abbrev oMem : Memref sig .tc .vmem S2048x128 .bf16 := Memref.whole cc0_scratch0
abbrev mlMem : Memref sig .tc .vmem S4x16x64 .f32 := Memref.whole cc0_scratch1

theorem oTile_sub (h : Fin 8) (inb) : (Rect.unit (s := S2048x128) ![512 * q.val + 64 * h.val, 0] S64x128.size inb).set ⊆ (oR q).set := by
  intro i hi
  have h := h.isLt
  rw [Rect.mem_set_unit] at hi ⊢
  have h0 := hi 0; have h1 := hi 1
  refine Fin.forall_fin_two.mpr ⟨?_, ?_⟩
  · change 512 * q.val + 64 * _ ≤ (i 0).val ∧ (i 0).val < 512 * q.val + 64 * _ + 64 at h0
    show 512 * q.val ≤ (i 0).val ∧ (i 0).val < 512 * q.val + 512; omega
  · exact h1
theorem mlTile_sub (h : Fin 16) (inb) : (Rect.unit (s := S4x16x64) ![q.val, h.val, 0] S1x1x64.size inb).set ⊆ (mlR q).set := by
  intro i hi
  rw [Rect.mem_set_unit] at hi ⊢
  intro a
  match a with
  | 0 => exact hi 0
  | 1 => exact ⟨Nat.zero_le _, by have h1 : (i 1).val < 16 := (i 1).isLt; show (i 1).val < 0 + 16; omega⟩
  | 2 => exact hi 2
/-- Where an element of a tile of maxima or sums lies. -/
theorem mlTile_emb (h : Fin 16) (inb) (x : S1x1x64.Idx) : (Rect.unit (s := S4x16x64) ![q.val, h.val, 0] S1x1x64.size inb).emb x = ix3 q h (x 2) := by
  have x0 : (x 0).val < 1 := (x 0).isLt
  have x1 : (x 1).val < 1 := (x 1).isLt
  funext a
  match a with
  | 0 => exact Fin.ext (by show q.val + 1 * (x 0).val = q.val; omega)
  | 1 => exact Fin.ext (by show h.val + 1 * (x 1).val = h.val; omega)
  | 2 => exact Fin.ext (by show 0 + 1 * (x 2).val = (x 2).val; omega)
theorem shapeCast_row {α : Type} (v : S64.Idx → α) (x : S1x1x64.Idx) : shapeCast S1x1x64 v shapeCasts_S64_S1x1x64 x = v (ix1 (x 2)) := by
  refine shapeCast_apply v _ _ _ ?_
  have x0 : (x 0).val < 1 := (x 0).isLt
  have x1 : (x 1).val < 1 := (x 1).isLt
  rw [Shape.rowMajor_val_three, Shape.rowMajor_val_one]
  show (x 2).val = ((x 0).val * 1 + (x 1).val) * 64 + (x 2).val
  omega

theorem ld_o {α : Type} {k : Vec F S64x128 .bf16 → Prog (TpuEff nD τ sig (Elt F) Λ₀ .tc) α} {Q : α → sProp 𝕄} (h : Fin 8) {off : Fin 2 → ℕ} (hoff : off = ![512 * q.val + 64 * h.val, 0]) {inb hl}
    (f) : oPt (F := F) c q f ⊢ iprop((oPt (F := F) c q f -∗ WP (F := F) c (k ((oMem.access (Rect.unit (s := S2048x128) off S64x128.size inb)).read (Elt F) f)) Q)
      -∗ WP (F := F) c (.op (.load oMem (Rect.unit (s := S2048x128) off S64x128.size inb).toLoadRect hl) k) Q) := by
  subst hoff
  exact ld_gen (F := F) c oMem (Rect.unit (s := S2048x128) ![512 * q.val + 64 * h.val, 0] S64x128.size inb) ((oR q).set : Finset S2048x128.Idx) f
    ((View.set_slice_whole _ _).trans_subset (oTile_sub q h inb))

theorem ld_ml {α : Type} {k : Vec F S1x1x64 .f32 → Prog (TpuEff nD τ sig (Elt F) Λ₀ .tc) α} {Q : α → sProp 𝕄} (h : Fin 16) {off : Fin 3 → ℕ} (hoff : off = ![q.val, h.val, 0]) {inb hl}
    (f) : mlPt (F := F) c q f ⊢ iprop((mlPt (F := F) c q f -∗ WP (F := F) c (k ((mlMem.access (Rect.unit (s := S4x16x64) off S1x1x64.size inb)).read (Elt F) f)) Q)
      -∗ WP (F := F) c (.op (.load mlMem (Rect.unit (s := S4x16x64) off S1x1x64.size inb).toLoadRect hl) k) Q) := by
  subst hoff
  exact ld_gen (F := F) c mlMem (Rect.unit (s := S4x16x64) ![q.val, h.val, 0] S1x1x64.size inb) ((mlR q).set : Finset S4x16x64.Idx) f
    ((View.set_slice_whole _ _).trans_subset (mlTile_sub q h inb))

theorem st_o {α : Type} {k : PUnit → Prog (TpuEff nD τ sig (Elt F) Λ₀ .tc) α} {Q : α → sProp 𝕄} (h : Fin 8) {off : Fin 2 → ℕ} (hoff : off = ![512 * q.val + 64 * h.val, 0]) {inb hx hm}
    {w : Vec F S64x128 .bf16} (hw : w = oB m c q h) (f) (hf : ∀ i : S2048x128.Idx, 512 * q.val ≤ (i 0).val → (i 0).val < 512 * q.val + 64 * h.val → f i = bufO m c i) :
    oPt (F := F) c q f ⊢ iprop((oFill (F := F) m c q (h.val + 1) -∗ WP (F := F) c (k ⟨⟩) Q)
      -∗ WP (F := F) c (.op (.store oMem (Rect.unit (s := S2048x128) off S64x128.size inb) w Finset.univ hx hm) k) Q) := by
  subst hoff; subst hw
  unfold oPt
  iintro H Hk
  iapply (st_gen (F := F) c oMem (Rect.unit (s := S2048x128) ![512 * q.val + 64 * h.val, 0] S64x128.size inb) ((oR q).set : Finset S2048x128.Idx)
      (Rect.unit (s := S2048x128) ![512 * q.val + 64 * h.val, 0] S64x128.size inb).set f (bufO m c) (View.set_slice_whole _ _) (oTile_sub q h inb)
      (fun x => (bufO_at m c q h ((Rect.unit (s := S2048x128) ![512 * q.val + 64 * h.val, 0] S64x128.size inb).emb x) x
        (by show 512 * q.val + 64 * h.val + 1 * (x 0).val = _; omega) (by show 0 + 1 * (x 1).val = _; omega)).symm)
      (P := oFill (F := F) m c q (h.val + 1)) (fun f' h1' h2' => by
    show oPt (F := F) c q f' ⊢ _
    unfold oFill
    iintro H
    iexists f'
    isplitr
    · ipureintro
      intro i h0 h1
      by_cases hi : (i 0).val < 512 * q.val + 64 * h.val
      · rw [h2' i ?_]
        · exact hf i h0 hi
        · rw [Rect.mem_set_unit]; intro h'; have h2 := (h' 0).1
          change 512 * q.val + 64 * h.val ≤ (i 0).val at h2; omega
      · refine h1' i ?_
        rw [Rect.mem_set_unit]
        refine Fin.forall_fin_two.mpr ⟨?_, ?_⟩
        · show 512 * q.val + 64 * h.val ≤ (i 0).val ∧ (i 0).val < 512 * q.val + 64 * h.val + 64; omega
        · exact ⟨Nat.zero_le _, by have h2 : (i 1).val < 128 := (i 1).isLt; show (i 1).val < 0 + 128; omega⟩
    iexact H)) $$ H
  iexact Hk

theorem st_ml {α : Type} {k : PUnit → Prog (TpuEff nD τ sig (Elt F) Λ₀ .tc) α} {Q : α → sProp 𝕄} (h : Fin 16) {off : Fin 3 → ℕ} (hoff : off = ![q.val, h.val, 0]) {inb hx hm}
    {w : Vec F S1x1x64 .f32} (a n : ℕ) (hw : ∀ x : S1x1x64.Idx, w x = bufML m c (ix3 q h (x 2))) (f) (P : ℕ → Prop)
    (hf : ∀ i : S4x16x64.Idx, (i 0).val = q.val → P (i 1).val → f i = bufML m c i)
    (hP : ∀ j : ℕ, j < a ∨ (8 ≤ j ∧ j < 8 + n) → j ≠ h.val → P j) :
    mlPt (F := F) c q f ⊢ iprop((mlFill (F := F) m c q a n -∗ WP (F := F) c (k ⟨⟩) Q)
      -∗ WP (F := F) c (.op (.store mlMem (Rect.unit (s := S4x16x64) off S1x1x64.size inb) w Finset.univ hx hm) k) Q) := by
  subst hoff
  unfold mlPt
  iintro H Hk
  iapply (st_gen (F := F) c mlMem (Rect.unit (s := S4x16x64) ![q.val, h.val, 0] S1x1x64.size inb) ((mlR q).set : Finset S4x16x64.Idx)
      (Rect.unit (s := S4x16x64) ![q.val, h.val, 0] S1x1x64.size inb).set f (bufML m c) (View.set_slice_whole _ _) (mlTile_sub q h inb)
      (fun x => (hw x).trans (congrArg (bufML m c) (mlTile_emb q h inb x)).symm)
      (P := mlFill (F := F) m c q a n) (fun f' h1' h2' => by
    show mlPt (F := F) c q f' ⊢ _
    unfold mlFill
    iintro H
    iexists f'
    isplitr
    · ipureintro
      intro i h0 h1
      by_cases hi : (i 1).val = h.val
      · refine h1' i ?_
        rw [Rect.mem_set_unit]
        intro a
        match a with
        | 0 => show q.val ≤ (i 0).val ∧ (i 0).val < q.val + 1; omega
        | 1 => show h.val ≤ (i 1).val ∧ (i 1).val < h.val + 1; omega
        | 2 => exact ⟨Nat.zero_le _, by have h2 : (i 2).val < 64 := (i 2).isLt; show (i 2).val < 0 + 64; omega⟩
      · rw [h2' i ?_]
        · exact hf i h0 (hP _ h1 hi)
        · rw [Rect.mem_set_unit]; intro h'; have h2 := h' 1
          change h.val ≤ (i 1).val ∧ (i 1).val < h.val + 1 at h2; omega
    iexact H)) $$ H
  iexact Hk

/-- One head's tiles: each tile is loaded, unused, and then stored. -/
theorem st_row {α : Type} {k : PUnit → Prog (TpuEff nD τ sig (Elt F) Λ₀ .tc) α} {Q : α → sProp 𝕄} (h : Fin 8) {off : Fin 2 → ℕ} {off' off'' : Fin 3 → ℕ}
    (hoff : off = ![512 * q.val + 64 * h.val, 0]) (hoff' : off' = ![q.val, h.val, 0]) (hoff'' : off'' = ![q.val, 8 + h.val, 0])
    {inb inb' inb'' hl hx hm hl' hx' hm' hl'' hx'' hm''} {w : Vec F S64x128 .bf16} {w' w'' : Vec F S1x1x64 .f32}
    (hw : w = oB m c q h) (hw' : w' = shapeCast S1x1x64 (mT m c q h) shapeCasts_S64_S1x1x64) (hw'' : w'' = shapeCast S1x1x64 (lT m c q h) shapeCasts_S64_S1x1x64) :
    iprop(oFill (F := F) m c q h.val ∗ mlFill (F := F) m c q h.val h.val)
      ⊢ iprop(((oFill (F := F) m c q (h.val + 1) ∗ mlFill (F := F) m c q (h.val + 1) (h.val + 1)) -∗ WP (F := F) c (k ⟨⟩) Q)
      -∗ WP (F := F) c (.op (.load oMem (Rect.unit (s := S2048x128) off S64x128.size inb).toLoadRect hl) fun _ =>
          .op (.store oMem (Rect.unit (s := S2048x128) off S64x128.size inb) w Finset.univ hx hm) fun _ =>
          .op (.load mlMem (Rect.unit (s := S4x16x64) off' S1x1x64.size inb').toLoadRect hl') fun _ =>
          .op (.store mlMem (Rect.unit (s := S4x16x64) off' S1x1x64.size inb') w' Finset.univ hx' hm') fun _ =>
          .op (.load mlMem (Rect.unit (s := S4x16x64) off'' S1x1x64.size inb'').toLoadRect hl'') fun _ =>
          .op (.store mlMem (Rect.unit (s := S4x16x64) off'' S1x1x64.size inb'') w'' Finset.univ hx'' hm'') k) Q) := by
  have hh := h.isLt
  unfold oFill mlFill
  iintro ⟨⟨%f, %hf, H⟩, ⟨%g, %hg, G⟩⟩ Hk
  iapply (ld_o (F := F) c q h hoff f) $$ H
  iintro H
  iapply (st_o (F := F) m c q h hoff hw f hf) $$ H
  iintro H
  iapply (ld_ml (F := F) c q ⟨h.val, by omega⟩ hoff' g) $$ G
  iintro G
  iapply (st_ml (F := F) m c q ⟨h.val, by omega⟩ hoff' (h.val + 1) h.val (fun x => by
    rw [hw', bufML_m m c q h (ix3 q ⟨h.val, by omega⟩ (x 2)) (x 2) rfl rfl rfl, shapeCast_row]) g
    (fun j => j < h.val ∨ (8 ≤ j ∧ j < 8 + h.val)) hg (fun j hj hn => by change j ≠ h.val at hn; omega)) $$ G
  unfold mlFill
  iintro ⟨%g', %hg', G⟩
  iapply (ld_ml (F := F) c q ⟨8 + h.val, by omega⟩ hoff'' g') $$ G
  iintro G
  iapply (st_ml (F := F) m c q ⟨8 + h.val, by omega⟩ hoff'' (h.val + 1) (h.val + 1) (fun x => by
    rw [hw'', bufML_l m c q h (ix3 q ⟨8 + h.val, by omega⟩ (x 2)) (x 2) rfl rfl rfl, shapeCast_row]) g'
    (fun j => j < h.val + 1 ∨ (8 ≤ j ∧ j < 8 + h.val)) hg' (fun j hj hn => by change j ≠ 8 + h.val at hn; omega)) $$ G
  iintro G
  iapply Hk
  isplitl [H]
  · unfold oFill; iexact H
  unfold mlFill; iexact G

/-- Before the first head nothing is stored; after the last the block is complete. -/
theorem fill_start : iprop((∃ f, oPt (F := F) c q f) ∗ (∃ f, mlPt (F := F) c q f)) ⊢ iprop(oFill (F := F) m c q 0 ∗ mlFill (F := F) m c q 0 0) := by
  iintro ⟨⟨%f, H⟩, ⟨%g, G⟩⟩
  isplitl [H]
  · unfold oFill; iexists f; isplitr
    · ipureintro; intro i h0 h1; omega
    iexact H
  · unfold mlFill; iexists g; isplitr
    · ipureintro; intro i h0 h1; omega
    iexact G

theorem fill_end : iprop(oFill (F := F) m c q 8 ∗ mlFill (F := F) m c q 8 8) ⊢ iprop(oPt (F := F) c q (bufO m c) ∗ mlPt (F := F) c q (bufML m c)) := by
  unfold oFill mlFill
  iintro ⟨⟨%f, %hf, H⟩, ⟨%g, %hg, G⟩⟩
  isplitl [H]
  · iapply (Entails.of_eq (show oPt (F := F) c q f = oPt (F := F) c q (bufO m c) from pointsTo_congr fun i hi => by
      rw [Rect.mem_set_unit] at hi
      have h0 := hi 0
      change 512 * q.val ≤ (i 0).val ∧ (i 0).val < 512 * q.val + 512 at h0
      exact hf i h0.1 (by omega)))
    iexact H
  · iapply (Entails.of_eq (show mlPt (F := F) c q g = mlPt (F := F) c q (bufML m c) from pointsTo_congr fun i hi => by
      rw [Rect.mem_set_unit] at hi
      have h0 := hi 0
      change q.val ≤ (i 0).val ∧ (i 0).val < q.val + 1 at h0
      have h1 : (i 1).val < 16 := (i 1).isLt
      exact hg i (by omega) (by omega)))
    iexact G

end Rows

/-! ## The tiles loaded after the exchange -/

section Loads
variable (c : Dev nD)

abbrev roMem : Memref sig .tc .vmem S4x512x128 .bf16 := Memref.whole cc0_scratch2
abbrev rmlMem : Memref sig .tc .vmem S4x16x64 .f32 := Memref.whole cc0_scratch3

theorem lv_m {α : Type} {k : Vec F S1x1x64 .f32 → Prog (TpuEff nD τ sig (Elt F) Λ₀ .tc) α} {Q : α → sProp 𝕄} (h : Fin 8) {off : Fin 3 → ℕ} (hoff : off = ![c.val, h.val, 0]) {inb hl} :
    mlPt (F := F) c c (bufML m c) ⊢ iprop((mlPt (F := F) c c (bufML m c) -∗ WP (F := F) c (k (ldM m c c h)) Q)
      -∗ WP (F := F) c (.op (.load mlMem (Rect.unit (s := S4x16x64) off S1x1x64.size inb).toLoadRect hl) k) Q) := by
  subst hoff
  have h8 := h.isLt
  have e : (mlMem.access (Rect.unit (s := S4x16x64) ![c.val, h.val, 0] S1x1x64.size inb)).read (Elt F) (bufML m c) = ldM m c c h := by
    funext x
    refine (congrArg (bufML m c) (mlTile_emb c ⟨h.val, by omega⟩ inb x)).trans ?_
    exact bufML_m m c c h _ (x 2) rfl rfl rfl
  rw [← e]
  exact ld_ml (F := F) c c ⟨h.val, by omega⟩ rfl (bufML m c)

theorem lv_l {α : Type} {k : Vec F S1x1x64 .f32 → Prog (TpuEff nD τ sig (Elt F) Λ₀ .tc) α} {Q : α → sProp 𝕄} (h : Fin 8) {off : Fin 3 → ℕ} (hoff : off = ![c.val, 8 + h.val, 0]) {inb hl} :
    mlPt (F := F) c c (bufML m c) ⊢ iprop((mlPt (F := F) c c (bufML m c) -∗ WP (F := F) c (k (ldL m c c h)) Q)
      -∗ WP (F := F) c (.op (.load mlMem (Rect.unit (s := S4x16x64) off S1x1x64.size inb).toLoadRect hl) k) Q) := by
  subst hoff
  have h8 := h.isLt
  have e : (mlMem.access (Rect.unit (s := S4x16x64) ![c.val, 8 + h.val, 0] S1x1x64.size inb)).read (Elt F) (bufML m c) = ldL m c c h := by
    funext x
    refine (congrArg (bufML m c) (mlTile_emb c ⟨8 + h.val, by omega⟩ inb x)).trans ?_
    exact bufML_l m c c h _ (x 2) rfl rfl rfl
  rw [← e]
  exact ld_ml (F := F) c c ⟨8 + h.val, by omega⟩ rfl (bufML m c)

theorem lv_o {α : Type} {k : Vec F S64x128 .bf16 → Prog (TpuEff nD τ sig (Elt F) Λ₀ .tc) α} {Q : α → sProp 𝕄} (h : Fin 8) {off : Fin 2 → ℕ} (hoff : off = ![512 * c.val + 64 * h.val, 0]) {inb hl} :
    oPt (F := F) c c (bufO m c) ⊢ iprop((oPt (F := F) c c (bufO m c) -∗ WP (F := F) c (k (oB m c c h)) Q)
      -∗ WP (F := F) c (.op (.load oMem (Rect.unit (s := S2048x128) off S64x128.size inb).toLoadRect hl) k) Q) := by
  subst hoff
  have e : (oMem.access (Rect.unit (s := S2048x128) ![512 * c.val + 64 * h.val, 0] S64x128.size inb)).read (Elt F) (bufO m c) = oB m c c h := by
    funext x
    exact bufO_at m c c h ((Rect.unit (s := S2048x128) ![512 * c.val + 64 * h.val, 0] S64x128.size inb).emb x) x
      (by show 512 * c.val + 64 * h.val + 1 * (x 0).val = _; omega) (by show 0 + 1 * (x 1).val = _; omega)
  rw [← e]
  exact ld_o (F := F) c c h rfl (bufO m c)

theorem lr_m {α : Type} {k : Vec F S1x1x64 .f32 → Prog (TpuEff nD τ sig (Elt F) Λ₀ .tc) α} {Q : α → sProp 𝕄} (p : Dev nD) (h : Fin 8) {off : Fin 3 → ℕ} (hoff : off = ![p.val, h.val, 0]) {inb hl} :
    rmlPt (F := F) c p (recvML m c) ⊢ iprop((rmlPt (F := F) c p (recvML m c) -∗ WP (F := F) c (k (ldM m p c h)) Q)
      -∗ WP (F := F) c (.op (.load rmlMem (Rect.unit (s := S4x16x64) off S1x1x64.size inb).toLoadRect hl) k) Q) := by
  subst hoff
  have h8 := h.isLt
  have e : (rmlMem.access (Rect.unit (s := S4x16x64) ![p.val, h.val, 0] S1x1x64.size inb)).read (Elt F) (recvML m c) = ldM m p c h := by
    funext x
    refine (congrArg (recvML m c) (mlTile_emb p ⟨h.val, by omega⟩ inb x)).trans ?_
    exact recvML_m m c p h _ (x 2) rfl rfl rfl
  rw [← e]
  exact ld_gen (F := F) c rmlMem (Rect.unit (s := S4x16x64) ![p.val, h.val, 0] S1x1x64.size inb) ((mlR p).set : Finset S4x16x64.Idx) (recvML m c)
    ((View.set_slice_whole _ _).trans_subset (mlTile_sub p ⟨h.val, by omega⟩ inb))

theorem lr_l {α : Type} {k : Vec F S1x1x64 .f32 → Prog (TpuEff nD τ sig (Elt F) Λ₀ .tc) α} {Q : α → sProp 𝕄} (p : Dev nD) (h : Fin 8) {off : Fin 3 → ℕ} (hoff : off = ![p.val, 8 + h.val, 0]) {inb hl} :
    rmlPt (F := F) c p (recvML m c) ⊢ iprop((rmlPt (F := F) c p (recvML m c) -∗ WP (F := F) c (k (ldL m p c h)) Q)
      -∗ WP (F := F) c (.op (.load rmlMem (Rect.unit (s := S4x16x64) off S1x1x64.size inb).toLoadRect hl) k) Q) := by
  subst hoff
  have h8 := h.isLt
  have e : (rmlMem.access (Rect.unit (s := S4x16x64) ![p.val, 8 + h.val, 0] S1x1x64.size inb)).read (Elt F) (recvML m c) = ldL m p c h := by
    funext x
    refine (congrArg (recvML m c) (mlTile_emb p ⟨8 + h.val, by omega⟩ inb x)).trans ?_
    exact recvML_l m c p h _ (x 2) rfl rfl rfl
  rw [← e]
  exact ld_gen (F := F) c rmlMem (Rect.unit (s := S4x16x64) ![p.val, 8 + h.val, 0] S1x1x64.size inb) ((mlR p).set : Finset S4x16x64.Idx) (recvML m c)
    ((View.set_slice_whole _ _).trans_subset (mlTile_sub p ⟨8 + h.val, by omega⟩ inb))

theorem lr_o {α : Type} {k : Vec F S1x64x128 .bf16 → Prog (TpuEff nD τ sig (Elt F) Λ₀ .tc) α} {Q : α → sProp 𝕄} (p : Dev nD) (h : Fin 8) {off : Fin 3 → ℕ} (hoff : off = ![p.val, 64 * h.val, 0]) {inb hl} :
    roPt (F := F) c p (recvO m c) ⊢ iprop((roPt (F := F) c p (recvO m c) -∗ WP (F := F) c (k (ldO m p c h)) Q)
      -∗ WP (F := F) c (.op (.load roMem (Rect.unit (s := S4x512x128) off S1x64x128.size inb).toLoadRect hl) k) Q) := by
  subst hoff
  have h8 := h.isLt
  have e : (roMem.access (Rect.unit (s := S4x512x128) ![p.val, 64 * h.val, 0] S1x64x128.size inb)).read (Elt F) (recvO m c) = ldO m p c h := by
    funext x
    have x0 : (x 0).val < 1 := (x 0).isLt
    exact recvO_at m c p h ((Rect.unit (s := S4x512x128) ![p.val, 64 * h.val, 0] S1x64x128.size inb).emb x) (ix2 (x 1) (x 2))
      (by show p.val + 1 * (x 0).val = p.val; omega) (by show 64 * h.val + 1 * (x 1).val = 64 * h.val + (x 1).val; omega) (by show 0 + 1 * (x 2).val = (x 2).val; omega)
  rw [← e]
  exact ld_gen (F := F) c roMem (Rect.unit (s := S4x512x128) ![p.val, 64 * h.val, 0] S1x64x128.size inb) ((roR p).set : Finset S4x512x128.Idx) (recvO m c)
    ((View.set_slice_whole _ _).trans_subset (by
      intro i hi
      rw [Rect.mem_set_unit] at hi ⊢
      intro a
      match a with
      | 0 => exact hi 0
      | 1 => exact ⟨Nat.zero_le _, by have h1 : (i 1).val < 512 := (i 1).isLt; show (i 1).val < 0 + 512; omega⟩
      | 2 => exact hi 2))

/-- What device `c` holds of its query block after the exchange: its own share, and one from each peer. -/
def held : sProp 𝕄 :=
  iprop((oPt (F := F) c c (bufO m c) ∗ mlPt (F := F) c c (bufML m c)) ∗ (roPt (F := F) c (nx c 1) (recvO m c) ∗ rmlPt (F := F) c (nx c 1) (recvML m c))
    ∗ (roPt (F := F) c (nx c 2) (recvO m c) ∗ rmlPt (F := F) c (nx c 2) (recvML m c)) ∗ (roPt (F := F) c (nx c 3) (recvO m c) ∗ rmlPt (F := F) c (nx c 3) (recvML m c)))

/-- One head's loads. -/
theorem ld_head {α : Type} {k : Vec F S1x1x64 .f32 → Vec F S1x1x64 .f32 → Vec F S64x128 .bf16 → Vec F S1x1x64 .f32 → Vec F S1x1x64 .f32 → Vec F S1x64x128 .bf16
      → Vec F S1x1x64 .f32 → Vec F S1x1x64 .f32 → Vec F S1x64x128 .bf16 → Vec F S1x1x64 .f32 → Vec F S1x1x64 .f32 → Vec F S1x64x128 .bf16 → Prog (TpuEff nD τ sig (Elt F) Λ₀ .tc) α}
    {Q : α → sProp 𝕄} (h : Fin 8) {am al a1 b1 d1 a2 b2 d2 a3 b3 d3 : Fin 3 → ℕ} {ao : Fin 2 → ℕ}
    (ham : am = ![c.val, h.val, 0]) (hal : al = ![c.val, 8 + h.val, 0]) (hao : ao = ![512 * c.val + 64 * h.val, 0])
    (ha1 : a1 = ![(nx c 1).val, h.val, 0]) (hb1 : b1 = ![(nx c 1).val, 8 + h.val, 0]) (hd1 : d1 = ![(nx c 1).val, 64 * h.val, 0])
    (ha2 : a2 = ![(nx c 2).val, h.val, 0]) (hb2 : b2 = ![(nx c 2).val, 8 + h.val, 0]) (hd2 : d2 = ![(nx c 2).val, 64 * h.val, 0])
    (ha3 : a3 = ![(nx c 3).val, h.val, 0]) (hb3 : b3 = ![(nx c 3).val, 8 + h.val, 0]) (hd3 : d3 = ![(nx c 3).val, 64 * h.val, 0])
    {i1 l1 i2 l2 i3 l3 i4 l4 i5 l5 i6 l6 i7 l7 i8 l8 i9 l9 i10 l10 i11 l11 i12 l12} :
    held (F := F) m c ⊢ iprop((held (F := F) m c -∗ WP (F := F) c (k (ldM m c c h) (ldL m c c h) (oB m c c h) (ldM m (nx c 1) c h) (ldL m (nx c 1) c h) (ldO m (nx c 1) c h)
          (ldM m (nx c 2) c h) (ldL m (nx c 2) c h) (ldO m (nx c 2) c h) (ldM m (nx c 3) c h) (ldL m (nx c 3) c h) (ldO m (nx c 3) c h)) Q)
      -∗ WP (F := F) c (.op (.load mlMem (Rect.unit (s := S4x16x64) am S1x1x64.size i1).toLoadRect l1) fun v1 =>
        .op (.load mlMem (Rect.unit (s := S4x16x64) al S1x1x64.size i2).toLoadRect l2) fun v2 =>
        .op (.load oMem (Rect.unit (s := S2048x128) ao S64x128.size i3).toLoadRect l3) fun v3 =>
        .op (.load rmlMem (Rect.unit (s := S4x16x64) a1 S1x1x64.size i4).toLoadRect l4) fun v4 =>
        .op (.load rmlMem (Rect.unit (s := S4x16x64) b1 S1x1x64.size i5).toLoadRect l5) fun v5 =>
        .op (.load roMem (Rect.unit (s := S4x512x128) d1 S1x64x128.size i6).toLoadRect l6) fun v6 =>
        .op (.load rmlMem (Rect.unit (s := S4x16x64) a2 S1x1x64.size i7).toLoadRect l7) fun v7 =>
        .op (.load rmlMem (Rect.unit (s := S4x16x64) b2 S1x1x64.size i8).toLoadRect l8) fun v8 =>
        .op (.load roMem (Rect.unit (s := S4x512x128) d2 S1x64x128.size i9).toLoadRect l9) fun v9 =>
        .op (.load rmlMem (Rect.unit (s := S4x16x64) a3 S1x1x64.size i10).toLoadRect l10) fun v10 =>
        .op (.load rmlMem (Rect.unit (s := S4x16x64) b3 S1x1x64.size i11).toLoadRect l11) fun v11 =>
        .op (.load roMem (Rect.unit (s := S4x512x128) d3 S1x64x128.size i12).toLoadRect l12) fun v12 => k v1 v2 v3 v4 v5 v6 v7 v8 v9 v10 v11 v12) Q) := by
  unfold held
  iintro ⟨⟨Ho, Hm⟩, ⟨O1, M1⟩, ⟨O2, M2⟩, ⟨O3, M3⟩⟩ Hk
  iapply (lv_m (F := F) m c h ham) $$ Hm
  iintro Hm
  iapply (lv_l (F := F) m c h hal) $$ Hm
  iintro Hm
  iapply (lv_o (F := F) m c h hao) $$ Ho
  iintro Ho
  iapply (lr_m (F := F) m c (nx c 1) h ha1) $$ M1
  iintro M1
  iapply (lr_l (F := F) m c (nx c 1) h hb1) $$ M1
  iintro M1
  iapply (lr_o (F := F) m c (nx c 1) h hd1) $$ O1
  iintro O1
  iapply (lr_m (F := F) m c (nx c 2) h ha2) $$ M2
  iintro M2
  iapply (lr_l (F := F) m c (nx c 2) h hb2) $$ M2
  iintro M2
  iapply (lr_o (F := F) m c (nx c 2) h hd2) $$ O2
  iintro O2
  iapply (lr_m (F := F) m c (nx c 3) h ha3) $$ M3
  iintro M3
  iapply (lr_l (F := F) m c (nx c 3) h hb3) $$ M3
  iintro M3
  iapply (lr_o (F := F) m c (nx c 3) h hd3) $$ O3
  iintro O3
  iapply Hk
  isplitl [Ho Hm]
  · isplitl [Ho] <;> iassumption
  isplitl [O1 M1]
  · isplitl [O1] <;> iassumption
  isplitl [O2 M2]
  · isplitl [O2] <;> iassumption
  isplitl [O3] <;> iassumption

end Loads

end Cert.AttnProof
end
-- ==== Proof.Steps.lean ====
/- The remaining steps of the body: the semaphore entries at offsets that depend on the device, the transfers and waits
   that a device skips for its own block, the loads of the keys and values, and the rows of the result. -/
module

public import proofs.«01_k».proof.Proof.Tiles

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-! ## Semaphore entries and devices at computed offsets -/

theorem at4_eq (A : DmaSems sig S4) (q : Fin 4) {off : Fin 1 → ℕ} (h : off = ![q.val]) {inb} :
    ((A.slice (Rect.unit (s := S4) off S1.size inb)).squeeze S_ squeezes_S1_S_).sem = at4 A q := by subst h; rfl

section Exchange
variable (c q : Dev nD)

theorem s_o' {α : Type} {k : PUnit → Prog (TpuEff nD τ sig (Elt F) Λ₀ .tc) α} {Q : α → sProp 𝕄} (n : Dev nD) (hn : n = q) (hq : q ≠ c)
    {sS sR : DmaSem sig} (hS : SemLoc.dma sS = csem (.so q)) (hR : SemLoc.dma sR = csem (.ro c)) {off : Fin 3 → ℕ} (hoff : off = ![c.val, 0, 0]) {inb hr hr' hsc hsrc hdst hsem} (l : List (Dev nD × Ck)) :
    iprop(recs (F := F) m K ∗ ow (F := F) c ((q, .ro c) :: l) ∗ tok (F := F) c (.so q) c ∗ tok (F := F) q (.ro c) c ∗ oPt (F := F) c q (bufO m c) ∗ (∃ f, roPt (F := F) q c f))
      ⊢ iprop(((crd (F := F) c (.so q) ∗ ow (F := F) c l) -∗ WP (F := F) c (k ⟨⟩) Q)
        -∗ WP (F := F) c (.op (.enqueueDma (oSrcM q hr) (.remote (Dev.tc n : Thread nD τ)
            (((Memref.whole cc0_scratch2).slice (Rect.unit (s := S4x512x128) off S1x512x128.size inb) hr').squeeze S512x128 squeezes_S1x512x128_S512x128)
            (.dma sS) hsc) (.dma sR) hsrc hdst hsem) k) Q) := by
  subst hoff
  exact s_o (F := F) m K c q n hn hq hS hR l

theorem s_ml' {α : Type} {k : PUnit → Prog (TpuEff nD τ sig (Elt F) Λ₀ .tc) α} {Q : α → sProp 𝕄} (n : Dev nD) (hn : n = q) (hq : q ≠ c)
    {sS sR : DmaSem sig} (hS : SemLoc.dma sS = csem (.sml q)) (hR : SemLoc.dma sR = csem (.rml c)) {off : Fin 3 → ℕ} (hoff : off = ![c.val, 0, 0]) {inb hr hr' hsc hsrc hdst hsem} (l : List (Dev nD × Ck)) :
    iprop(recs (F := F) m K ∗ ow (F := F) c ((q, .rml c) :: l) ∗ tok (F := F) c (.sml q) c ∗ tok (F := F) q (.rml c) c ∗ mlPt (F := F) c q (bufML m c) ∗ (∃ f, rmlPt (F := F) q c f))
      ⊢ iprop(((crd (F := F) c (.sml q) ∗ ow (F := F) c l) -∗ WP (F := F) c (k ⟨⟩) Q)
        -∗ WP (F := F) c (.op (.enqueueDma (mlSrcM q hr) (.remote (Dev.tc n : Thread nD τ)
            (((Memref.whole cc0_scratch3).slice (Rect.unit (s := S4x16x64) off S1x16x64.size inb) hr').squeeze S16x64 squeezes_S1x16x64_S16x64)
            (.dma sS) hsc) (.dma sR) hsrc hdst hsem) k) Q) := by
  subst hoff
  exact s_ml (F := F) m K c q n hn hq hS hR l

theorem s_t' {α : Type} {k : PUnit → Prog (TpuEff nD τ sig (Elt F) Λ₀ .tc) α} {Q : α → sProp 𝕄} (j : Fin 3) (n : Dev nD) (hn : n = q) (hq : q ≠ c)
    {sS sR : DmaSem sig} (hS : SemLoc.dma sS = csem (.sout j)) (hR : SemLoc.dma sR = csem (.rout c)) {off : Fin 3 → ℕ} (hoff : off = ![c.val, 0, 0]) {inb hr' hsc hsrc hdst hsem} (l : List (Dev nD × Ck)) :
    iprop(recs (F := F) m K ∗ ow (F := F) c ((q, .rout c) :: l) ∗ tok (F := F) c (.sout j) c ∗ tok (F := F) q (.rout c) c ∗ sPt (F := F) c (shr j) (outS m c) ∗ barPayB (F := F) c q)
      ⊢ iprop(((crd (F := F) c (.sout j) ∗ ow (F := F) c l) -∗ WP (F := F) c (k ⟨⟩) Q)
        -∗ WP (F := F) c (.op (.enqueueDma (Memref.whole cc0_scratch4) (.remote (Dev.tc n : Thread nD τ)
            (((Memref.whole cc0_scratch5).slice (Rect.unit (s := S4x64x1024) off S1x64x1024.size inb) hr').squeeze S64x1024 squeezes_S1x64x1024_S64x1024)
            (.dma sS) hsc) (.dma sR) hsrc hdst hsem) k) Q) := by
  subst hoff
  exact s_t (F := F) m K c q j n hn hq hS hR l

/-- What a device needs to send block `q`, its own block excepted, and what it then holds. -/
def toSend : sProp 𝕄 :=
  if q = c then iprop(emp) else iprop((tok (F := F) c (.so q) c ∗ tok (F := F) q (.ro c) c) ∗ (tok (F := F) c (.sml q) c ∗ tok (F := F) q (.rml c) c) ∗ barPayA (F := F) c q)
def sent : sProp 𝕄 :=
  if q = c then iprop(oPt (F := F) c q (bufO m c) ∗ mlPt (F := F) c q (bufML m c)) else iprop(crd (F := F) c (.so q) ∗ crd (F := F) c (.sml q))
def done : sProp 𝕄 :=
  if q = c then iprop(emp) else iprop(oPt (F := F) c q (bufO m c) ∗ mlPt (F := F) c q (bufML m c))
def rnd (q : Dev nD) : ℕ := if q = c then 0 else 1

/-- The two transfers of block `q` to a peer. -/
theorem s_both {α : Type} {B : Prog (TpuEff nD τ sig (Elt F) Λ₀ .tc) α} {Q : α → sProp 𝕄} (hq : q ≠ c) (n n' : Dev nD) (hn : n = q) (hn' : n' = q)
    {sS sS' sR sR' : DmaSem sig} (hS : SemLoc.dma sS = csem (.so q)) (hR : SemLoc.dma sR = csem (.ro c))
    (hS' : SemLoc.dma sS' = csem (.sml q)) (hR' : SemLoc.dma sR' = csem (.rml c)) {off off' : Fin 3 → ℕ} (hoff : off = ![c.val, 0, 0]) (hoff' : off' = ![c.val, 0, 0])
    {inb inb' hr hr1 hr2 hr3 hsc hsc' hsrc hdst hsem hsrc' hdst' hsem'} (l : List (Dev nD × Ck)) :
    iprop(recs (F := F) m K ∗ ow (F := F) c ((q, .ro c) :: (q, .rml c) :: l) ∗ ((tok (F := F) c (.so q) c ∗ tok (F := F) q (.ro c) c) ∗ (tok (F := F) c (.sml q) c ∗ tok (F := F) q (.rml c) c) ∗ barPayA (F := F) c q)
        ∗ oPt (F := F) c q (bufO m c) ∗ mlPt (F := F) c q (bufML m c))
      ⊢ iprop((((crd (F := F) c (.so q) ∗ crd (F := F) c (.sml q)) ∗ ow (F := F) c l) -∗ WP (F := F) c B Q)
        -∗ WP (F := F) c (.op (.enqueueDma (oSrcM q hr) (.remote (Dev.tc n : Thread nD τ)
              (((Memref.whole cc0_scratch2).slice (Rect.unit (s := S4x512x128) off S1x512x128.size inb) hr1).squeeze S512x128 squeezes_S1x512x128_S512x128)
              (.dma sS) hsc) (.dma sR) hsrc hdst hsem) fun _ =>
            .op (.enqueueDma (mlSrcM q hr2) (.remote (Dev.tc n' : Thread nD τ)
              (((Memref.whole cc0_scratch3).slice (Rect.unit (s := S4x16x64) off' S1x16x64.size inb') hr3).squeeze S16x64 squeezes_S1x16x64_S16x64)
              (.dma sS') hsc') (.dma sR') hsrc' hdst' hsem') fun _ => B) Q) := by
  unfold barPayA
  iintro ⟨#Hr, Ho, ⟨⟨T1, T2⟩, ⟨T3, T4⟩, ⟨D1, D2⟩⟩, H1, H2⟩ Hk
  iapply (s_o' (F := F) m K c q n hn hq hS hR hoff ((q, .rml c) :: l)) $$ [Ho T1 T2 H1 D1]
  · isplitr; · iexact Hr
    isplitl [Ho]; · iexact Ho
    isplitl [T1]; · iexact T1
    isplitl [T2]; · iexact T2
    isplitl [H1] <;> iassumption
  iintro ⟨C1, Ho⟩
  iapply (s_ml' (F := F) m K c q n' hn' hq hS' hR' hoff' l) $$ [Ho T3 T4 H2 D2]
  · isplitr; · iexact Hr
    isplitl [Ho]; · iexact Ho
    isplitl [T3]; · iexact T3
    isplitl [T4]; · iexact T4
    isplitl [H2] <;> iassumption
  iintro ⟨C2, Ho⟩
  iapply Hk
  isplitl [C1 C2]
  · isplitl [C1] <;> iassumption
  iexact Ho

/-- The same, skipped for the own block. -/
theorem r_sendQ {α β : Type} {k : β → Prog (TpuEff nD τ sig (Elt F) Λ₀ .tc) α} {B : Prog (TpuEff nD τ sig (Elt F) Λ₀ .tc) β} {Q : α → sProp 𝕄} {b : BitVec 1} (hb : b = 1#1 ↔ q ≠ c)
    {A : b = 1#1 → Prog (TpuEff nD τ sig (Elt F) Λ₀ .tc) β} (l : List (Dev nD × Ck))
    (hA : ∀ (h : b = 1#1) (_ : q ≠ c), iprop(recs (F := F) m K ∗ ow (F := F) c ((q, .ro c) :: (q, .rml c) :: l) ∗ ((tok (F := F) c (.so q) c ∗ tok (F := F) q (.ro c) c) ∗ (tok (F := F) c (.sml q) c ∗ tok (F := F) q (.rml c) c) ∗ barPayA (F := F) c q)
        ∗ oPt (F := F) c q (bufO m c) ∗ mlPt (F := F) c q (bufML m c))
      ⊢ iprop((((crd (F := F) c (.so q) ∗ crd (F := F) c (.sml q)) ∗ ow (F := F) c l) -∗ WP (F := F) c (B >>= k) Q) -∗ WP (F := F) c (A h >>= k) Q)) :
    iprop(recs (F := F) m K ∗ ow (F := F) c (oweQ c q ++ l) ∗ toSend (F := F) c q ∗ oPt (F := F) c q (bufO m c) ∗ mlPt (F := F) c q (bufML m c))
      ⊢ iprop(((sent (F := F) m c q ∗ ow (F := F) c l) -∗ WP (F := F) c (B >>= k) Q)
        -∗ WP (F := F) c ((if h : b = 1#1 then A h else B) >>= k) Q) := by
  by_cases hq : q = c
  · have hb' : ¬ b = 1#1 := fun h => hb.mp h hq
    rw [dif_neg hb', oweQ, if_pos hq, toSend, if_pos hq, sent, if_pos hq]
    simp only [List.nil_append]
    iintro ⟨#Hr, Ho, -, H1, H2⟩ Hk
    iapply Hk
    isplitl [H1 H2]
    · isplitl [H1] <;> iassumption
    iexact Ho
  · have hb' : b = 1#1 := hb.mpr hq
    rw [dif_pos hb', oweQ, if_neg hq, toSend, if_neg hq, sent, if_neg hq]
    exact hA hb' hq

/-- The waits for the two transfers of block `q` to have left. -/
theorem w_both {α : Type} {B : Prog (TpuEff nD τ sig (Elt F) Λ₀ .tc) α} {Q : α → sProp 𝕄} (hq : q ≠ c)
    {sS sS' : DmaSem sig} (hS : SemLoc.dma sS = csem (.so q)) (hS' : SemLoc.dma sS' = csem (.sml q))
    {src : Memref sig .tc .vmem S512x128 .bf16} {src' : Memref sig .tc .vmem S16x64 .f32}
    {dst : Memref sig .tc .vmem S512x128 .bf16} {dst' : Memref sig .tc .vmem S16x64 .f32} (hN : dst.view.dmaCredit = nOb) (hN' : dst'.view.dmaCredit = nML)
    {hsrc hdst hsrc' hdst'} :
    iprop(recs (F := F) m K ∗ ow (F := F) c [] ∗ (crd (F := F) c (.so q) ∗ crd (F := F) c (.sml q)) ∗ pos (F := F) c (.so q) 0 ∗ pos (F := F) c (.sml q) 0)
      ⊢ iprop(((ow (F := F) c [] ∗ (oPt (F := F) c q (bufO m c) ∗ mlPt (F := F) c q (bufML m c)) ∗ pos (F := F) c (.so q) 1 ∗ pos (F := F) c (.sml q) 1) -∗ WP (F := F) c B Q)
        -∗ WP (F := F) c (.op (.waitDma2 sS src dst hsrc hdst) fun _ => .op (.waitDma2 sS' src' dst' hsrc' hdst') fun _ => B) Q) := by
  iintro ⟨#Hr, Ho, ⟨C1, C2⟩, H1, H2⟩ Hk
  iapply (r_waitD (F := F) m K c (.so q) c hS hN (if_neg hq) [] (fun x hx => absurd hx List.not_mem_nil)) $$ [Ho C1 H1]
  · isplitr; · iexact Hr
    isplitl [C1]; · iexact C1
    isplitl [Ho] <;> iassumption
  iintro ⟨Ho, H1, P1⟩
  iapply (r_waitD (F := F) m K c (.sml q) c hS' hN' (if_neg hq) [] (fun x hx => absurd hx List.not_mem_nil)) $$ [Ho C2 H2]
  · isplitr; · iexact Hr
    isplitl [C2]; · iexact C2
    isplitl [Ho] <;> iassumption
  iintro ⟨Ho, H2, P2⟩
  iapply Hk
  isplitl [Ho]; · iexact Ho
  isplitl [P1 P2]
  · dsimp only [payOf]
    isplitl [P1] <;> iassumption
  isplitl [H1] <;> iassumption

/-- The same, skipped for the own block. -/
theorem r_done {α : Type} {B : Prog (TpuEff nD τ sig (Elt F) Λ₀ .tc) α} {Q : α → sProp 𝕄} {b : BitVec 1} (hb : b = 1#1 ↔ q ≠ c)
    {A : b = 1#1 → Prog (TpuEff nD τ sig (Elt F) Λ₀ .tc) α}
    (hA : ∀ (h : b = 1#1) (_ : q ≠ c), iprop(recs (F := F) m K ∗ ow (F := F) c [] ∗ (crd (F := F) c (.so q) ∗ crd (F := F) c (.sml q)) ∗ pos (F := F) c (.so q) 0 ∗ pos (F := F) c (.sml q) 0)
      ⊢ iprop(((ow (F := F) c [] ∗ (oPt (F := F) c q (bufO m c) ∗ mlPt (F := F) c q (bufML m c)) ∗ pos (F := F) c (.so q) 1 ∗ pos (F := F) c (.sml q) 1) -∗ WP (F := F) c B Q)
        -∗ WP (F := F) c (A h) Q)) :
    iprop(recs (F := F) m K ∗ ow (F := F) c [] ∗ (if q = c then iprop(emp) else iprop(crd (F := F) c (.so q) ∗ crd (F := F) c (.sml q))) ∗ pos (F := F) c (.so q) 0 ∗ pos (F := F) c (.sml q) 0)
      ⊢ iprop(((ow (F := F) c [] ∗ done (F := F) m c q ∗ pos (F := F) c (.so q) (rnd c q) ∗ pos (F := F) c (.sml q) (rnd c q)) -∗ WP (F := F) c B Q)
        -∗ WP (F := F) c (if h : b = 1#1 then A h else B) Q) := by
  by_cases hq : q = c
  · have hb' : ¬ b = 1#1 := fun h => hb.mp h hq
    rw [dif_neg hb', if_pos hq, done, if_pos hq, rnd, if_pos hq]
    iintro ⟨#Hr, Ho, -, H1, H2⟩ Hk
    iapply Hk
    isplitl [Ho]; · iexact Ho
    isplitr; · iempintro
    isplitl [H1] <;> iassumption
  · have hb' : b = 1#1 := hb.mpr hq
    rw [dif_pos hb', if_neg hq, done, if_neg hq, rnd, if_neg hq]
    exact hA hb' hq

/-- A conditional followed by more is a conditional of the two continued. -/
theorem dite_cont {α β : Type} {b : BitVec 1} {A : b = 1#1 → Prog (TpuEff nD τ sig (Elt F) Λ₀ .tc) α} {B : Prog (TpuEff nD τ sig (Elt F) Λ₀ .tc) α} {k : α → Prog (TpuEff nD τ sig (Elt F) Λ₀ .tc) β} :
    (if h : b = 1#1 then A h else B) >>= k = if h : b = 1#1 then A h >>= k else B >>= k := by
  by_cases h : b = 1#1
  · rw [dif_pos h, dif_pos h]
  · rw [dif_neg h, dif_neg h]
/-- The same with more to follow. -/
theorem r_done' {α β : Type} {k : β → Prog (TpuEff nD τ sig (Elt F) Λ₀ .tc) α} {B : Prog (TpuEff nD τ sig (Elt F) Λ₀ .tc) β} {Q : α → sProp 𝕄} {b : BitVec 1} (hb : b = 1#1 ↔ q ≠ c)
    {A : b = 1#1 → Prog (TpuEff nD τ sig (Elt F) Λ₀ .tc) β}
    (hA : ∀ (h : b = 1#1) (_ : q ≠ c), iprop(recs (F := F) m K ∗ ow (F := F) c [] ∗ (crd (F := F) c (.so q) ∗ crd (F := F) c (.sml q)) ∗ pos (F := F) c (.so q) 0 ∗ pos (F := F) c (.sml q) 0)
      ⊢ iprop(((ow (F := F) c [] ∗ (oPt (F := F) c q (bufO m c) ∗ mlPt (F := F) c q (bufML m c)) ∗ pos (F := F) c (.so q) 1 ∗ pos (F := F) c (.sml q) 1) -∗ WP (F := F) c (B >>= k) Q)
        -∗ WP (F := F) c (A h >>= k) Q)) :
    iprop(recs (F := F) m K ∗ ow (F := F) c [] ∗ (if q = c then iprop(emp) else iprop(crd (F := F) c (.so q) ∗ crd (F := F) c (.sml q))) ∗ pos (F := F) c (.so q) 0 ∗ pos (F := F) c (.sml q) 0)
      ⊢ iprop(((ow (F := F) c [] ∗ done (F := F) m c q ∗ pos (F := F) c (.so q) (rnd c q) ∗ pos (F := F) c (.sml q) (rnd c q)) -∗ WP (F := F) c (B >>= k) Q)
        -∗ WP (F := F) c ((if h : b = 1#1 then A h else B) >>= k) Q) := by
  rw [dite_cont]
  exact r_done (F := F) m K c q hb hA

end Exchange

/-! ## Loads of whole buffers and of the halves of the keys and values -/

theorem hz2 : (![0, 0] : Fin 2 → ℕ) = fun _ => 0 := funext fun a => by fin_cases a <;> rfl
theorem hz3 : (![0, 0, 0] : Fin 3 → ℕ) = fun _ => 0 := funext fun a => by fin_cases a <;> rfl

section Loads2
variable (c : Dev nD)

theorem ld_x {α : Type} {k : Vec F S1x256x1024 .f32 → Prog (TpuEff nD τ sig (Elt F) Λ₀ .tc) α} {Q : α → sProp 𝕄} {inb hl} (f : (cc0_stg0_0 : Ref sig .tc).ty.Contents (Elt F)) :
    ((((c : Thread nD τ).loc cc0_stg0_0) ↦{fullShare} f) : sProp 𝕄) ⊢ iprop(((((c : Thread nD τ).loc cc0_stg0_0) ↦{fullShare} f) -∗ WP (F := F) c (k f) Q)
      -∗ WP (F := F) c (.op (.load (Memref.whole cc0_stg0_0) (Rect.unit (s := S1x256x1024) ![0, 0, 0] S1x256x1024.size inb).toLoadRect hl) k) Q) := by
  have h := ld_gen (F := F) c (Q := Q) (k := k) (Memref.whole cc0_stg0_0) (Rect.unit (s := S1x256x1024) ![0, 0, 0] S1x256x1024.size inb) (hl := hl) (sh := fullShare) Finset.univ f (Finset.subset_univ _)
  rw [show ((Memref.whole cc0_stg0_0 : Memref sig .tc .vmem S1x256x1024 .f32).access (Rect.unit (s := S1x256x1024) ![0, 0, 0] S1x256x1024.size inb)).read (Elt F) f = f
    from Memref.readAt_unit_zero (Elt F) cc0_stg0_0 hz3 inb f] at h
  exact h
theorem ld_wq {α : Type} {k : Vec F S1024x1024 .f32 → Prog (TpuEff nD τ sig (Elt F) Λ₀ .tc) α} {Q : α → sProp 𝕄} {inb hl} (f : (cc0_stg1_0 : Ref sig .tc).ty.Contents (Elt F)) :
    ((((c : Thread nD τ).loc cc0_stg1_0) ↦{fullShare} f) : sProp 𝕄) ⊢ iprop(((((c : Thread nD τ).loc cc0_stg1_0) ↦{fullShare} f) -∗ WP (F := F) c (k f) Q)
      -∗ WP (F := F) c (.op (.load (Memref.whole cc0_stg1_0) (Rect.unit (s := S1024x1024) ![0, 0] S1024x1024.size inb).toLoadRect hl) k) Q) := by
  have h := ld_gen (F := F) c (Q := Q) (k := k) (Memref.whole cc0_stg1_0) (Rect.unit (s := S1024x1024) ![0, 0] S1024x1024.size inb) (hl := hl) (sh := fullShare) Finset.univ f (Finset.subset_univ _)
  rw [show ((Memref.whole cc0_stg1_0 : Memref sig .tc .vmem S1024x1024 .f32).access (Rect.unit (s := S1024x1024) ![0, 0] S1024x1024.size inb)).read (Elt F) f = f
    from Memref.readAt_unit_zero (Elt F) cc0_stg1_0 hz2 inb f] at h
  exact h
theorem ld_wo {α : Type} {k : Vec F S1024x1024 .f32 → Prog (TpuEff nD τ sig (Elt F) Λ₀ .tc) α} {Q : α → sProp 𝕄} {inb hl} (f : (cc0_scratch8 : Ref sig .tc).ty.Contents (Elt F)) :
    wPt (F := F) c f ⊢ iprop((wPt (F := F) c f -∗ WP (F := F) c (k f) Q)
      -∗ WP (F := F) c (.op (.load (Memref.whole cc0_scratch8) (Rect.unit (s := S1024x1024) ![0, 0] S1024x1024.size inb).toLoadRect hl) k) Q) := by
  have h := ld_gen (F := F) c (Q := Q) (k := k) (Memref.whole cc0_scratch8) (Rect.unit (s := S1024x1024) ![0, 0] S1024x1024.size inb) (hl := hl) (sh := fullShare) Finset.univ f (Finset.subset_univ _)
  rw [show ((Memref.whole cc0_scratch8 : Memref sig .tc .vmem S1024x1024 .f32).access (Rect.unit (s := S1024x1024) ![0, 0] S1024x1024.size inb)).read (Elt F) f = f
    from Memref.readAt_unit_zero (Elt F) cc0_scratch8 hz2 inb f] at h
  exact h
/-- The block to be sent is loaded, unused, and then stored. -/
theorem st_s {α : Type} {k : PUnit → Prog (TpuEff nD τ sig (Elt F) Λ₀ .tc) α} {Q : α → sProp 𝕄} {inb inb' hl hx hm} {w : Vec F S64x1024 .bf16} (hw : w = outS m c) (f : (cc0_scratch4 : Ref sig .tc).ty.Contents (Elt F)) :
    sPt (F := F) c fullShare f ⊢ iprop((sPt (F := F) c fullShare (outS m c) -∗ WP (F := F) c (k ⟨⟩) Q)
      -∗ WP (F := F) c (.op (.load (Memref.whole cc0_scratch4) (Rect.unit (s := S64x1024) ![0, 0] S64x1024.size inb).toLoadRect hl) fun _ =>
        .op (.store (Memref.whole cc0_scratch4) (Rect.unit (s := S64x1024) ![0, 0] S64x1024.size inb') w Finset.univ hx hm) k) Q) := by
  subst hw
  unfold sPt
  iintro H Hk
  iapply (ld_gen (F := F) c (Memref.whole cc0_scratch4) (Rect.unit (s := S64x1024) ![0, 0] S64x1024.size inb) Finset.univ f (Finset.subset_univ _)) $$ H
  iintro H
  iapply (wp_store 𝒱₀ (c : Thread nD τ) none Set.univ (m := Memref.whole cc0_scratch4) (r := Rect.unit (s := S64x1024) ![0, 0] S64x1024.size inb') (S := Finset.univ) (f := f) (w := outS m c)
    (Finset.subset_univ _)) $$ H
  iintro H
  iapply Hk
  rw [show ((Memref.whole cc0_scratch4 : Memref sig .tc .vmem S64x1024 .bf16).access (Rect.unit (s := S64x1024) ![0, 0] S64x1024.size inb')).write (Elt F) f (outS m c) Finset.univ = outS m c
    from Memref.write_access_unit_zero_univ (Elt F) cc0_scratch4 hz2 inb' f (outS m c)]
  iexact H

theorem ld_k {α : Type} (b : Fin 2) {k : Vec F S1x2048x8x128 .f32 → Prog (TpuEff nD τ sig (Elt F) Λ₀ .tc) α} {Q : α → sProp 𝕄} {hl} :
    kPt (F := F) c b (kBuf m c) ⊢ iprop((kPt (F := F) c b (kBuf m c) -∗ WP (F := F) c (k (kH m c b)) Q)
      -∗ WP (F := F) c (.op (.load (Memref.whole cc0_scratch6) (halfR b).toLoadRect hl) k) Q) :=
  ld_gen (F := F) c (Memref.whole cc0_scratch6) (halfR b) ((halfR b).set : Finset S1x4096x8x128.Idx) (kBuf m c) (View.set_slice_whole _ _).subset
theorem ld_v {α : Type} (b : Fin 2) {k : Vec F S1x2048x8x128 .f32 → Prog (TpuEff nD τ sig (Elt F) Λ₀ .tc) α} {Q : α → sProp 𝕄} {hl} :
    vPt (F := F) c b (vBuf m c) ⊢ iprop((vPt (F := F) c b (vBuf m c) -∗ WP (F := F) c (k (vH m c b)) Q)
      -∗ WP (F := F) c (.op (.load (Memref.whole cc0_scratch7) (halfR b).toLoadRect hl) k) Q) :=
  ld_gen (F := F) c (Memref.whole cc0_scratch7) (halfR b) ((halfR b).set : Finset S1x4096x8x128.Idx) (vBuf m c) (View.set_slice_whole _ _).subset

/-! ## The rows of the result -/

/-- The rows of block `p` as device `c` stores them. -/
def tileT (p : Dev nD) : FVec F S64x1024 .f32 :=
  if p = c then outQ m c else extf .f32 (outS m p : FVec F S64x1024 .bf16) bitsLt_bf16_f32

theorem outW_at (p : Dev nD) (i : S1x256x1024.Idx) (j : S64x1024.Idx) (h0 : (i 1).val = 64 * p.val + (j 0).val) (h1 : (i 2).val = (j 1).val) :
    outW m c i = tileT m c p j := by
  have hj : (j 0).val < 64 := (j 0).isLt
  have hp := p.isLt
  unfold outW tileT
  have e : (⟨(i 1).val / 64, by have := (i 1).isLt; exact Nat.div_lt_of_lt_mul this⟩ : Dev nD) = p := Fin.ext (by show (i 1).val / 64 = p.val; omega)
  have ej : (ix2 ⟨(i 1).val % 64, Nat.mod_lt _ (by decide)⟩ (i 2) : S64x1024.Idx) = j := by
    rw [eq_ix2 j, Fin.ext (show (i 2).val = (j 1).val from h1)]
    exact congrArg (fun a => ix2 a (j 1)) (Fin.ext (by show (i 1).val % 64 = (j 0).val; omega))
  by_cases h : p = c
  · rw [if_pos h, if_pos (by rw [← h]; show (i 1).val / 64 = p.val; omega), ej]
  · rw [if_neg h, if_neg (fun h' => h (Fin.ext (by rw [← h']; omega))), e, ej]

/-- The rows of the blocks in `T` are stored. -/
def wFill (T : Finset (Dev nD)) : sProp 𝕄 :=
  iprop(∃ f, ⌜∀ i : S1x256x1024.Idx, ∀ p ∈ T, (i 1).val / 64 = p.val → f i = outW m c i⌝ ∗ (((c : Thread nD τ).loc cc0_stg2_0) ↦{fullShare} f))

theorem st_w {α : Type} {k : PUnit → Prog (TpuEff nD τ sig (Elt F) Λ₀ .tc) α} {Q : α → sProp 𝕄} (p : Dev nD) (T : Finset (Dev nD)) {off : Fin 3 → ℕ} (hoff : off = ![0, 64 * p.val, 0])
    {inb inb' hl hx hm} {w : Vec F S1x64x1024 .f32} (hw : ∀ x, w x = tileT m c p (ix2 (x 1) (x 2))) :
    wFill (F := F) m c T ⊢ iprop((wFill (F := F) m c (insert p T) -∗ WP (F := F) c (k ⟨⟩) Q)
      -∗ WP (F := F) c (.op (.load (Memref.whole cc0_stg2_0) (Rect.unit (s := S1x256x1024) off S1x64x1024.size inb).toLoadRect hl) fun _ =>
        .op (.store (Memref.whole cc0_stg2_0) (Rect.unit (s := S1x256x1024) off S1x64x1024.size inb') w Finset.univ hx hm) k) Q) := by
  subst hoff
  conv_lhs => unfold wFill
  iintro ⟨%f, %hf, H⟩ Hk
  iapply (ld_gen (F := F) c (Memref.whole cc0_stg2_0) (Rect.unit (s := S1x256x1024) ![0, 64 * p.val, 0] S1x64x1024.size inb) Finset.univ f (Finset.subset_univ _)) $$ H
  iintro H
  iapply (st_gen (F := F) c (Memref.whole cc0_stg2_0) (Rect.unit (s := S1x256x1024) ![0, 64 * p.val, 0] S1x64x1024.size inb') Finset.univ
      (Rect.unit (s := S1x256x1024) ![0, 64 * p.val, 0] S1x64x1024.size inb').set f (outW m c) (View.set_slice_whole _ _) (Finset.subset_univ _)
      (fun x => (hw x).trans (outW_at m c p ((Rect.unit (s := S1x256x1024) ![0, 64 * p.val, 0] S1x64x1024.size inb').emb x) (ix2 (x 1) (x 2))
        (by show 64 * p.val + 1 * (x 1).val = 64 * p.val + (x 1).val; omega) (by show 0 + 1 * (x 2).val = (x 2).val; omega)).symm)
      (P := wFill (F := F) m c (insert p T)) (fun f' h1' h2' => by
    unfold wFill
    iintro H
    iexists f'
    isplitr
    · ipureintro
      intro i r hr hi
      by_cases hp : (i 1).val / 64 = p.val
      · refine h1' i ?_
        rw [Rect.mem_set_unit]
        intro a
        match a with
        | 0 => exact ⟨Nat.zero_le _, by have h2 : (i 0).val < 1 := (i 0).isLt; show (i 0).val < 0 + 1; omega⟩
        | 1 => show 64 * p.val ≤ (i 1).val ∧ (i 1).val < 64 * p.val + 64; omega
        | 2 => exact ⟨Nat.zero_le _, by have h2 : (i 2).val < 1024 := (i 2).isLt; show (i 2).val < 0 + 1024; omega⟩
      · rw [h2' i ?_]
        · refine hf i r ((Finset.mem_insert.mp hr).resolve_left fun e => hp (e ▸ hi)) hi
        · rw [Rect.mem_set_unit]; intro h'; have h2 := h' 1
          change 64 * p.val ≤ (i 1).val ∧ (i 1).val < 64 * p.val + 64 at h2; omega
    iexact H)) $$ H
  iexact Hk

theorem wFill_end : wFill (F := F) m c Finset.univ ⊢ ((((c : Thread nD τ).loc cc0_stg2_0) ↦{fullShare} outW m c) : sProp 𝕄) := by
  unfold wFill
  iintro ⟨%f, %hf, H⟩
  rw [show f = outW m c from funext fun i => hf i ⟨(i 1).val / 64, by have := (i 1).isLt; exact Nat.div_lt_of_lt_mul this⟩ (Finset.mem_univ _) rfl]
  iexact H

/-- A received block as a load delivers it. -/
def rcvT (p : Dev nD) : Vec F S1x64x1024 .bf16 := fun x => (outS m p : FVec F S64x1024 .bf16) (ix2 (x 1) (x 2))
theorem ld_t {α : Type} {k : Vec F S1x64x1024 .bf16 → Prog (TpuEff nD τ sig (Elt F) Λ₀ .tc) α} {Q : α → sProp 𝕄} (p : Dev nD) {off : Fin 3 → ℕ} (hoff : off = ![p.val, 0, 0]) {inb hl} :
    rtPt (F := F) c p (outR m c) ⊢ iprop((rtPt (F := F) c p (outR m c) -∗ WP (F := F) c (k (rcvT m p)) Q)
      -∗ WP (F := F) c (.op (.load (Memref.whole cc0_scratch5) (Rect.unit (s := S4x64x1024) off S1x64x1024.size inb).toLoadRect hl) k) Q) := by
  subst hoff
  have e : ((Memref.whole cc0_scratch5 : Memref sig .tc .vmem S4x64x1024 .bf16).access (Rect.unit (s := S4x64x1024) ![p.val, 0, 0] S1x64x1024.size inb)).read (Elt F) (outR m c)
      = rcvT m p := by
    funext x
    have x0 : (x 0).val < 1 := (x 0).isLt
    have key : ∀ (p' : Fin 4) (a : Fin 64) (b : Fin 1024), p'.val = p.val → a.val = (x 1).val → b.val = (x 2).val →
        (outS m p' : FVec F S64x1024 .bf16) (ix2 a b) = (outS m p : FVec F S64x1024 .bf16) (ix2 (x 1) (x 2)) := by
      intro p' a b h1 h2 h3
      obtain rfl := Fin.ext h1
      rw [Fin.ext h2, Fin.ext h3]
    exact key _ _ _ (by show p.val + 1 * (x 0).val = p.val; omega) (by show 0 + 1 * (x 1).val = (x 1).val; omega) (by show 0 + 1 * (x 2).val = (x 2).val; omega)
  rw [← e]
  exact ld_gen (F := F) c (Memref.whole cc0_scratch5) (Rect.unit (s := S4x64x1024) ![p.val, 0, 0] S1x64x1024.size inb) ((rtR p).set : Finset S4x64x1024.Idx) (outR m c)
    (View.set_slice_whole _ _).subset

theorem tile_own {x : S1x64x1024.Idx} : shapeCast S1x64x1024 (outQ m c) shapeCasts_S64x1024_S1x64x1024 x = tileT m c c (ix2 (x 1) (x 2)) := by
  unfold tileT
  rw [if_pos rfl]
  conv_lhs => rw [eq_ix3 x]
  exact shapeCast_ab_1ab_apply _ _ _ _ _
theorem tile_peer (p : Dev nD) (hp : p ≠ c) {x : S1x64x1024.Idx} :
    shapeCast S1x64x1024 (extf .f32 (shapeCast S64x1024 (rcvT m p) shapeCasts_S1x64x1024_S64x1024 : FVec F S64x1024 .bf16) bitsLt_bf16_f32 : FVec F S64x1024 .f32)
      shapeCasts_S64x1024_S1x64x1024 x = tileT m c p (ix2 (x 1) (x 2)) := by
  unfold tileT
  rw [if_neg hp]
  have e : shapeCast S64x1024 (rcvT m p) shapeCasts_S1x64x1024_S64x1024 = (outS m p : FVec F S64x1024 .bf16) := by
    funext y
    conv_lhs => rw [eq_ix2 y]
    refine (shapeCast_1ab_ab_apply (rcvT m p) _ (y 0) (y 1)).trans ?_
    exact congrArg (outS m p : FVec F S64x1024 .bf16) (eq_ix2 y).symm
  rw [e]
  conv_lhs => rw [eq_ix3 x]
  exact shapeCast_ab_1ab_apply _ _ _ _ _

end Loads2

end Cert.AttnProof
end
-- ==== Proof.BodyC.lean ====
/- The end of the body: the output weights arrive, the result's own rows are stored and sent to the peers, the peers' rows
   are received and stored, and the outstanding transfers are waited for. -/
module

public import proofs.«01_k».proof.Proof.Steps

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-- A part of the kernel on the buffers and semaphores the launch calls it with. -/
abbrev on {β : Type 1} (f : ∀ (arg0 : Memref sig .tc .vmem S1x256x1024 .f32) (harg0 : arg0.IsWhole) (arg1 : Memref sig .tc .vmem S1024x1024 .f32) (harg1 : arg1.IsWhole) (arg2 : Memref sig .tc .hbm S1x4096x8x128 .f32) (harg2 : arg2.IsWhole) (arg3 : Memref sig .tc .hbm S1x4096x8x128 .f32) (harg3 : arg3.IsWhole) (arg4 : Memref sig .tc .hbm S1024x1024 .f32) (harg4 : arg4.IsWhole) (arg5 : Memref sig .tc .vmem S1x256x1024 .f32) (harg5 : arg5.IsWhole) (arg6 : Memref sig .tc .vmem S2048x128 .bf16) (harg6 : arg6.IsWhole) (arg7 : Memref sig .tc .vmem S4x16x64 .f32) (harg7 : arg7.IsWhole) (arg8 : Memref sig .tc .vmem S4x512x128 .bf16) (harg8 : arg8.IsWhole) (arg9 : Memref sig .tc .vmem S4x16x64 .f32) (harg9 : arg9.IsWhole) (arg10 : Memref sig .tc .vmem S64x1024 .bf16) (harg10 : arg10.IsWhole) (arg11 : Memref sig .tc .vmem S4x64x1024 .bf16) (harg11 : arg11.IsWhole) (arg12 : Memref sig .tc .vmem S1x4096x8x128 .f32) (harg12 : arg12.IsWhole) (arg13 : Memref sig .tc .vmem S1x4096x8x128 .f32) (harg13 : arg13.IsWhole) (arg14 : Memref sig .tc .vmem S1024x1024 .f32) (harg14 : arg14.IsWhole) (arg15 : DmaSems sig S2x2) (arg16 : DmaSems sig S_) (arg17 : DmaSems sig S4) (arg18 : DmaSems sig S4) (arg19 : DmaSems sig S4) (arg20 : DmaSems sig S4) (arg21 : DmaSems sig S3) (arg22 : DmaSems sig S4), β) : β :=
  f (Memref.whole cc0_stg0_0) (Memref.isWhole_whole _) (Memref.whole cc0_stg1_0) (Memref.isWhole_whole _) (Memref.whole main_arg2) (Memref.isWhole_whole _) (Memref.whole main_arg3) (Memref.isWhole_whole _) (Memref.whole main_arg4) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16

section End
variable (c : Dev nD)

/-- The last parts of the body, from the wait for the output weights. -/
def bodyC (v2 v4 v6 v8 : BitVec 32) (v2196 v2277 v2358 v2439 v2520 v2601 v2682 : FVec F S64x128 .f32) (v2716 : FVec F S64 .f32) (v2719 : FVec F S64x128 .bf16) (v2746 : FVec F S64 .f32) (v2751 : FVec F S64x128 .f32) (v2753 : FVec F S64 .f32) :
    Prog (TpuEff nD τ sig (Elt F) Λ₀ .tc) PUnit := do
  on (k0_part65 (F := F)) c v2 v4 v6 v2196 v2277 v2358 v2439 v2520 v2601 v2682 v2716 v2719 v2746 v2751 v2753
  let v2824 ← on (k0_part66 (F := F)) c v4 v6 v8
  let ⟨v2857, c0_i32_962⟩ ← on (k0_part67 (F := F)) c v2 v6 v8 v2824
  if k0_h8 : k0_cond8 c = 1#1 then do
    let v2871 : DmaSems sig S1 := cc0_scratch11.slice (Rect.unit (s := S4) ![3] S1.size inb_S4_S1_3)
    let v2872 : DmaSems sig S_ := v2871.squeeze S_ squeezes_S1_S_
    let v2873 : Memref sig .tc .vmem S512x128 .bf16 := (Memref.whole cc0_scratch0).slice (Rect.unit (s := S2048x128) ![1536, 0] S512x128.size inb_S2048x128_S512x128_1536_0) (fun _ => rfl)
    let v2874 : Memref sig .tc .vmem S1x512x128 .bf16 := (Memref.whole cc0_scratch2).slice (Rect.unit (s := S4x512x128) (k0_off69 c) S1x512x128.size (k0_off69_inb c k0_h8)) (fun _ => rfl)
    let v2875 : Memref sig .tc .vmem S512x128 .bf16 := v2874.squeeze S512x128 squeezes_S1x512x128_S512x128
    Prog.lift (.waitDma2 v2872.sem v2875 v2873 (((Memref.isWhole_whole _).wordExact_slice rfl _ (k0_off69_wordsbf16 c k0_h8)).reshape _ _) ((Memref.isWhole_whole _).wordExact_slice rfl _ wordsbf16_S2048x128_S512x128_1536_0))
    let v2876 : DmaSems sig S1 := cc0_scratch13.slice (Rect.unit (s := S4) ![3] S1.size inb_S4_S1_3)
    let v2877 : DmaSems sig S_ := v2876.squeeze S_ squeezes_S1_S_
    let v2878 : Memref sig .tc .vmem S1x16x64 .f32 := (Memref.whole cc0_scratch1).slice (Rect.unit (s := S4x16x64) ![3, 0, 0] S1x16x64.size inb_S4x16x64_S1x16x64_3_0_0) (fun _ => rfl)
    let v2879 : Memref sig .tc .vmem S16x64 .f32 := v2878.squeeze S16x64 squeezes_S1x16x64_S16x64
    let v2880 : Memref sig .tc .vmem S1x16x64 .f32 := (Memref.whole cc0_scratch3).slice (Rect.unit (s := S4x16x64) (k0_off70 c) S1x16x64.size (k0_off70_inb c k0_h8)) (fun _ => rfl)
    let v2881 : Memref sig .tc .vmem S16x64 .f32 := v2880.squeeze S16x64 squeezes_S1x16x64_S16x64
    Prog.lift (.waitDma2 v2877.sem v2881 v2879 ((View.wordExact_bits rfl).reshape _ _) ((View.wordExact_bits rfl).reshape _ _))
    pure ⟨⟩
  else do
    pure ⟨⟩
  let v2859 : DmaSems sig S1 := cc0_scratch15.slice (Rect.unit (s := S3) ![0] S1.size inb_S3_S1_0)
  let v2860 : DmaSems sig S_ := v2859.squeeze S_ squeezes_S1_S_
  let v2861 : Memref sig .tc .vmem S1x64x1024 .bf16 := (Memref.whole cc0_scratch5).slice (Rect.unit (s := S4x64x1024) (k0_off59 c) S1x64x1024.size (k0_off59_inb c)) (fun _ => rfl)
  let v2862 : Memref sig .tc .vmem S64x1024 .bf16 := v2861.squeeze S64x1024 squeezes_S1x64x1024_S64x1024
  Prog.lift (.waitDma2 v2860.sem v2862 (Memref.whole cc0_scratch4) (((Memref.isWhole_whole _).wordExact_slice rfl _ (k0_off59_wordsbf16 c)).reshape _ _) (Memref.isWhole_whole _).wordExact)
  let v2863 : DmaSems sig S1 := cc0_scratch15.slice (Rect.unit (s := S3) ![1] S1.size inb_S3_S1_1)
  let v2864 : DmaSems sig S_ := v2863.squeeze S_ squeezes_S1_S_
  let v2865 : Memref sig .tc .vmem S1x64x1024 .bf16 := (Memref.whole cc0_scratch5).slice (Rect.unit (s := S4x64x1024) (k0_off59 c) S1x64x1024.size (k0_off59_inb c)) (fun _ => rfl)
  let v2866 : Memref sig .tc .vmem S64x1024 .bf16 := v2865.squeeze S64x1024 squeezes_S1x64x1024_S64x1024
  Prog.lift (.waitDma2 v2864.sem v2866 (Memref.whole cc0_scratch4) (((Memref.isWhole_whole _).wordExact_slice rfl _ (k0_off59_wordsbf16 c)).reshape _ _) (Memref.isWhole_whole _).wordExact)
  let v2867 : DmaSems sig S1 := cc0_scratch15.slice (Rect.unit (s := S3) ![2] S1.size inb_S3_S1_2)
  let v2868 : DmaSems sig S_ := v2867.squeeze S_ squeezes_S1_S_
  let v2869 : Memref sig .tc .vmem S1x64x1024 .bf16 := (Memref.whole cc0_scratch5).slice (Rect.unit (s := S4x64x1024) (k0_off59 c) S1x64x1024.size (k0_off59_inb c)) (fun _ => rfl)
  let v2870 : Memref sig .tc .vmem S64x1024 .bf16 := v2869.squeeze S64x1024 squeezes_S1x64x1024_S64x1024
  Prog.lift (.waitDma2 v2868.sem v2870 (Memref.whole cc0_scratch4) (((Memref.isWhole_whole _).wordExact_slice rfl _ (k0_off59_wordsbf16 c)).reshape _ _) (Memref.isWhole_whole _).wordExact)
  pure ⟨⟩

/-- What the exchange of one block of the output rows with `p` takes, and what it leaves. -/
def rowRes (j : Fin 3) (p : Dev nD) : sProp 𝕄 :=
  iprop(tok (F := F) c (.sout j) c ∗ tok (F := F) p (.rout c) c ∗ barPayB (F := F) c p ∗ crd (F := F) c (.rout p) ∗ pos (F := F) c (.rout p) 0 ∗ pos (F := F) c (.sout j) 0)
def rowEnd (j : Fin 3) (p : Dev nD) : sProp 𝕄 := iprop(rtPt (F := F) c p (outR m c) ∗ pos (F := F) c (.rout p) 1 ∗ pos (F := F) c (.sout j) 1)
/-- The two transfers of block `q` under way, and left. -/
def outst (q : Dev nD) : sProp 𝕄 :=
  iprop((if q = c then iprop(emp) else iprop(crd (F := F) c (.so q) ∗ crd (F := F) c (.sml q))) ∗ pos (F := F) c (.so q) 0 ∗ pos (F := F) c (.sml q) 0)
def outEnd (q : Dev nD) : sProp 𝕄 := iprop(done (F := F) m c q ∗ pos (F := F) c (.so q) (rnd c q) ∗ pos (F := F) c (.sml q) (rnd c q))

def inC : sProp 𝕄 :=
  iprop(ow (F := F) c (oweT c) ∗ (crd (F := F) c .wo ∗ pos (F := F) c .wo 0) ∗ (∃ f, ((c : Thread nD τ).loc cc0_stg2_0) ↦{fullShare} f) ∗ (∃ f, sPt (F := F) c fullShare f)
    ∗ (rowRes (F := F) c 0 (nx c 1) ∗ rowRes (F := F) c 1 (nx c 2) ∗ rowRes (F := F) c 2 (nx c 3))
    ∗ outst (F := F) c 0 ∗ outst (F := F) c 1 ∗ outst (F := F) c 2 ∗ outst (F := F) c 3)
def outC : sProp 𝕄 :=
  iprop(ow (F := F) c [] ∗ (payOf (F := F) m c c .wo ∗ pos (F := F) c .wo 1) ∗ ((((c : Thread nD τ).loc cc0_stg2_0) ↦{fullShare} outW m c) : sProp 𝕄) ∗ sPt (F := F) c fullShare (outS m c)
    ∗ (rowEnd (F := F) m c 0 (nx c 1) ∗ rowEnd (F := F) m c 1 (nx c 2) ∗ rowEnd (F := F) m c 2 (nx c 3))
    ∗ outEnd (F := F) m c 0 ∗ outEnd (F := F) m c 1 ∗ outEnd (F := F) m c 2 ∗ outEnd (F := F) m c 3)

theorem cond5_iff : ∀ c : Dev nD, k0_cond5 c = 1#1 ↔ (0 : Dev nD) ≠ c := by decide
theorem cond6_iff : ∀ c : Dev nD, k0_cond6 c = 1#1 ↔ (1 : Dev nD) ≠ c := by decide
theorem cond7_iff : ∀ c : Dev nD, k0_cond7 c = 1#1 ↔ (2 : Dev nD) ≠ c := by decide
theorem cond8_iff : ∀ c : Dev nD, k0_cond8 c = 1#1 ↔ (3 : Dev nD) ≠ c := by decide

theorem sPt_split (f : (cc0_scratch4 : Ref sig .tc).ty.Contents (Elt F)) :
    sPt (F := F) c fullShare f ⊢ iprop(sPt (F := F) c (shr 0) f ∗ sPt (F := F) c (shr 1) f ∗ sPt (F := F) c (shr 2) f) := by
  unfold sPt shr
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1] <;> iassumption
theorem sPt_join (f : (cc0_scratch4 : Ref sig .tc).ty.Contents (Elt F)) :
    iprop(sPt (F := F) c (shr 0) f ∗ sPt (F := F) c (shr 1) f ∗ sPt (F := F) c (shr 2) f) ⊢ sPt (F := F) c fullShare f := by
  unfold sPt shr
  iintro ⟨H0, H1, H2⟩
  ihave H := (pointsTo_share (PosShare.mem_left_op_right fullShare.right)).2 $$ [H1 H2]
  · isplitl [H1] <;> iassumption
  iapply (pointsTo_share (PosShare.mem_left_op_right fullShare)).2
  isplitl [H0] <;> iassumption

/-- Waiting for the rows of a peer and loading them. -/
theorem w_row {α : Type} {k : Vec F S1x64x1024 .bf16 → Prog (TpuEff nD τ sig (Elt F) Λ₀ .tc) α} {Q : α → sProp 𝕄} (p : Dev nD) (hp : p ≠ c) {sm : DmaSem sig} (hsm : SemLoc.dma sm = csem (.rout p))
    {src dst : Memref sig .tc .vmem S64x1024 .bf16} (hN : dst.view.dmaCredit = nT) {off : Fin 3 → ℕ} (hoff : off = ![p.val, 0, 0]) {hsrc hdst inb hl} :
    iprop(recs (F := F) m K ∗ crd (F := F) c (.rout p) ∗ ow (F := F) c [] ∗ pos (F := F) c (.rout p) 0)
      ⊢ iprop(((ow (F := F) c [] ∗ pos (F := F) c (.rout p) 1 ∗ rtPt (F := F) c p (outR m c)) -∗ WP (F := F) c (k (rcvT m p)) Q)
        -∗ WP (F := F) c (.op (.waitDma2 sm src dst hsrc hdst) fun _ =>
          .op (.load (Memref.whole cc0_scratch5) (Rect.unit (s := S4x64x1024) off S1x64x1024.size inb).toLoadRect hl) k) Q) := by
  iintro ⟨#Hr, C, Ho, P⟩ Hk
  iapply (r_waitD (F := F) m K c (.rout p) p hsm hN (if_neg hp) [] (fun x hx => absurd hx List.not_mem_nil)) $$ [C Ho P]
  · isplitr; · iexact Hr
    isplitl [C]; · iexact C
    isplitl [Ho] <;> iassumption
  iintro ⟨Ho, P, H⟩
  ihave H := (Entails.of_eq (show payOf (F := F) m c p (.rout p) = rtPt (F := F) c p (outR m c) from rfl)) $$ H
  iapply (ld_t (F := F) m c p hoff) $$ H
  iintro H
  iapply Hk
  isplitl [Ho]; · iexact Ho
  isplitl [P] <;> iassumption

/-- Waiting until the rows have left for a peer. -/
theorem w_out {α : Type} {k : PUnit → Prog (TpuEff nD τ sig (Elt F) Λ₀ .tc) α} {Q : α → sProp 𝕄} (j : Fin 3) {sm : DmaSem sig} (hsm : SemLoc.dma sm = csem (.sout j))
    {src : Memref sig .tc .vmem S64x1024 .bf16} {hsrc hdst} :
    iprop(recs (F := F) m K ∗ crd (F := F) c (.sout j) ∗ ow (F := F) c [] ∗ pos (F := F) c (.sout j) 0)
      ⊢ iprop(((ow (F := F) c [] ∗ pos (F := F) c (.sout j) 1 ∗ sPt (F := F) c (shr j) (outS m c)) -∗ WP (F := F) c (k ⟨⟩) Q)
        -∗ WP (F := F) c (.op (.waitDma2 sm src (Memref.whole cc0_scratch4) hsrc hdst) k) Q) :=
  r_waitD (F := F) m K c (.sout j) c hsm (show (Memref.whole cc0_scratch4 : Memref sig .tc .vmem S64x1024 .bf16).view.dmaCredit = nT by decide) rfl [] (fun x hx => absurd hx List.not_mem_nil)

theorem so_credit {off : Fin 2 → ℕ} {inb hr} : (((Memref.whole cc0_scratch0 : Memref sig .tc .vmem S2048x128 .bf16).slice (Rect.unit (s := S2048x128) off S512x128.size inb) hr)).view.dmaCredit = nOb :=
  (show (cc0_scratch0 : Ref sig .tc).dmaCredit S512x128 .bf16 = nOb by decide)
theorem sml_credit {off : Fin 3 → ℕ} {inb hr} : ((((Memref.whole cc0_scratch1 : Memref sig .tc .vmem S4x16x64 .f32).slice (Rect.unit (s := S4x16x64) off S1x16x64.size inb) hr)).squeeze S16x64 squeezes_S1x16x64_S16x64).view.dmaCredit = nML :=
  (show (cc0_scratch1 : Ref sig .tc).dmaCredit S16x64 .f32 = nML by decide)
theorem so_sem (A : DmaSems sig S4) (q : Fin 4) {off : Fin 1 → ℕ} (h : off = ![q.val]) {inb} : SemLoc.dma ((A.slice (Rect.unit (s := S4) off S1.size inb)).squeeze S_ squeezes_S1_S_).sem = SemLoc.dma (at4 A q) := congrArg SemLoc.dma (at4_eq A q h)

theorem fill_univ : ∀ c : Dev nD, (insert (nx c 3) (insert (nx c 2) (insert (nx c 1) (insert c ∅))) : Finset (Dev nD)) = Finset.univ := by decide

set_option maxHeartbeats 4000000 in
/-- The run of the last parts. -/
theorem runC {Q : PUnit → sProp 𝕄} {v2 v4 v6 v8 : BitVec 32} {v2196 v2277 v2358 v2439 v2520 v2601 v2682 : FVec F S64x128 .f32} {v2716 : FVec F S64 .f32} {v2719 : FVec F S64x128 .bf16} {v2746 : FVec F S64 .f32} {v2751 : FVec F S64x128 .f32} {v2753 : FVec F S64 .f32}
    (h706 : k0_pay706 v2196 v2277 v2358 v2439 v2520 v2601 v2682 v2716 v2719 v2746 v2751 v2753 (woBuf m c) = shapeCast S1x64x1024 (outQ m c) shapeCasts_S64x1024_S1x64x1024)
    (h707 : k0_pay707 v2196 v2277 v2358 v2439 v2520 v2601 v2682 v2716 v2719 v2746 v2751 v2753 (woBuf m c) = outS m c) :
    iprop(recs (F := F) m K ∗ inC (F := F) c)
      ⊢ iprop((outC (F := F) m c -∗ Q ⟨⟩) -∗ WP (F := F) c (bodyC (F := F) c v2 v4 v6 v8 v2196 v2277 v2358 v2439 v2520 v2601 v2682 v2716 v2719 v2746 v2751 v2753) Q) := by
  unfold bodyC on inC rowRes
  simp only [k0_part65_eq_skeleton, k0_part65_skel, k0_part66_eq_skeleton, k0_part66_skel, k0_part67_eq_skeleton, k0_part67_skel, Prog.lift, Prog.bind_op, Prog.bind_ret, Prog.pure_eq_ret, Prog.bind_assoc]
  iintro ⟨#Hr, Ho, ⟨Cw, Pw⟩, ⟨%fw, HW⟩, ⟨%fs, HS⟩, ⟨⟨Ta, Ta', Ba, Ca, Pa, Sa⟩, ⟨Tb, Tb', Bb, Cb, Pb, Sb⟩, ⟨Tc, Tc', Bc, Cc, Pc, Sc⟩⟩, D0, D1, D2, D3⟩ Hk
  iapply (r_waitD (F := F) m K c .wo c (sm := cc0_scratch10.sem) rfl rfl rfl (oweT c) (fun x hx => Nat.lt_trans (by decide) (lev_oweT c x hx))) $$ [Cw Ho Pw]
  · isplitr; · iexact Hr
    isplitl [Cw]; · iexact Cw
    isplitl [Ho] <;> iassumption
  iintro ⟨Ho, Pw, Hw⟩
  ihave Hw := (Entails.of_eq (show payOf (F := F) m c c .wo = iprop(wPt (F := F) c (woBuf m c) ∗ wSrc (F := F) m c) from rfl)) $$ Hw
  icases Hw with ⟨Hw, Hw'⟩
  iapply (ld_wo (F := F) c (woBuf m c)) $$ Hw
  iintro Hw
  ihave HW := (show ((((c : Thread nD τ).loc cc0_stg2_0) ↦{fullShare} fw) : sProp 𝕄) ⊢ wFill (F := F) m c ∅ by
    unfold wFill; iintro H; iexists fw; isplitr
    · ipureintro; intro i p hp; exact absurd hp (Finset.notMem_empty p)
    iexact H) $$ HW
  iapply (st_w (F := F) m c c ∅ (k0_off57_eq c) (fun x => (congrFun h706 x).trans (tile_own m c))) $$ HW
  iintro HW
  iapply (st_s (F := F) m c h707 fs) $$ HS
  iintro HS
  ihave HS := (sPt_split (F := F) c (outS m c)) $$ HS
  icases HS with ⟨H0, H1, H2⟩
  iapply (s_t' (F := F) m K c (nx c 1) 0 _ (Fin.ext (k0_dev12_eq c)) (nx_ne c).1 rfl (congrArg SemLoc.dma (at4_eq _ c (k0_off58_eq c))) (k0_off59_eq c) [(nx c 2, .rout c), (nx c 3, .rout c)]) $$ [Ho Ta Ta' H0 Ba]
  · isplitr; · iexact Hr
    isplitl [Ho]; · iexact Ho
    isplitl [Ta]; · iexact Ta
    isplitl [Ta']; · iexact Ta'
    isplitl [H0] <;> iassumption
  iintro ⟨Ea, Ho⟩
  iapply (s_t' (F := F) m K c (nx c 2) 1 _ (Fin.ext (k0_dev13_eq c)) (nx_ne c).2.1 rfl (congrArg SemLoc.dma (at4_eq _ c (k0_off58_eq c))) (k0_off59_eq c) [(nx c 3, .rout c)]) $$ [Ho Tb Tb' H1 Bb]
  · isplitr; · iexact Hr
    isplitl [Ho]; · iexact Ho
    isplitl [Tb]; · iexact Tb
    isplitl [Tb']; · iexact Tb'
    isplitl [H1] <;> iassumption
  iintro ⟨Eb, Ho⟩
  iapply (s_t' (F := F) m K c (nx c 3) 2 _ (Fin.ext (k0_dev14_eq c)) (nx_ne c).2.2 rfl (congrArg SemLoc.dma (at4_eq _ c (k0_off58_eq c))) (k0_off59_eq c) []) $$ [Ho Tc Tc' H2 Bc]
  · isplitr; · iexact Hr
    isplitl [Ho]; · iexact Ho
    isplitl [Tc]; · iexact Tc
    isplitl [Tc']; · iexact Tc'
    isplitl [H2] <;> iassumption
  iintro ⟨Ec, Ho⟩
  iapply (w_row (F := F) m K c (nx c 1) (nx_ne c).1 (congrArg SemLoc.dma (at4_eq _ (nx c 1) (k0_off13_eq c 0))) rfl (k0_off61_eq c 0)) $$ [Ca Ho Pa]
  · isplitr; · iexact Hr
    isplitl [Ca]; · iexact Ca
    isplitl [Ho] <;> iassumption
  iintro ⟨Ho, Pa, Ra⟩
  iapply (st_w (F := F) m c (nx c 1) _ (k0_off62_eq c 0) (fun x => tile_peer m c (nx c 1) (nx_ne c).1)) $$ HW
  iintro HW
  iapply (w_row (F := F) m K c (nx c 2) (nx_ne c).2.1 (congrArg SemLoc.dma (at4_eq _ (nx c 2) (k0_off13_eq c 1))) rfl (k0_off61_eq c 1)) $$ [Cb Ho Pb]
  · isplitr; · iexact Hr
    isplitl [Cb]; · iexact Cb
    isplitl [Ho] <;> iassumption
  iintro ⟨Ho, Pb, Rb⟩
  iapply (st_w (F := F) m c (nx c 2) _ (k0_off62_eq c 1) (fun x => tile_peer m c (nx c 2) (nx_ne c).2.1)) $$ HW
  iintro HW
  iapply (w_row (F := F) m K c (nx c 3) (nx_ne c).2.2 (congrArg SemLoc.dma (at4_eq _ (nx c 3) (k0_off13_eq c 2))) rfl (k0_off61_eq c 2)) $$ [Cc Ho Pc]
  · isplitr; · iexact Hr
    isplitl [Cc]; · iexact Cc
    isplitl [Ho] <;> iassumption
  iintro ⟨Ho, Pc, Rc⟩
  iapply (st_w (F := F) m c (nx c 3) _ (k0_off62_eq c 2) (fun x => tile_peer m c (nx c 3) (nx_ne c).2.2)) $$ HW
  iintro HW
  unfold outst
  iapply (r_done' (F := F) m K c 0 (cond5_iff c) (fun _ hq => w_both (F := F) m K c 0 hq rfl rfl so_credit sml_credit)) $$ [Ho D0]
  · isplitr; · iexact Hr
    isplitl [Ho]; · iexact Ho
    iexact D0
  iintro ⟨Ho, D0⟩
  iapply (r_done' (F := F) m K c 1 (cond6_iff c) (fun _ hq => w_both (F := F) m K c 1 hq rfl rfl so_credit sml_credit)) $$ [Ho D1]
  · isplitr; · iexact Hr
    isplitl [Ho]; · iexact Ho
    iexact D1
  iintro ⟨Ho, D1⟩
  iapply (r_done' (F := F) m K c 2 (cond7_iff c) (fun _ hq => w_both (F := F) m K c 2 hq rfl rfl so_credit sml_credit)) $$ [Ho D2]
  · isplitr; · iexact Hr
    isplitl [Ho]; · iexact Ho
    iexact D2
  iintro ⟨Ho, D2⟩
  iapply (r_done (F := F) m K c 3 (cond8_iff c) (fun _ hq => w_both (F := F) m K c 3 hq rfl rfl so_credit sml_credit)) $$ [Ho D3]
  · isplitr; · iexact Hr
    isplitl [Ho]; · iexact Ho
    iexact D3
  iintro ⟨Ho, D3⟩
  iapply (w_out (F := F) m K c 0 rfl) $$ [Ea Ho Sa]
  · isplitr; · iexact Hr
    isplitl [Ea]; · iexact Ea
    isplitl [Ho] <;> iassumption
  iintro ⟨Ho, Sa, H0⟩
  iapply (w_out (F := F) m K c 1 rfl) $$ [Eb Ho Sb]
  · isplitr; · iexact Hr
    isplitl [Eb]; · iexact Eb
    isplitl [Ho] <;> iassumption
  iintro ⟨Ho, Sb, H1⟩
  iapply (w_out (F := F) m K c 2 rfl) $$ [Ec Ho Sc]
  · isplitr; · iexact Hr
    isplitl [Ec]; · iexact Ec
    isplitl [Ho] <;> iassumption
  iintro ⟨Ho, Sc, H2⟩
  unfold WP; rw [wp_ret]; imodintro
  iapply Hk
  unfold outC rowEnd outEnd
  isplitl [Ho]; · iexact Ho
  isplitl [Hw Hw' Pw]
  · isplitl [Hw Hw']
    · iapply (Entails.of_eq (show iprop(wPt (F := F) c (woBuf m c) ∗ wSrc (F := F) m c) = payOf (F := F) m c c .wo from rfl))
      isplitl [Hw] <;> iassumption
    iexact Pw
  isplitl [HW]
  · iapply (wFill_end (F := F) m c)
    iapply (Entails.of_eq (congrArg (wFill (F := F) m c) (fill_univ c)))
    iexact HW
  isplitl [H0 H1 H2]
  · iapply (sPt_join (F := F) c (outS m c))
    isplitl [H0]; · iexact H0
    isplitl [H1] <;> iassumption
  isplitl [Ra Pa Sa Rb Pb Sb Rc Pc Sc]
  · isplitl [Ra Pa Sa]
    · isplitl [Ra]; · iexact Ra
      isplitl [Pa] <;> iassumption
    isplitl [Rb Pb Sb]
    · isplitl [Rb]; · iexact Rb
      isplitl [Pb] <;> iassumption
    isplitl [Rc]; · iexact Rc
    isplitl [Pc] <;> iassumption
  isplitl [D0]; · iexact D0
  isplitl [D1]; · iexact D1
  isplitl [D2] <;> iassumption

end End
end Cert.AttnProof
end
-- ==== Proof.BodyB.lean ====
/- The middle of the body: a device waits for its query block from the last peers and loads, head by head, its own share
   of the block and the three shares received. -/
module

public import proofs.«01_k».proof.Proof.BodyC

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

section Mid
variable (c : Dev nD)

theorem ro_credit {off : Fin 3 → ℕ} {inb hr} : ((((Memref.whole cc0_scratch2 : Memref sig .tc .vmem S4x512x128 .bf16).slice (Rect.unit (s := S4x512x128) off S1x512x128.size inb) hr)).squeeze S512x128 squeezes_S1x512x128_S512x128).view.dmaCredit = nOb := rfl
theorem rml_credit {off : Fin 3 → ℕ} {inb hr} : ((((Memref.whole cc0_scratch3 : Memref sig .tc .vmem S4x16x64 .f32).slice (Rect.unit (s := S4x16x64) off S1x16x64.size inb) hr)).squeeze S16x64 squeezes_S1x16x64_S16x64).view.dmaCredit = nML := rfl

/-- A credit and the position to wait for it. -/
def due (k : Ck) : sProp 𝕄 := iprop(crd (F := F) c k ∗ pos (F := F) c k 0)

/-- Waiting for a peer's weighted values, and for its maxima and sums. -/
theorem w_ro {α : Type} {k : PUnit → Prog (TpuEff nD τ sig (Elt F) Λ₀ .tc) α} {Q : α → sProp 𝕄} (p : Dev nD) (hp : p ≠ c) {sm : DmaSem sig} (hsm : SemLoc.dma sm = csem (.ro p))
    {src dst : Memref sig .tc .vmem S512x128 .bf16} {hsrc hdst} (hN : dst.view.dmaCredit = nOb) :
    iprop(recs (F := F) m K ∗ due (F := F) c (.ro p) ∗ ow (F := F) c (oweT c))
      ⊢ iprop(((ow (F := F) c (oweT c) ∗ pos (F := F) c (.ro p) 1 ∗ roPt (F := F) c p (recvO m c)) -∗ WP (F := F) c (k ⟨⟩) Q)
        -∗ WP (F := F) c (.op (.waitDma2 sm src dst hsrc hdst) k) Q) := by
  unfold due
  iintro ⟨#Hr, ⟨C, P⟩, Ho⟩
  iapply (r_waitD (F := F) m K c (.ro p) p hsm hN (if_neg hp) (oweT c) (fun x hx => lev_oweT c x hx)) $$ [C P Ho]
  isplitr; · iexact Hr
  isplitl [C]; · iexact C
  isplitl [Ho] <;> iassumption
theorem w_rml {α : Type} {k : PUnit → Prog (TpuEff nD τ sig (Elt F) Λ₀ .tc) α} {Q : α → sProp 𝕄} (p : Dev nD) (hp : p ≠ c) {sm : DmaSem sig} (hsm : SemLoc.dma sm = csem (.rml p))
    {src dst : Memref sig .tc .vmem S16x64 .f32} {hsrc hdst} (hN : dst.view.dmaCredit = nML) :
    iprop(recs (F := F) m K ∗ due (F := F) c (.rml p) ∗ ow (F := F) c (oweT c))
      ⊢ iprop(((ow (F := F) c (oweT c) ∗ pos (F := F) c (.rml p) 1 ∗ rmlPt (F := F) c p (recvML m c)) -∗ WP (F := F) c (k ⟨⟩) Q)
        -∗ WP (F := F) c (.op (.waitDma2 sm src dst hsrc hdst) k) Q) := by
  unfold due
  iintro ⟨#Hr, ⟨C, P⟩, Ho⟩
  iapply (r_waitD (F := F) m K c (.rml p) p hsm hN (if_neg hp) (oweT c) (fun x hx => lev_oweT c x hx)) $$ [C P Ho]
  isplitr; · iexact Hr
  isplitl [C]; · iexact C
  isplitl [Ho] <;> iassumption

def bodyB (v2 v4 v6 v8 c1_i32_673 : BitVec 32) : Prog (TpuEff nD τ sig (Elt F) Λ₀ .tc) PUnit := do
  let ⟨v2118, v2121, v2123⟩ ← on (k0_part50 (F := F)) c v2 v6 v8 c1_i32_673
  let ⟨v2125, v2128, v2131, v2134, v2137, v2140, v2143, v2146, v2149, v2152, v2155, v2156, v2161, v2162⟩ ← on (k0_part51 (F := F)) c v4 v6 v8 v2118 v2121 v2123
  let ⟨v2196, v2199, v2202, v2206, v2209, v2211⟩ ← on (k0_part52 (F := F)) c v2 v4 v2125 v2128 v2131 v2134 v2137 v2140 v2143 v2146 v2149 v2152 v2155 v2156 v2161 v2162
  let ⟨v2218, v2221, v2224, v2227, v2230, v2233, v2236, v2247, v2251, v2255⟩ ← on (k0_part53 (F := F)) c v4 v6 v8 v2199 v2202 v2206 v2209 v2211
  let ⟨v2277, v2280, v2283, v2287, v2290, v2293, v2296, v2299⟩ ← on (k0_part54 (F := F)) c v2 v4 v6 v2218 v2221 v2224 v2227 v2230 v2233 v2236 v2247 v2251 v2255
  let ⟨v2311, v2314, v2341, v2346, v2348⟩ ← on (k0_part55 (F := F)) c v6 v8 v2280 v2283 v2287 v2290 v2293 v2296 v2299
  let ⟨v2358, v2361, v2364, v2368, v2371, v2374, v2377, v2380, v2383, v2386⟩ ← on (k0_part56 (F := F)) c v2 v4 v6 v8 v2311 v2314 v2341 v2346 v2348
  let v2439 ← on (k0_part57 (F := F)) c v2 v8 v2361 v2364 v2368 v2371 v2374 v2377 v2380 v2383 v2386
  let ⟨v2442, v2445, v2449, v2452, v2455, v2458, v2461, v2464, v2467, v2470, v2473, v2476⟩ ← on (k0_part58 (F := F)) c v2 v4 v6 v8
  let ⟨v2520, v2523, v2526, v2528⟩ ← on (k0_part59 (F := F)) c v2 v2442 v2445 v2449 v2452 v2455 v2458 v2461 v2464 v2467 v2470 v2473 v2476
  let ⟨v2530, v2533, v2536, v2539, v2542, v2545, v2548, v2551, v2554, v2557, v2560, v2561, v2566, v2567⟩ ← on (k0_part60 (F := F)) c v4 v6 v8 v2523 v2526 v2528
  let ⟨v2601, v2604, v2607, v2611, v2614, v2616⟩ ← on (k0_part61 (F := F)) c v2 v4 v2530 v2533 v2536 v2539 v2542 v2545 v2548 v2551 v2554 v2557 v2560 v2561 v2566 v2567
  let ⟨v2623, v2626, v2629, v2632, v2635, v2638, v2641, v2652, v2656, v2660⟩ ← on (k0_part62 (F := F)) c v4 v6 v8 v2604 v2607 v2611 v2614 v2616
  let ⟨v2682, v2685, v2688, v2692, v2695, v2698, v2701, v2704⟩ ← on (k0_part63 (F := F)) c v2 v4 v6 v2623 v2626 v2629 v2632 v2635 v2638 v2641 v2652 v2656 v2660
  let ⟨v2716, v2719, v2746, v2751, v2753⟩ ← on (k0_part64 (F := F)) c v6 v8 v2685 v2688 v2692 v2695 v2698 v2701 v2704
  bodyC (F := F) c v2 v4 v6 v8 v2196 v2277 v2358 v2439 v2520 v2601 v2682 v2716 v2719 v2746 v2751 v2753

def inB : sProp 𝕄 :=
  iprop((roPt (F := F) c (nx c 1) (recvO m c) ∗ rmlPt (F := F) c (nx c 1) (recvML m c) ∗ roPt (F := F) c (nx c 2) (recvO m c))
    ∗ (due (F := F) c (.rml (nx c 2)) ∗ due (F := F) c (.ro (nx c 3)) ∗ due (F := F) c (.rml (nx c 3))) ∗ (oPt (F := F) c c (bufO m c) ∗ mlPt (F := F) c c (bufML m c)) ∗ inC (F := F) c)
def outB : sProp 𝕄 :=
  iprop(held (F := F) m c ∗ (pos (F := F) c (.rml (nx c 2)) 1 ∗ pos (F := F) c (.ro (nx c 3)) 1 ∗ pos (F := F) c (.rml (nx c 3)) 1) ∗ outC (F := F) m c)

set_option maxHeartbeats 4000000 in
/-- The run from the last waits for the query block. -/
theorem runB {Q : PUnit → sProp 𝕄} {v2 v4 v6 v8 c1_i32_673 : BitVec 32} :
    iprop(recs (F := F) m K ∗ inB (F := F) m c) ⊢ iprop((outB (F := F) m c -∗ Q ⟨⟩) -∗ WP (F := F) c (bodyB (F := F) c v2 v4 v6 v8 c1_i32_673) Q) := by
  unfold bodyB on inB inC
  simp (config := {maxSteps := 10000000}) only [k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, Prog.lift, Prog.bind_op, Prog.bind_ret, Prog.pure_eq_ret, Prog.bind_assoc]
  iintro ⟨#Hr, ⟨R1, M1, R2⟩, ⟨W1, W2, W3⟩, ⟨HO, HM⟩, Ho, Hx⟩ Hk
  iapply (w_rml (F := F) m K c (nx c 2) (nx_ne c).2.1 (so_sem _ (nx c 2) (k0_off13_eq c 1)) rml_credit) $$ [W1 Ho]
  · isplitr; · iexact Hr
    isplitl [W1] <;> iassumption
  iintro ⟨Ho, P1, M2⟩
  iapply (w_ro (F := F) m K c (nx c 3) (nx_ne c).2.2 (so_sem _ (nx c 3) (k0_off13_eq c 2)) ro_credit) $$ [W2 Ho]
  · isplitr; · iexact Hr
    isplitl [W2] <;> iassumption
  iintro ⟨Ho, P2, R3⟩
  iapply (w_rml (F := F) m K c (nx c 3) (nx_ne c).2.2 (so_sem _ (nx c 3) (k0_off13_eq c 2)) rml_credit) $$ [W3 Ho]
  · isplitr; · iexact Hr
    isplitl [W3] <;> iassumption
  iintro ⟨Ho, P3, M3⟩
  ihave HH := (show iprop((oPt (F := F) c c (bufO m c) ∗ mlPt (F := F) c c (bufML m c)) ∗ (roPt (F := F) c (nx c 1) (recvO m c) ∗ rmlPt (F := F) c (nx c 1) (recvML m c))
    ∗ (roPt (F := F) c (nx c 2) (recvO m c) ∗ rmlPt (F := F) c (nx c 2) (recvML m c)) ∗ (roPt (F := F) c (nx c 3) (recvO m c) ∗ rmlPt (F := F) c (nx c 3) (recvML m c))) ⊢ held (F := F) m c from .rfl) $$ [HO HM R1 M1 R2 M2 R3 M3]
  · isplitl [HO HM]; · isplitl [HO] <;> iassumption
    isplitl [R1 M1]; · isplitl [R1] <;> iassumption
    isplitl [R2 M2]; · isplitl [R2] <;> iassumption
    isplitl [R3] <;> iassumption
  iapply (ld_head (F := F) m c 0 (k0_off16_eq c) (k0_off17_eq c) (k0_off18_eq c 0) (k0_off19_eq c 0) (k0_off20_eq c 0) (k0_off21_eq c 0) (k0_off19_eq c 1) (k0_off20_eq c 1) (k0_off21_eq c 1) (k0_off19_eq c 2) (k0_off20_eq c 2) (k0_off21_eq c 2)) $$ HH
  iintro HH
  iapply (ld_head (F := F) m c 1 (k0_off22_eq c) (k0_off23_eq c) (k0_off18_eq c 1) (k0_off24_eq c 0) (k0_off25_eq c 0) (k0_off26_eq c 0) (k0_off24_eq c 1) (k0_off25_eq c 1) (k0_off26_eq c 1) (k0_off24_eq c 2) (k0_off25_eq c 2) (k0_off26_eq c 2)) $$ HH
  iintro HH
  iapply (ld_head (F := F) m c 2 (k0_off27_eq c) (k0_off28_eq c) (k0_off18_eq c 2) (k0_off29_eq c 0) (k0_off30_eq c 0) (k0_off31_eq c 0) (k0_off29_eq c 1) (k0_off30_eq c 1) (k0_off31_eq c 1) (k0_off29_eq c 2) (k0_off30_eq c 2) (k0_off31_eq c 2)) $$ HH
  iintro HH
  iapply (ld_head (F := F) m c 3 (k0_off32_eq c) (k0_off33_eq c) (k0_off18_eq c 3) (k0_off34_eq c 0) (k0_off35_eq c 0) (k0_off36_eq c 0) (k0_off34_eq c 1) (k0_off35_eq c 1) (k0_off36_eq c 1) (k0_off34_eq c 2) (k0_off35_eq c 2) (k0_off36_eq c 2)) $$ HH
  iintro HH
  iapply (ld_head (F := F) m c 4 (k0_off37_eq c) (k0_off38_eq c) (k0_off18_eq c 4) (k0_off39_eq c 0) (k0_off40_eq c 0) (k0_off41_eq c 0) (k0_off39_eq c 1) (k0_off40_eq c 1) (k0_off41_eq c 1) (k0_off39_eq c 2) (k0_off40_eq c 2) (k0_off41_eq c 2)) $$ HH
  iintro HH
  iapply (ld_head (F := F) m c 5 (k0_off42_eq c) (k0_off43_eq c) (k0_off18_eq c 5) (k0_off44_eq c 0) (k0_off45_eq c 0) (k0_off46_eq c 0) (k0_off44_eq c 1) (k0_off45_eq c 1) (k0_off46_eq c 1) (k0_off44_eq c 2) (k0_off45_eq c 2) (k0_off46_eq c 2)) $$ HH
  iintro HH
  iapply (ld_head (F := F) m c 6 (k0_off47_eq c) (k0_off48_eq c) (k0_off18_eq c 6) (k0_off49_eq c 0) (k0_off50_eq c 0) (k0_off51_eq c 0) (k0_off49_eq c 1) (k0_off50_eq c 1) (k0_off51_eq c 1) (k0_off49_eq c 2) (k0_off50_eq c 2) (k0_off51_eq c 2)) $$ HH
  iintro HH
  iapply (ld_head (F := F) m c 7 (k0_off52_eq c) (k0_off53_eq c) (k0_off18_eq c 7) (k0_off54_eq c 0) (k0_off55_eq c 0) (k0_off56_eq c 0) (k0_off54_eq c 1) (k0_off55_eq c 1) (k0_off56_eq c 1) (k0_off54_eq c 2) (k0_off55_eq c 2) (k0_off56_eq c 2)) $$ HH
  iintro HH
  iapply (runC (F := F) m K c (Q := Q) rfl (shapeCast_self (truncf .bf16 (outQ m c) bitsLt_bf16_f32 : FVec F S64x1024 .bf16) shapeCasts_S64x1024_S64x1024)) $$ [Ho Hx]
  · isplitr; · iexact Hr
    unfold inC
    isplitl [Ho] <;> iassumption
  iintro HC
  iapply Hk
  unfold outB
  isplitl [HH]; · iexact HH
  isplitr [HC]
  · isplitl [P1]; · iexact P1
    isplitl [P2] <;> iassumption
  iexact HC

end Mid
end Cert.AttnProof
end
-- ==== Proof.BodyA.lean ====
/- The whole body of a device: copies of its shard, the barrier, its share of every query block and the transfers of the
   blocks to the peers, then the parts already treated. -/
module

public import proofs.«01_k».proof.Proof.BodyB

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

section Start
variable (c : Dev nD)

def bodyA : Prog (TpuEff nD τ sig (Elt F) Λ₀ .tc) PUnit := do
  let ⟨d0, v2, v4, v6, v8, v21⟩ ← on (k0_part1 (F := F))
  let ⟨v36, v38, v40, v42⟩ ← on (k0_part2 (F := F)) d0 v6 v8 v21
  let ⟨v69, v72, v74⟩ ← on (k0_part3 (F := F))
  let ⟨v89, v106, v112, v117, v120, v125, v126⟩ ← on (k0_part4 (F := F)) v36 v69 v72 v74
  let ⟨v131, v134, v140, v145, v148, v154, v159, v162, v168, v171⟩ ← on (k0_part5 (F := F)) v36 v89 v106 v125 v126
  let ⟨v173, v176, v182, v187, v190, v196, v201, v204, v210, v214, v215⟩ ← on (k0_part6 (F := F)) v36 v89 v106 v171
  let ⟨v218, v235, v252, v258, v263, v266, v267, v268, cst_129⟩ ← on (k0_part7 (F := F)) v38 v69 v72 v106 v214
  let ⟨v272, v277, v280, v286, v291, v294, v300, v305, v308, v311, v312⟩ ← on (k0_part8 (F := F)) v38 v235 v252 v267 v268 cst_129
  let ⟨v314, v319, v322, v328, v333, v336, v342, v347, v350, v355, v356⟩ ← on (k0_part9 (F := F)) v38 v235 v252 v311 v312
  let ⟨v361, v364, v381, v398, v404, v409, v410⟩ ← on (k0_part10 (F := F)) v40 v69 v72 v252 v355 v356
  let ⟨v412, v418, v423, v426, v432, v437, v440, v446, v451, v454⟩ ← on (k0_part11 (F := F)) v40 v381 v398 v410
  let ⟨v460, v465, v468, v474, v479, v482, v488, v493, v496, v497, v498, cst_199⟩ ← on (k0_part12 (F := F)) v40 v381 v398
  let ⟨v502, v507, v510, v527, v544, v549, v550, v551⟩ ← on (k0_part13 (F := F)) v42 v69 v72 v398 v497 v498 cst_199
  let ⟨v555, v558, v564, v569, v572, v578, v583, v586, v592, v596⟩ ← on (k0_part14 (F := F)) v42 v527 v544 v549 v551
  let ⟨v597, v600, v606, v611, v614, v620, v625, v628, v634, v639, v640⟩ ← on (k0_part15 (F := F)) v42 v527 v544 v596
  let ⟨v642, v648, v653, v656⟩ ← on (k0_part16 (F := F)) v42 v527 v544 v640
  let ⟨v671, v674, v691, v708, v714, v719, v720⟩ ← on (k0_part17 (F := F)) v36
  let ⟨v723, v734, v737, v752, v763, v766, v771⟩ ← on (k0_part18 (F := F)) v36 v112 v117 v120 v126 v131 v134 v691 v708 v714 v719 v720
  let ⟨v781, v792, v795, v810, v821, v824⟩ ← on (k0_part19 (F := F)) v36 v140 v145 v148 v154 v159 v162 v691 v708 v771
  let ⟨v839, v850, v853, v864, v867, v868, v870, v872, v874⟩ ← on (k0_part20 (F := F)) v36 v168 v173 v176 v182 v691 v708
  let ⟨v879, v882, v897, v908, v911, v917, v922, v923, v924, cst_310⟩ ← on (k0_part21 (F := F)) v36 v187 v190 v196 v201 v204 v691 v708 v864 v867 v870 v872 v874
  let ⟨v926, v937, v940, v961⟩ ← on (k0_part22 (F := F)) v210 v215 v218 v723 v734 v737 v752 v763 v766 v792 v917 v922 v923 v924 cst_310
  let v990 ← on (k0_part23 (F := F)) v781 v795 v810 v821 v824 v839 v850 v853 v961
  on (k0_part24 (F := F)) v868 v879 v882 v897 v908 v911 v926 v937 v990
  let ⟨v1040, v1057, v1063, v1068, v1069⟩ ← on (k0_part25 (F := F)) d0 v2 v38 v671 v674 v940
  let ⟨v1072, v1083, v1086, v1101, v1112, v1115, v1120⟩ ← on (k0_part26 (F := F)) v38 v258 v263 v266 v272 v277 v280 v1040 v1057 v1063 v1068 v1069
  let ⟨v1130, v1141, v1144, v1159, v1170, v1173⟩ ← on (k0_part27 (F := F)) v38 v286 v291 v294 v300 v305 v308 v1040 v1057 v1120
  let ⟨v1188, v1199, v1202, v1213, v1216, v1217, v1219, v1221, v1223⟩ ← on (k0_part28 (F := F)) v38 v314 v319 v322 v328 v1040 v1057
  let ⟨v1228, v1231, v1246, v1257, v1260, v1266, v1271, v1272, v1273, cst_394⟩ ← on (k0_part29 (F := F)) v38 v333 v336 v342 v347 v350 v1040 v1057 v1213 v1216 v1219 v1221 v1223
  let ⟨v1275, v1286, v1289, v1310⟩ ← on (k0_part30 (F := F)) v356 v361 v364 v1072 v1083 v1086 v1101 v1112 v1115 v1141 v1266 v1271 v1272 v1273 cst_394
  let v1339 ← on (k0_part31 (F := F)) v1130 v1144 v1159 v1170 v1173 v1188 v1199 v1202 v1310
  on (k0_part32 (F := F)) v1217 v1228 v1231 v1246 v1257 v1260 v1275 v1286 v1339
  let ⟨v1389, v1406, v1412, v1417, v1418⟩ ← on (k0_part33 (F := F)) d0 v2 v40 v671 v674 v1289
  let ⟨v1421, v1432, v1435, v1450, v1461, v1464, v1469⟩ ← on (k0_part34 (F := F)) v40 v404 v409 v412 v418 v423 v426 v1389 v1406 v1412 v1417 v1418
  let ⟨v1479, v1490, v1493, v1508, v1519, v1522⟩ ← on (k0_part35 (F := F)) v40 v432 v437 v440 v446 v451 v454 v1389 v1406 v1469
  let ⟨v1537, v1548, v1551, v1562, v1565, v1566, v1568, v1570, v1572⟩ ← on (k0_part36 (F := F)) v40 v460 v465 v468 v474 v1389 v1406
  let ⟨v1577, v1580, v1595, v1606, v1609, v1615, v1620, v1621, v1622, cst_492⟩ ← on (k0_part37 (F := F)) v40 v479 v482 v488 v493 v496 v1389 v1406 v1562 v1565 v1568 v1570 v1572
  let ⟨v1624, v1635, v1638, v1659⟩ ← on (k0_part38 (F := F)) v502 v507 v510 v1421 v1432 v1435 v1450 v1461 v1464 v1490 v1615 v1620 v1621 v1622 cst_492
  let v1688 ← on (k0_part39 (F := F)) v1479 v1493 v1508 v1519 v1522 v1537 v1548 v1551 v1659
  on (k0_part40 (F := F)) v1566 v1577 v1580 v1595 v1606 v1609 v1624 v1635 v1688
  let ⟨v1738, v1755, v1761, v1766, v1767⟩ ← on (k0_part41 (F := F)) d0 v2 v42 v671 v674 v1638
  let ⟨v1770, v1781, v1784, v1799, v1810, v1813, v1818⟩ ← on (k0_part42 (F := F)) v42 v550 v555 v558 v564 v569 v572 v1738 v1755 v1761 v1766 v1767
  let ⟨v1828, v1839, v1842, v1857, v1868, v1871⟩ ← on (k0_part43 (F := F)) v42 v578 v583 v586 v592 v597 v600 v1738 v1755 v1818
  let ⟨v1886, v1897, v1900, v1911, v1914, v1915, v1917, v1919, v1921⟩ ← on (k0_part44 (F := F)) v42 v606 v611 v614 v620 v1738 v1755
  let ⟨v1926, v1929, v1944, v1955, v1958, v1964, v1969, v1970, v1971, cst_590⟩ ← on (k0_part45 (F := F)) v42 v625 v628 v634 v639 v642 v1738 v1755 v1911 v1914 v1917 v1919 v1921
  let ⟨v1973, v1984, v1987, v2008⟩ ← on (k0_part46 (F := F)) v648 v653 v656 v1770 v1781 v1784 v1799 v1810 v1813 v1839 v1964 v1969 v1970 v1971 cst_590
  let v2037 ← on (k0_part47 (F := F)) v1828 v1842 v1857 v1868 v1871 v1886 v1897 v1900 v2008
  on (k0_part48 (F := F)) v1915 v1926 v1929 v1944 v1955 v1958 v1973 v1984 v2037
  let c1_i32_673 ← on (k0_part49 (F := F)) d0 v2 v4 v6 v1987
  bodyB (F := F) d0 v2 v4 v6 v8 c1_i32_673

omit [FloatOps F] in
/-- One place holds `X`, the others `Y`. -/
theorem sep_own (X Y : Dev nD → sProp 𝕄) :
    (bigSep Finset.univ fun q => if q = c then X q else Y q) = iprop(X c ∗ bigSep Finset.univ fun q => if q = c then iprop(emp) else Y q) := by
  rw [bigSep_erase (Finset.mem_univ c), if_pos rfl, ← sep_ite]
  refine congrArg (fun P => iprop(X c ∗ P)) (bigSep_congr fun q hq => if_neg (Finset.ne_of_mem_erase hq))

/-- The tokens to send block `q`. -/
def tokQ (q : Dev nD) : sProp 𝕄 :=
  if q = c then iprop(emp) else iprop((tok (F := F) c (.so q) c ∗ tok (F := F) q (.ro c) c) ∗ (tok (F := F) c (.sml q) c ∗ tok (F := F) q (.rml c) c))

theorem toSend_mk (q : Dev nD) : iprop(tokQ (F := F) c q ∗ (if q = c then iprop(emp) else barPayA (F := F) c q)) ⊢ toSend (F := F) c q := by
  unfold tokQ toSend
  by_cases h : q = c
  · rw [if_pos h, if_pos h, if_pos h]; iintro ⟨H, -⟩; iexact H
  · rw [if_neg h, if_neg h, if_neg h]
    iintro ⟨⟨H1, H2⟩, H3⟩
    isplitl [H1]; · iexact H1
    isplitl [H2] <;> iassumption

/-- What the barrier hands over, sorted. -/
theorem bar_split : (bigSep (payers c .bar) fun d => payOf (F := F) m c d .bar)
    ⊢ iprop(((if (0 : Dev nD) = c then iprop(emp) else barPayA (F := F) c 0) ∗ (if (1 : Dev nD) = c then iprop(emp) else barPayA (F := F) c 1) ∗ (if (2 : Dev nD) = c then iprop(emp) else barPayA (F := F) c 2) ∗ (if (3 : Dev nD) = c then iprop(emp) else barPayA (F := F) c 3))
      ∗ barPayB (F := F) c (nx c 1) ∗ barPayB (F := F) c (nx c 2) ∗ barPayB (F := F) c (nx c 3)) := by
  refine Entails.of_eq ?_
  show bigSep (Finset.univ.erase c) (fun d => iprop(barPayA (F := F) c d ∗ barPayB (F := F) c d)) = _
  rw [bigSep_sep', sep_nx c (fun d => barPayB (F := F) c d), sep_ite, sep_lit]

/-- After the four blocks: the own block, and the credits of the others. -/
theorem sent_split : iprop(sent (F := F) m c 0 ∗ sent (F := F) m c 1 ∗ sent (F := F) m c 2 ∗ sent (F := F) m c 3)
    ⊢ iprop((oPt (F := F) c c (bufO m c) ∗ mlPt (F := F) c c (bufML m c))
      ∗ (if (0 : Dev nD) = c then iprop(emp) else iprop(crd (F := F) c (.so 0) ∗ crd (F := F) c (.sml 0))) ∗ (if (1 : Dev nD) = c then iprop(emp) else iprop(crd (F := F) c (.so 1) ∗ crd (F := F) c (.sml 1)))
      ∗ (if (2 : Dev nD) = c then iprop(emp) else iprop(crd (F := F) c (.so 2) ∗ crd (F := F) c (.sml 2))) ∗ (if (3 : Dev nD) = c then iprop(emp) else iprop(crd (F := F) c (.so 3) ∗ crd (F := F) c (.sml 3)))) := by
  refine Entails.of_eq ?_
  rw [← sep_lit (fun q => sent (F := F) m c q), ← sep_lit (fun q => if q = c then iprop(emp) else iprop(crd (F := F) c (.so q) ∗ crd (F := F) c (.sml q)))]
  exact sep_own (F := F) c (fun q => iprop(oPt (F := F) c q (bufO m c) ∗ mlPt (F := F) c q (bufML m c))) (fun q => iprop(crd (F := F) c (.so q) ∗ crd (F := F) c (.sml q)))

theorem cond1_iff : ∀ c : Dev nD, k0_cond1 c = 1#1 ↔ (0 : Dev nD) ≠ c := by decide
theorem cond2_iff : ∀ c : Dev nD, k0_cond2 c = 1#1 ↔ (1 : Dev nD) ≠ c := by decide
theorem cond3_iff : ∀ c : Dev nD, k0_cond3 c = 1#1 ↔ (2 : Dev nD) ≠ c := by decide
theorem cond4_iff : ∀ c : Dev nD, k0_cond4 c = 1#1 ↔ (3 : Dev nD) ≠ c := by decide

/-- The barrier signal, and the wait for the three signals of the peers. -/
theorem sig_bar {α : Type} {k : PUnit → Prog (TpuEff nD τ sig (Elt F) Λ₀ .tc) α} {Q : α → sProp 𝕄} (n n' : Dev nD) (hn : n' = n) (hne : c ≠ n) {k' : ℕ} (hk' : k' = 1) (l : List (Dev nD × Ck)) :
    iprop(recs (F := F) m K ∗ ow (F := F) c ((n, .bar) :: l) ∗ tok n .bar c ∗ barPayA (F := F) n c ∗ barPayB (F := F) n c)
      ⊢ iprop((ow (F := F) c l -∗ WP (F := F) c (k ⟨⟩) Q) -∗ WP (F := F) c (.op (.semSignal (n', (c : Thread nD τ).2) barS k') k) Q) := by
  subst hn
  exact r_signal (F := F) m K c n' hne hk' l
theorem wait_bar {α : Type} {k : PUnit → Prog (TpuEff nD τ sig (Elt F) Λ₀ .tc) α} {Q : α → sProp 𝕄} {k' : ℕ} (hk' : k' = 3) :
    iprop(recs (F := F) m K ∗ cred (tallyAt (kcell (c, .bar)) () 3) ∗ ow (F := F) c (oweS c) ∗ pos (F := F) c .bar 0)
      ⊢ iprop(((ow (F := F) c (oweS c) ∗ pos (F := F) c .bar 1 ∗ bigSep (payers c .bar) fun d => payOf (F := F) m c d .bar) -∗ WP (F := F) c (k ⟨⟩) Q)
        -∗ WP (F := F) c (.op (.semWait barS k') k) Q) := by
  subst hk'
  exact r_wait_gen (F := F) m K c .bar (wpE_semWait_eq 𝒱₀ (c : Thread nD τ) none Set.univ) rfl (by revert c; decide) (oweS c) (lev_oweS c)

theorem kv_credit {off : Fin 4 → ℕ} {inb hr} : ((((Memref.whole cc0_scratch6 : Memref sig .tc .vmem S1x4096x8x128 .f32).slice (Rect.unit (s := S1x4096x8x128) off S1x2048x8x128.size inb) hr)).squeeze S2048x8x128 squeezes_S1x2048x8x128_S2048x8x128).view.dmaCredit = nKV := rfl
theorem kv_credit' {off : Fin 4 → ℕ} {inb hr} : ((((Memref.whole cc0_scratch7 : Memref sig .tc .vmem S1x4096x8x128 .f32).slice (Rect.unit (s := S1x4096x8x128) off S1x2048x8x128.size inb) hr)).squeeze S2048x8x128 squeezes_S1x2048x8x128_S2048x8x128).view.dmaCredit = nKV := rfl

/-- Waiting for half `b` of the keys, of the values. -/
theorem w_kv {α : Type} {k : PUnit → Prog (TpuEff nD τ sig (Elt F) Λ₀ .tc) α} {Q : α → sProp 𝕄} (a b : Fin 2) {sm : DmaSem sig} (hsm : SemLoc.dma sm = csem (.kv a b)) (l : List (Dev nD × Ck)) (hl : ∀ x ∈ l, 0 < lvK x.2)
    {src : Memref sig .tc .hbm S2048x8x128 .f32} {dst : Memref sig .tc .vmem S2048x8x128 .f32} {hsrc hdst} (hN : dst.view.dmaCredit = nKV) :
    iprop(recs (F := F) m K ∗ crd (F := F) c (.kv a b) ∗ ow (F := F) c l ∗ pos (F := F) c (.kv a b) 0)
      ⊢ iprop(((ow (F := F) c l ∗ pos (F := F) c (.kv a b) 1 ∗ payOf (F := F) m c c (.kv a b)) -∗ WP (F := F) c (k ⟨⟩) Q)
        -∗ WP (F := F) c (.op (.waitDma2 sm src dst hsrc hdst) k) Q) :=
  r_waitD (F := F) m K c (.kv a b) c hsm hN rfl l hl

theorem tc_fst : ((c : Thread nD τ)).1 = c := rfl

/-- A copy of half `b` of the keys, of the values: its token, both ends, the position of its wait. -/
def kRes (b : Fin 2) : sProp 𝕄 := iprop(tok (F := F) c (.kv 0 b) c ∗ kSrc (F := F) m c b ∗ (∃ f, kPt (F := F) c b f) ∗ pos (F := F) c (.kv 0 b) 0)
def vRes (b : Fin 2) : sProp 𝕄 := iprop(tok (F := F) c (.kv 1 b) c ∗ vSrc (F := F) m c b ∗ (∃ f, vPt (F := F) c b f) ∗ pos (F := F) c (.kv 1 b) 0)
def kEnd (b : Fin 2) : sProp 𝕄 := iprop(kPt (F := F) c b (kBuf m c) ∗ kSrc (F := F) m c b ∗ pos (F := F) c (.kv 0 b) 1)
def vEnd (b : Fin 2) : sProp 𝕄 := iprop(vPt (F := F) c b (vBuf m c) ∗ vSrc (F := F) m c b ∗ pos (F := F) c (.kv 1 b) 1)
/-- The barrier signal to `p`. -/
def sigRes (p : Dev nD) : sProp 𝕄 := iprop(tok (F := F) p .bar c ∗ barPayA (F := F) p c ∗ barPayB (F := F) p c)
/-- Block `q`: its slabs, the tokens to send it, the positions of the waits for it to have left. -/
def blkRes (q : Dev nD) : sProp 𝕄 :=
  iprop(((∃ f, oPt (F := F) c q f) ∗ (∃ f, mlPt (F := F) c q f)) ∗ tokQ (F := F) c q ∗ pos (F := F) c (.so q) 0 ∗ pos (F := F) c (.sml q) 0)
/-- The exchange of the output rows with `p`, before the barrier. -/
def rowRes0 (j : Fin 3) (p : Dev nD) : sProp 𝕄 :=
  iprop(tok (F := F) c (.sout j) c ∗ tok (F := F) p (.rout c) c ∗ crd (F := F) c (.rout p) ∗ pos (F := F) c (.rout p) 0 ∗ pos (F := F) c (.sout j) 0)

def inA : sProp 𝕄 :=
  iprop(ow (F := F) c (owe0 c) ∗ ((((c : Thread nD τ).loc cc0_stg0_0) ↦{fullShare} xV m c) ∗ (((c : Thread nD τ).loc cc0_stg1_0) ↦{fullShare} wqV m c))
    ∗ (kRes (F := F) m c 0 ∗ kRes (F := F) m c 1 ∗ vRes (F := F) m c 0 ∗ vRes (F := F) m c 1)
    ∗ (tok (F := F) c .wo c ∗ wSrc (F := F) m c ∗ (∃ f, wPt (F := F) c f) ∗ pos (F := F) c .wo 0)
    ∗ (sigRes (F := F) c (nx c 1) ∗ sigRes (F := F) c (nx c 2) ∗ sigRes (F := F) c (nx c 3)) ∗ (cred (tallyAt (kcell (c, .bar)) () 3) ∗ pos (F := F) c .bar 0)
    ∗ (blkRes (F := F) c 0 ∗ blkRes (F := F) c 1 ∗ blkRes (F := F) c 2 ∗ blkRes (F := F) c 3)
    ∗ ((due (F := F) c (.ro (nx c 1)) ∗ due (F := F) c (.rml (nx c 1))) ∗ (due (F := F) c (.ro (nx c 2)) ∗ due (F := F) c (.rml (nx c 2))) ∗ (due (F := F) c (.ro (nx c 3)) ∗ due (F := F) c (.rml (nx c 3))))
    ∗ (rowRes0 (F := F) c 0 (nx c 1) ∗ rowRes0 (F := F) c 1 (nx c 2) ∗ rowRes0 (F := F) c 2 (nx c 3))
    ∗ (∃ f, ((c : Thread nD τ).loc cc0_stg2_0) ↦{fullShare} f) ∗ (∃ f, sPt (F := F) c fullShare f))
def outA : sProp 𝕄 :=
  iprop(((((c : Thread nD τ).loc cc0_stg0_0) ↦{fullShare} xV m c) ∗ (((c : Thread nD τ).loc cc0_stg1_0) ↦{fullShare} wqV m c))
    ∗ (kEnd (F := F) m c 0 ∗ kEnd (F := F) m c 1 ∗ vEnd (F := F) m c 0 ∗ vEnd (F := F) m c 1)
    ∗ pos (F := F) c .bar 1 ∗ (pos (F := F) c (.ro (nx c 1)) 1 ∗ pos (F := F) c (.rml (nx c 1)) 1 ∗ pos (F := F) c (.ro (nx c 2)) 1) ∗ outB (F := F) m c)

theorem payK (b : Fin 2) : payOf (F := F) m c c (.kv 0 b) = iprop(kPt (F := F) c b (kBuf m c) ∗ kSrc (F := F) m c b) := rfl
theorem payV (b : Fin 2) : payOf (F := F) m c c (.kv 1 b) = iprop(vPt (F := F) c b (vBuf m c) ∗ vSrc (F := F) m c b) := rfl

theorem st_rowN (q : Dev nD) (h : Fin 8) (n n' : ℕ) (hn : h.val = n) (hn' : n + 1 = n')
    {α : Type} {k : PUnit → Prog (TpuEff nD τ sig (Elt F) Λ₀ .tc) α} {Q : α → sProp 𝕄} {off : Fin 2 → ℕ} {off' off'' : Fin 3 → ℕ}
    (hoff : off = ![512 * q.val + 64 * h.val, 0]) (hoff' : off' = ![q.val, h.val, 0]) (hoff'' : off'' = ![q.val, 8 + h.val, 0])
    {inb inb' inb'' hl hx hm hl' hx' hm' hl'' hx'' hm''} {w : Vec F S64x128 .bf16} {w' w'' : Vec F S1x1x64 .f32}
    (hw : w = oB m c q h) (hw' : w' = shapeCast S1x1x64 (mT m c q h) shapeCasts_S64_S1x1x64) (hw'' : w'' = shapeCast S1x1x64 (lT m c q h) shapeCasts_S64_S1x1x64) :
    iprop(oFill (F := F) m c q n ∗ mlFill (F := F) m c q n n)
      ⊢ iprop(((oFill (F := F) m c q n' ∗ mlFill (F := F) m c q n' n') -∗ WP (F := F) c (k ⟨⟩) Q)
      -∗ WP (F := F) c (.op (.load oMem (Rect.unit (s := S2048x128) off S64x128.size inb).toLoadRect hl) fun _ =>
          .op (.store oMem (Rect.unit (s := S2048x128) off S64x128.size inb) w Finset.univ hx hm) fun _ =>
          .op (.load mlMem (Rect.unit (s := S4x16x64) off' S1x1x64.size inb').toLoadRect hl') fun _ =>
          .op (.store mlMem (Rect.unit (s := S4x16x64) off' S1x1x64.size inb') w' Finset.univ hx' hm') fun _ =>
          .op (.load mlMem (Rect.unit (s := S4x16x64) off'' S1x1x64.size inb'').toLoadRect hl'') fun _ =>
          .op (.store mlMem (Rect.unit (s := S4x16x64) off'' S1x1x64.size inb'') w'' Finset.univ hx'' hm'') k) Q) := by
  subst hn; subst hn'; exact st_row (F := F) m c q h hoff hoff' hoff'' hw hw' hw''

set_option maxHeartbeats 40000000 in
/-- The run of the whole body. -/
theorem runA {Q : PUnit → sProp 𝕄} :
    iprop(recs (F := F) m K ∗ inA (F := F) m c) ⊢ iprop((outA (F := F) m c -∗ Q ⟨⟩) -∗ WP (F := F) c (bodyA (F := F)) Q) := by
  unfold bodyA on WP inA kRes vRes sigRes blkRes
  simp (config := {maxSteps := 100000000}) only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, semSignalWord, semWaitWord, Prog.lift, Prog.bind_op, Prog.bind_ret, Prog.pure_eq_ret, Prog.bind_assoc, wp_deviceId, tc_fst]
  iintro ⟨#Hr, Ho, ⟨HX, HQ⟩, ⟨⟨Tk0, Sk0, Dk0, Pk0⟩, ⟨Tk1, Sk1, Dk1, Pk1⟩, ⟨Tv0, Sv0, Dv0, Pv0⟩, ⟨Tv1, Sv1, Dv1, Pv1⟩⟩, ⟨Tw, Sw, Dw, Pw⟩,
    ⟨⟨G1, G1a, G1b⟩, ⟨G2, G2a, G2b⟩, ⟨G3, G3a, G3b⟩⟩, ⟨Cb, Pb⟩, ⟨⟨F0, Y0, Z0⟩, ⟨F1, Y1, Z1⟩, ⟨F2, Y2, Z2⟩, ⟨F3, Y3, Z3⟩⟩,
    ⟨⟨U1, V1⟩, ⟨U2, V2⟩, ⟨U3, V3⟩⟩, ⟨R1, R2, R3⟩, HW, HS⟩ Hk
  iapply (c_k (F := F) m K c 0 rfl) $$ [Tk0 Sk0 Dk0]
  · isplitr; · iexact Hr
    isplitl [Tk0]; · iexact Tk0
    isplitl [Sk0] <;> iassumption
  iintro Ck0
  iapply (c_v (F := F) m K c 0 rfl) $$ [Tv0 Sv0 Dv0]
  · isplitr; · iexact Hr
    isplitl [Tv0]; · iexact Tv0
    isplitl [Sv0] <;> iassumption
  iintro Cv0
  iapply (c_w (F := F) m K c rfl) $$ [Tw Sw Dw]
  · isplitr; · iexact Hr
    isplitl [Tw]; · iexact Tw
    isplitl [Sw] <;> iassumption
  iintro Cw
  iapply (sig_bar (F := F) m K c (nx c 1) _ (Fin.ext (k0_dev1_eq c)) (nx_ne c).1.symm rfl ((nx c 2, .bar) :: (nx c 3, .bar) :: oweS c)) $$ [Ho G1 G1a G1b]
  · isplitr; · iexact Hr
    isplitl [Ho]; · iexact Ho
    isplitl [G1]; · iexact G1
    isplitl [G1a] <;> iassumption
  iintro Ho
  iapply (sig_bar (F := F) m K c (nx c 2) _ (Fin.ext (k0_dev2_eq c)) (nx_ne c).2.1.symm rfl ((nx c 3, .bar) :: oweS c)) $$ [Ho G2 G2a G2b]
  · isplitr; · iexact Hr
    isplitl [Ho]; · iexact Ho
    isplitl [G2]; · iexact G2
    isplitl [G2a] <;> iassumption
  iintro Ho
  iapply (sig_bar (F := F) m K c (nx c 3) _ (Fin.ext (k0_dev3_eq c)) (nx_ne c).2.2.symm rfl (oweS c)) $$ [Ho G3 G3a G3b]
  · isplitr; · iexact Hr
    isplitl [Ho]; · iexact Ho
    isplitl [G3]; · iexact G3
    isplitl [G3a] <;> iassumption
  iintro Ho
  iapply (wait_bar (F := F) m K c rfl) $$ [Cb Ho Pb]
  · isplitr; · iexact Hr
    isplitl [Cb]; · iexact Cb
    isplitl [Ho] <;> iassumption
  iintro ⟨Ho, Pb, H⟩
  ihave H := (bar_split (F := F) m c) $$ H
  icases H with ⟨⟨A0, A1, A2, A3⟩, ⟨B1, B2, B3⟩⟩
  iapply (ld_x (F := F) c (xV m c)) $$ HX
  iintro HX
  iapply (ld_wq (F := F) c (wqV m c)) $$ HQ
  iintro HQ
  iapply (w_kv (F := F) m K c 0 0 rfl (oweS c) (fun x hx => Nat.lt_trans (by decide) (lev_oweS c x hx)) kv_credit) $$ [Ck0 Ho Pk0]
  · isplitr; · iexact Hr
    isplitl [Ck0]; · iexact Ck0
    isplitl [Ho] <;> iassumption
  iintro ⟨Ho, Pk0, H⟩
  ihave H := (Entails.of_eq (payK (F := F) m c 0)) $$ H
  icases H with ⟨Dk0, Sk0⟩
  iapply (w_kv (F := F) m K c 1 0 rfl (oweS c) (fun x hx => Nat.lt_trans (by decide) (lev_oweS c x hx)) kv_credit') $$ [Cv0 Ho Pv0]
  · isplitr; · iexact Hr
    isplitl [Cv0]; · iexact Cv0
    isplitl [Ho] <;> iassumption
  iintro ⟨Ho, Pv0, H⟩
  ihave H := (Entails.of_eq (payV (F := F) m c 0)) $$ H
  icases H with ⟨Dv0, Sv0⟩
  iapply (c_k (F := F) m K c 1 rfl) $$ [Tk1 Sk1 Dk1]
  · isplitr; · iexact Hr
    isplitl [Tk1]; · iexact Tk1
    isplitl [Sk1] <;> iassumption
  iintro Ck1
  iapply (c_v (F := F) m K c 1 rfl) $$ [Tv1 Sv1 Dv1]
  · isplitr; · iexact Hr
    isplitl [Tv1]; · iexact Tv1
    isplitl [Sv1] <;> iassumption
  iintro Cv1
  iapply (ld_k (F := F) m c 0) $$ Dk0
  iintro Dk0
  iapply (ld_v (F := F) m c 0) $$ Dv0
  iintro Dv0
  iapply (w_kv (F := F) m K c 0 1 rfl (oweS c) (fun x hx => Nat.lt_trans (by decide) (lev_oweS c x hx)) kv_credit) $$ [Ck1 Ho Pk1]
  · isplitr; · iexact Hr
    isplitl [Ck1]; · iexact Ck1
    isplitl [Ho] <;> iassumption
  iintro ⟨Ho, Pk1, H⟩
  ihave H := (Entails.of_eq (payK (F := F) m c 1)) $$ H
  icases H with ⟨Dk1, Sk1⟩
  iapply (w_kv (F := F) m K c 1 1 rfl (oweS c) (fun x hx => Nat.lt_trans (by decide) (lev_oweS c x hx)) kv_credit') $$ [Cv1 Ho Pv1]
  · isplitr; · iexact Hr
    isplitl [Cv1]; · iexact Cv1
    isplitl [Ho] <;> iassumption
  iintro ⟨Ho, Pv1, H⟩
  ihave H := (Entails.of_eq (payV (F := F) m c 1)) $$ H
  icases H with ⟨Dv1, Sv1⟩
  iapply (ld_k (F := F) m c 1) $$ Dk1
  iintro Dk1
  iapply (ld_v (F := F) m c 1) $$ Dv1
  iintro Dv1
  ihave HF := (fill_start (F := F) m c 0) $$ F0
  iapply (st_rowN (F := F) m c 0 0 0 1 rfl rfl rfl rfl rfl (shapeCast_self (oB m c 0 0 : FVec F S64x128 .bf16) shapeCasts_S64x128_S64x128) rfl rfl) $$ HF
  iintro HF
  iapply (st_rowN (F := F) m c 0 1 1 2 rfl rfl rfl rfl rfl (shapeCast_self (oB m c 0 1 : FVec F S64x128 .bf16) shapeCasts_S64x128_S64x128) rfl rfl) $$ HF
  iintro HF
  iapply (st_rowN (F := F) m c 0 2 2 3 rfl rfl rfl rfl rfl (shapeCast_self (oB m c 0 2 : FVec F S64x128 .bf16) shapeCasts_S64x128_S64x128) rfl rfl) $$ HF
  iintro HF
  iapply (st_rowN (F := F) m c 0 3 3 4 rfl rfl rfl rfl rfl (shapeCast_self (oB m c 0 3 : FVec F S64x128 .bf16) shapeCasts_S64x128_S64x128) rfl rfl) $$ HF
  iintro HF
  iapply (st_rowN (F := F) m c 0 4 4 5 rfl rfl rfl rfl rfl (shapeCast_self (oB m c 0 4 : FVec F S64x128 .bf16) shapeCasts_S64x128_S64x128) rfl rfl) $$ HF
  iintro HF
  iapply (st_rowN (F := F) m c 0 5 5 6 rfl rfl rfl rfl rfl (shapeCast_self (oB m c 0 5 : FVec F S64x128 .bf16) shapeCasts_S64x128_S64x128) rfl rfl) $$ HF
  iintro HF
  iapply (st_rowN (F := F) m c 0 6 6 7 rfl rfl rfl rfl rfl (shapeCast_self (oB m c 0 6 : FVec F S64x128 .bf16) shapeCasts_S64x128_S64x128) rfl rfl) $$ HF
  iintro HF
  iapply (st_rowN (F := F) m c 0 7 7 8 rfl rfl rfl rfl rfl (shapeCast_self (oB m c 0 7 : FVec F S64x128 .bf16) shapeCasts_S64x128_S64x128) rfl rfl) $$ HF
  iintro HF
  ihave HF := (fill_end (F := F) m c 0) $$ HF
  icases HF with ⟨HO, HM⟩
  ihave HT := (toSend_mk (F := F) c 0) $$ [Y0 A0]
  · isplitl [Y0] <;> iassumption
  iapply (r_sendQ (F := F) m K c 0 (cond1_iff c) (oweQ c 1 ++ (oweQ c 2 ++ (oweQ c 3 ++ oweT c))) (fun _ hq => s_both (F := F) m K c 0 hq _ _ (Fin.ext k0_dev4_eq) (Fin.ext k0_dev5_eq) rfl (so_sem _ c (k0_off1_eq c)) rfl (so_sem _ c (k0_off1_eq c)) (k0_off2_eq c) (k0_off3_eq c) (oweQ c 1 ++ (oweQ c 2 ++ (oweQ c 3 ++ oweT c))))) $$ [Ho HT HO HM]
  · isplitr; · iexact Hr
    isplitl [Ho]; · iexact Ho
    isplitl [HT]; · iexact HT
    isplitl [HO] <;> iassumption
  iintro ⟨N0, Ho⟩
  simp only [Prog.bind_ret]
  ihave HF := (fill_start (F := F) m c 1) $$ F1
  iapply (st_rowN (F := F) m c 1 0 0 1 rfl rfl rfl rfl rfl (shapeCast_self (oB m c 1 0 : FVec F S64x128 .bf16) shapeCasts_S64x128_S64x128) rfl rfl) $$ HF
  iintro HF
  iapply (st_rowN (F := F) m c 1 1 1 2 rfl rfl rfl rfl rfl (shapeCast_self (oB m c 1 1 : FVec F S64x128 .bf16) shapeCasts_S64x128_S64x128) rfl rfl) $$ HF
  iintro HF
  iapply (st_rowN (F := F) m c 1 2 2 3 rfl rfl rfl rfl rfl (shapeCast_self (oB m c 1 2 : FVec F S64x128 .bf16) shapeCasts_S64x128_S64x128) rfl rfl) $$ HF
  iintro HF
  iapply (st_rowN (F := F) m c 1 3 3 4 rfl rfl rfl rfl rfl (shapeCast_self (oB m c 1 3 : FVec F S64x128 .bf16) shapeCasts_S64x128_S64x128) rfl rfl) $$ HF
  iintro HF
  iapply (st_rowN (F := F) m c 1 4 4 5 rfl rfl rfl rfl rfl (shapeCast_self (oB m c 1 4 : FVec F S64x128 .bf16) shapeCasts_S64x128_S64x128) rfl rfl) $$ HF
  iintro HF
  iapply (st_rowN (F := F) m c 1 5 5 6 rfl rfl rfl rfl rfl (shapeCast_self (oB m c 1 5 : FVec F S64x128 .bf16) shapeCasts_S64x128_S64x128) rfl rfl) $$ HF
  iintro HF
  iapply (st_rowN (F := F) m c 1 6 6 7 rfl rfl rfl rfl rfl (shapeCast_self (oB m c 1 6 : FVec F S64x128 .bf16) shapeCasts_S64x128_S64x128) rfl rfl) $$ HF
  iintro HF
  iapply (st_rowN (F := F) m c 1 7 7 8 rfl rfl rfl rfl rfl (shapeCast_self (oB m c 1 7 : FVec F S64x128 .bf16) shapeCasts_S64x128_S64x128) rfl rfl) $$ HF
  iintro HF
  ihave HF := (fill_end (F := F) m c 1) $$ HF
  icases HF with ⟨HO, HM⟩
  ihave HT := (toSend_mk (F := F) c 1) $$ [Y1 A1]
  · isplitl [Y1] <;> iassumption
  iapply (r_sendQ (F := F) m K c 1 (cond2_iff c) (oweQ c 2 ++ (oweQ c 3 ++ oweT c)) (fun _ hq => s_both (F := F) m K c 1 hq _ _ (Fin.ext k0_dev6_eq) (Fin.ext k0_dev7_eq) rfl (so_sem _ c (k0_off4_eq c)) rfl (so_sem _ c (k0_off4_eq c)) (k0_off5_eq c) (k0_off6_eq c) (oweQ c 2 ++ (oweQ c 3 ++ oweT c)))) $$ [Ho HT HO HM]
  · isplitr; · iexact Hr
    isplitl [Ho]; · iexact Ho
    isplitl [HT]; · iexact HT
    isplitl [HO] <;> iassumption
  iintro ⟨N1, Ho⟩
  simp only [Prog.bind_ret]
  ihave HF := (fill_start (F := F) m c 2) $$ F2
  iapply (st_rowN (F := F) m c 2 0 0 1 rfl rfl rfl rfl rfl (shapeCast_self (oB m c 2 0 : FVec F S64x128 .bf16) shapeCasts_S64x128_S64x128) rfl rfl) $$ HF
  iintro HF
  iapply (st_rowN (F := F) m c 2 1 1 2 rfl rfl rfl rfl rfl (shapeCast_self (oB m c 2 1 : FVec F S64x128 .bf16) shapeCasts_S64x128_S64x128) rfl rfl) $$ HF
  iintro HF
  iapply (st_rowN (F := F) m c 2 2 2 3 rfl rfl rfl rfl rfl (shapeCast_self (oB m c 2 2 : FVec F S64x128 .bf16) shapeCasts_S64x128_S64x128) rfl rfl) $$ HF
  iintro HF
  iapply (st_rowN (F := F) m c 2 3 3 4 rfl rfl rfl rfl rfl (shapeCast_self (oB m c 2 3 : FVec F S64x128 .bf16) shapeCasts_S64x128_S64x128) rfl rfl) $$ HF
  iintro HF
  iapply (st_rowN (F := F) m c 2 4 4 5 rfl rfl rfl rfl rfl (shapeCast_self (oB m c 2 4 : FVec F S64x128 .bf16) shapeCasts_S64x128_S64x128) rfl rfl) $$ HF
  iintro HF
  iapply (st_rowN (F := F) m c 2 5 5 6 rfl rfl rfl rfl rfl (shapeCast_self (oB m c 2 5 : FVec F S64x128 .bf16) shapeCasts_S64x128_S64x128) rfl rfl) $$ HF
  iintro HF
  iapply (st_rowN (F := F) m c 2 6 6 7 rfl rfl rfl rfl rfl (shapeCast_self (oB m c 2 6 : FVec F S64x128 .bf16) shapeCasts_S64x128_S64x128) rfl rfl) $$ HF
  iintro HF
  iapply (st_rowN (F := F) m c 2 7 7 8 rfl rfl rfl rfl rfl (shapeCast_self (oB m c 2 7 : FVec F S64x128 .bf16) shapeCasts_S64x128_S64x128) rfl rfl) $$ HF
  iintro HF
  ihave HF := (fill_end (F := F) m c 2) $$ HF
  icases HF with ⟨HO, HM⟩
  ihave HT := (toSend_mk (F := F) c 2) $$ [Y2 A2]
  · isplitl [Y2] <;> iassumption
  iapply (r_sendQ (F := F) m K c 2 (cond3_iff c) (oweQ c 3 ++ oweT c) (fun _ hq => s_both (F := F) m K c 2 hq _ _ (Fin.ext k0_dev8_eq) (Fin.ext k0_dev9_eq) rfl (so_sem _ c (k0_off7_eq c)) rfl (so_sem _ c (k0_off7_eq c)) (k0_off8_eq c) (k0_off9_eq c) (oweQ c 3 ++ oweT c))) $$ [Ho HT HO HM]
  · isplitr; · iexact Hr
    isplitl [Ho]; · iexact Ho
    isplitl [HT]; · iexact HT
    isplitl [HO] <;> iassumption
  iintro ⟨N2, Ho⟩
  simp only [Prog.bind_ret]
  ihave HF := (fill_start (F := F) m c 3) $$ F3
  iapply (st_rowN (F := F) m c 3 0 0 1 rfl rfl rfl rfl rfl (shapeCast_self (oB m c 3 0 : FVec F S64x128 .bf16) shapeCasts_S64x128_S64x128) rfl rfl) $$ HF
  iintro HF
  iapply (st_rowN (F := F) m c 3 1 1 2 rfl rfl rfl rfl rfl (shapeCast_self (oB m c 3 1 : FVec F S64x128 .bf16) shapeCasts_S64x128_S64x128) rfl rfl) $$ HF
  iintro HF
  iapply (st_rowN (F := F) m c 3 2 2 3 rfl rfl rfl rfl rfl (shapeCast_self (oB m c 3 2 : FVec F S64x128 .bf16) shapeCasts_S64x128_S64x128) rfl rfl) $$ HF
  iintro HF
  iapply (st_rowN (F := F) m c 3 3 3 4 rfl rfl rfl rfl rfl (shapeCast_self (oB m c 3 3 : FVec F S64x128 .bf16) shapeCasts_S64x128_S64x128) rfl rfl) $$ HF
  iintro HF
  iapply (st_rowN (F := F) m c 3 4 4 5 rfl rfl rfl rfl rfl (shapeCast_self (oB m c 3 4 : FVec F S64x128 .bf16) shapeCasts_S64x128_S64x128) rfl rfl) $$ HF
  iintro HF
  iapply (st_rowN (F := F) m c 3 5 5 6 rfl rfl rfl rfl rfl (shapeCast_self (oB m c 3 5 : FVec F S64x128 .bf16) shapeCasts_S64x128_S64x128) rfl rfl) $$ HF
  iintro HF
  iapply (st_rowN (F := F) m c 3 6 6 7 rfl rfl rfl rfl rfl (shapeCast_self (oB m c 3 6 : FVec F S64x128 .bf16) shapeCasts_S64x128_S64x128) rfl rfl) $$ HF
  iintro HF
  iapply (st_rowN (F := F) m c 3 7 7 8 rfl rfl rfl rfl rfl (shapeCast_self (oB m c 3 7 : FVec F S64x128 .bf16) shapeCasts_S64x128_S64x128) rfl rfl) $$ HF
  iintro HF
  ihave HF := (fill_end (F := F) m c 3) $$ HF
  icases HF with ⟨HO, HM⟩
  ihave HT := (toSend_mk (F := F) c 3) $$ [Y3 A3]
  · isplitl [Y3] <;> iassumption
  iapply (r_sendQ (F := F) m K c 3 (cond4_iff c) (oweT c) (fun _ hq => s_both (F := F) m K c 3 hq _ _ (Fin.ext k0_dev10_eq) (Fin.ext k0_dev11_eq) rfl (so_sem _ c (k0_off10_eq c)) rfl (so_sem _ c (k0_off10_eq c)) (k0_off11_eq c) (k0_off12_eq c) (oweT c))) $$ [Ho HT HO HM]
  · isplitr; · iexact Hr
    isplitl [Ho]; · iexact Ho
    isplitl [HT]; · iexact HT
    isplitl [HO] <;> iassumption
  iintro ⟨N3, Ho⟩
  ihave HN := (sent_split (F := F) m c) $$ [N0 N1 N2 N3]
  · isplitl [N0]; · iexact N0
    isplitl [N1]; · iexact N1
    isplitl [N2] <;> iassumption
  icases HN with ⟨HO, N0, N1, N2, N3⟩
  iapply (w_ro (F := F) m K c (nx c 1) (nx_ne c).1 (so_sem _ (nx c 1) (k0_off13_eq c 0)) ro_credit) $$ [U1 Ho]
  · isplitr; · iexact Hr
    isplitl [U1] <;> iassumption
  iintro ⟨Ho, U1, I1⟩
  iapply (w_rml (F := F) m K c (nx c 1) (nx_ne c).1 (so_sem _ (nx c 1) (k0_off13_eq c 0)) rml_credit) $$ [V1 Ho]
  · isplitr; · iexact Hr
    isplitl [V1] <;> iassumption
  iintro ⟨Ho, V1, J1⟩
  iapply (w_ro (F := F) m K c (nx c 2) (nx_ne c).2.1 (so_sem _ (nx c 2) (k0_off13_eq c 1)) ro_credit) $$ [U2 Ho]
  · isplitr; · iexact Hr
    isplitl [U2] <;> iassumption
  iintro ⟨Ho, U2, I2⟩
  iapply (runB (F := F) m K c (Q := Q)) $$ [Ho I1 J1 I2 V2 U3 V3 HO Cw Pw HW HS R1 B1 R2 B2 R3 B3 N0 N1 N2 N3 Z0 Z1 Z2 Z3]
  · isplitr; · iexact Hr
    unfold inB inC rowRes rowRes0 outst
    icases R1 with ⟨R1a, R1b, R1c⟩
    icases R2 with ⟨R2a, R2b, R2c⟩
    icases R3 with ⟨R3a, R3b, R3c⟩
    isplitl [I1 J1 I2]
    · isplitl [I1]; · iexact I1
      isplitl [J1] <;> iassumption
    isplitl [V2 U3 V3]
    · isplitl [V2]; · iexact V2
      isplitl [U3] <;> iassumption
    isplitl [HO]; · iexact HO
    isplitl [Ho]; · iexact Ho
    isplitl [Cw Pw]; · isplitl [Cw] <;> iassumption
    isplitl [HW]; · iexact HW
    isplitl [HS]; · iexact HS
    isplitl [R1a R1b R1c B1 R2a R2b R2c B2 R3a R3b R3c B3]
    · isplitl [R1a R1b R1c B1]
      · isplitl [R1a]; · iexact R1a
        isplitl [R1b]; · iexact R1b
        isplitl [B1] <;> iassumption
      isplitl [R2a R2b R2c B2]
      · isplitl [R2a]; · iexact R2a
        isplitl [R2b]; · iexact R2b
        isplitl [B2] <;> iassumption
      isplitl [R3a]; · iexact R3a
      isplitl [R3b]; · iexact R3b
      isplitl [B3] <;> iassumption
    isplitl [N0 Z0]; · isplitl [N0] <;> iassumption
    isplitl [N1 Z1]; · isplitl [N1] <;> iassumption
    isplitl [N2 Z2]; · isplitl [N2] <;> iassumption
    isplitl [N3] <;> iassumption
  iintro HB
  iapply Hk
  unfold outA kEnd vEnd
  isplitl [HX HQ]; · isplitl [HX] <;> iassumption
  isplitl [Dk0 Sk0 Pk0 Dk1 Sk1 Pk1 Dv0 Sv0 Pv0 Dv1 Sv1 Pv1]
  · isplitl [Dk0 Sk0 Pk0]
    · isplitl [Dk0]; · iexact Dk0
      isplitl [Sk0] <;> iassumption
    isplitl [Dk1 Sk1 Pk1]
    · isplitl [Dk1]; · iexact Dk1
      isplitl [Sk1] <;> iassumption
    isplitl [Dv0 Sv0 Pv0]
    · isplitl [Dv0]; · iexact Dv0
      isplitl [Sv0] <;> iassumption
    isplitl [Dv1]; · iexact Dv1
    isplitl [Sv1] <;> iassumption
  isplitl [Pb]; · iexact Pb
  isplitl [U1 V1 U2]
  · isplitl [U1]; · iexact U1
    isplitl [V1] <;> iassumption
  iexact HB

end Start
end Cert.AttnProof
end
-- ==== Proof.Ends.lean ====
/- What the body starts from and ends with, whole buffers and whole families of cells: the buffers cut into their slabs
   and put together again, and the cells closed. -/
module

public import proofs.«01_k».proof.Proof.BodyA

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-! ## Buffers and their slabs -/

omit [FloatOps F] in
/-- A whole buffer, slab by slab. -/
theorem slab_split {ℓ : Loc nD τ sig} {T : Type} [Fintype T] [DecidableEq T] (S : T → Finset (Idx ℓ))
    (hd : ∀ t t', t ≠ t' → Disjoint (S t) (S t')) (hc : ∀ i, ∃ t, i ∈ S t) (f : Buf (Elt F) ℓ) :
    (ℓ ↦{fullShare} f : sProp 𝕄) = bigSep Finset.univ fun t => ℓ ↦[S t]{fullShare} f := by
  rw [← pointsTo_biUnion Finset.univ S fun t _ t' _ h => hd t t' h,
    show Finset.univ.biUnion S = Finset.univ from Finset.eq_univ_iff_forall.mpr fun i => by obtain ⟨t, h⟩ := hc i; exact Finset.mem_biUnion.mpr ⟨t, Finset.mem_univ _, h⟩]

omit [FloatOps F] in
/-- Slabs at any contents make up the whole buffer at some contents. -/
theorem slab_join {ℓ : Loc nD τ sig} {T : Type} [Fintype T] [DecidableEq T] (S : T → Finset (Idx ℓ))
    (hd : ∀ t t', t ≠ t' → Disjoint (S t) (S t')) (hc : ∀ i, ∃ t, i ∈ S t) (f₀ : Buf (Elt F) ℓ) :
    (bigSep Finset.univ fun t => iprop(∃ f : Buf (Elt F) ℓ, ℓ ↦[S t]{fullShare} f)) ⊢ (iprop(∃ f : Buf (Elt F) ℓ, ℓ ↦{fullShare} f) : sProp 𝕄) := by
  have h : ∀ s : Finset T, (bigSep s fun t => iprop(∃ f : Buf (Elt F) ℓ, ℓ ↦[S t]{fullShare} f))
      ⊢ (iprop(∃ f : Buf (Elt F) ℓ, ℓ ↦[s.biUnion S]{fullShare} f) : sProp 𝕄) := by
    intro s
    induction s using Finset.induction_on with
    | empty =>
      rw [Finset.biUnion_empty]
      iintro -
      iexists f₀
      rw [pointsTo_empty]
      iempintro
    | insert t s ht ih =>
      rw [Finset.biUnion_insert, bigSep_insert ht]
      show iprop((∃ f : Buf (Elt F) ℓ, ℓ ↦[S t]{fullShare} f) ∗ bigSep s fun t => iprop(∃ f : Buf (Elt F) ℓ, ℓ ↦[S t]{fullShare} f)) ⊢ _
      iintro ⟨⟨%f, H⟩, H'⟩
      ihave H' := ih $$ H'
      icases H' with ⟨%g, H'⟩
      have hdis : Disjoint (S t) (s.biUnion S) := (Finset.disjoint_biUnion_right _ _ _).mpr fun t' ht' => hd t t' fun e => ht (e ▸ ht')
      iexists _
      iapply (pointsTo_join hdis)
      isplitl [H] <;> iassumption
  refine (h Finset.univ).trans ?_
  rw [show Finset.univ.biUnion S = Finset.univ from Finset.eq_univ_iff_forall.mpr fun i => by obtain ⟨t, h⟩ := hc i; exact Finset.mem_biUnion.mpr ⟨t, Finset.mem_univ _, h⟩]

theorem oR_disj (q q' : Fin 4) (h : q ≠ q') : Disjoint ((oR q).set : Finset S2048x128.Idx) (oR q').set := by
  refine Finset.disjoint_left.mpr fun i hi hi' => h (Fin.ext ?_)
  rw [Rect.mem_set_unit] at hi hi'
  have h1 := hi 0; have h2 := hi' 0
  change 512 * q.val ≤ (i 0).val ∧ (i 0).val < 512 * q.val + 512 at h1
  change 512 * q'.val ≤ (i 0).val ∧ (i 0).val < 512 * q'.val + 512 at h2
  omega
theorem oR_cover (i : S2048x128.Idx) : ∃ q : Fin 4, i ∈ ((oR q).set : Finset S2048x128.Idx) := by
  have h0 : (i 0).val < 2048 := (i 0).isLt
  have h1 : (i 1).val < 128 := (i 1).isLt
  refine ⟨⟨(i 0).val / 512, by omega⟩, ?_⟩
  rw [Rect.mem_set_unit]
  intro a
  match a with
  | ⟨0, _⟩ => show 512 * ((i 0).val / 512) ≤ (i 0).val ∧ (i 0).val < 512 * ((i 0).val / 512) + 512; omega
  | ⟨1, _⟩ => show 0 ≤ (i 1).val ∧ (i 1).val < 0 + 128; omega

/-- Slabs one index of the first axis thick. -/
theorem row_disj {s : Shape} {n : ℕ} (hn : s.rank = n + 1) (R : Fin 4 → Rect s) (hR : ∀ q (i : s.Idx), i ∈ ((R q).set : Finset s.Idx) ↔ (i ⟨0, by omega⟩).val = q.val) (q q' : Fin 4) (h : q ≠ q') :
    Disjoint ((R q).set : Finset s.Idx) (R q').set :=
  Finset.disjoint_left.mpr fun i hi hi' => h (Fin.ext (((hR q i).mp hi).symm.trans ((hR q' i).mp hi')))
theorem row_cover {s : Shape} {n : ℕ} (hn : s.rank = n + 1) (R : Fin 4 → Rect s) (hR : ∀ q (i : s.Idx), i ∈ ((R q).set : Finset s.Idx) ↔ (i ⟨0, by omega⟩).val = q.val)
    (hs : s.size ⟨0, by omega⟩ = 4) (i : s.Idx) : ∃ q : Fin 4, i ∈ ((R q).set : Finset s.Idx) :=
  ⟨⟨(i ⟨0, by omega⟩).val, lt_of_lt_of_eq (i ⟨0, by omega⟩).isLt hs⟩, (hR _ i).mpr rfl⟩

theorem mlR_mem (q : Fin 4) (i : S4x16x64.Idx) : i ∈ ((mlR q).set : Finset S4x16x64.Idx) ↔ (i 0).val = q.val := by
  rw [Rect.mem_set_unit]
  have h1 : (i 1).val < 16 := (i 1).isLt
  have h2 : (i 2).val < 64 := (i 2).isLt
  refine ⟨fun h => by have := h 0; change q.val ≤ (i 0).val ∧ (i 0).val < q.val + 1 at this; omega, fun h a => ?_⟩
  match a with
  | ⟨0, _⟩ => show q.val ≤ (i 0).val ∧ (i 0).val < q.val + 1; omega
  | ⟨1, _⟩ => show 0 ≤ (i 1).val ∧ (i 1).val < 0 + 16; omega
  | ⟨2, _⟩ => show 0 ≤ (i 2).val ∧ (i 2).val < 0 + 64; omega
theorem roR_mem (q : Fin 4) (i : S4x512x128.Idx) : i ∈ ((roR q).set : Finset S4x512x128.Idx) ↔ (i 0).val = q.val := by
  rw [Rect.mem_set_unit]
  have h1 : (i 1).val < 512 := (i 1).isLt
  have h2 : (i 2).val < 128 := (i 2).isLt
  refine ⟨fun h => by have := h 0; change q.val ≤ (i 0).val ∧ (i 0).val < q.val + 1 at this; omega, fun h a => ?_⟩
  match a with
  | ⟨0, _⟩ => show q.val ≤ (i 0).val ∧ (i 0).val < q.val + 1; omega
  | ⟨1, _⟩ => show 0 ≤ (i 1).val ∧ (i 1).val < 0 + 512; omega
  | ⟨2, _⟩ => show 0 ≤ (i 2).val ∧ (i 2).val < 0 + 128; omega
theorem rtR_mem (q : Fin 4) (i : S4x64x1024.Idx) : i ∈ ((rtR q).set : Finset S4x64x1024.Idx) ↔ (i 0).val = q.val := by
  rw [Rect.mem_set_unit]
  have h1 : (i 1).val < 64 := (i 1).isLt
  have h2 : (i 2).val < 1024 := (i 2).isLt
  refine ⟨fun h => by have := h 0; change q.val ≤ (i 0).val ∧ (i 0).val < q.val + 1 at this; omega, fun h a => ?_⟩
  match a with
  | ⟨0, _⟩ => show q.val ≤ (i 0).val ∧ (i 0).val < q.val + 1; omega
  | ⟨1, _⟩ => show 0 ≤ (i 1).val ∧ (i 1).val < 0 + 64; omega
  | ⟨2, _⟩ => show 0 ≤ (i 2).val ∧ (i 2).val < 0 + 1024; omega
theorem half_mem (b : Fin 2) (i : S1x4096x8x128.Idx) : i ∈ ((halfR b).set : Finset S1x4096x8x128.Idx) ↔ (i 1).val / 2048 = b.val := by
  rw [Rect.mem_set_unit]
  have h0 : (i 0).val < 1 := (i 0).isLt
  have h2 : (i 2).val < 8 := (i 2).isLt
  have h3 : (i 3).val < 128 := (i 3).isLt
  refine ⟨fun h => by have := h 1; change 2048 * b.val ≤ (i 1).val ∧ (i 1).val < 2048 * b.val + 2048 at this; omega, fun h a => ?_⟩
  match a with
  | ⟨0, _⟩ => show 0 ≤ (i 0).val ∧ (i 0).val < 0 + 1; omega
  | ⟨1, _⟩ => show 2048 * b.val ≤ (i 1).val ∧ (i 1).val < 2048 * b.val + 2048; omega
  | ⟨2, _⟩ => show 0 ≤ (i 2).val ∧ (i 2).val < 0 + 8; omega
  | ⟨3, _⟩ => show 0 ≤ (i 3).val ∧ (i 3).val < 0 + 128; omega
theorem half_disj (b b' : Fin 2) (h : b ≠ b') : Disjoint ((halfR b).set : Finset S1x4096x8x128.Idx) (halfR b').set :=
  Finset.disjoint_left.mpr fun i hi hi' => h (Fin.ext (((half_mem b i).mp hi).symm.trans ((half_mem b' i).mp hi')))
theorem half_cover (i : S1x4096x8x128.Idx) : ∃ b : Fin 2, i ∈ ((halfR b).set : Finset S1x4096x8x128.Idx) :=
  ⟨⟨(i 1).val / 2048, by have h : (i 1).val < 4096 := (i 1).isLt; omega⟩, (half_mem _ i).mpr rfl⟩

omit [FloatOps F] in
theorem some_of {ℓ : Loc nD τ sig} (S : Finset (Idx ℓ)) (f : Buf (Elt F) ℓ) : (ℓ ↦[S]{fullShare} f : sProp 𝕄) ⊢ iprop(∃ f : Buf (Elt F) ℓ, ℓ ↦[S]{fullShare} f) := by
  iintro H
  iexists f
  iexact H

omit [FloatOps F] in
theorem slab_open {ℓ : Loc nD τ sig} {T : Type} [Fintype T] [DecidableEq T] (S : T → Finset (Idx ℓ))
    (hd : ∀ t t', t ≠ t' → Disjoint (S t) (S t')) (hc : ∀ i, ∃ t, i ∈ S t) :
    (iprop(∃ f : Buf (Elt F) ℓ, ℓ ↦{fullShare} f) : sProp 𝕄) ⊢ bigSep Finset.univ fun t => iprop(∃ f : Buf (Elt F) ℓ, ℓ ↦[S t]{fullShare} f) := by
  iintro ⟨%f, H⟩
  ihave H := (Entails.of_eq (slab_split (F := F) S hd hc f)) $$ H
  have h : (bigSep Finset.univ fun t => (ℓ ↦[S t]{fullShare} f : sProp 𝕄)) ⊢ bigSep Finset.univ fun t => iprop(∃ f : Buf (Elt F) ℓ, ℓ ↦[S t]{fullShare} f) :=
    bigSep_mono fun t _ => some_of (F := F) (S t) f
  iapply h
  iexact H

variable (c : Dev nD)

/-- A scratch buffer whole, at some contents. -/
abbrev whole (b : Ref sig .tc) : sProp 𝕄 := iprop(∃ f : Buf (Elt F) ((c : Thread nD τ).loc b), ((c : Thread nD τ).loc b) ↦{fullShare} f)

/-- The buffers cut by query block or by device. -/
theorem o_open : whole (F := F) c cc0_scratch0 ⊢ bigSep Finset.univ fun q : Dev nD => iprop(∃ f, oPt (F := F) c q f) :=
  slab_open (F := F) (ℓ := (c : Thread nD τ).loc cc0_scratch0) (fun q : Fin 4 => ((oR q).set : Finset S2048x128.Idx)) oR_disj oR_cover
theorem ml_open : whole (F := F) c cc0_scratch1 ⊢ bigSep Finset.univ fun q : Dev nD => iprop(∃ f, mlPt (F := F) c q f) :=
  slab_open (F := F) (ℓ := (c : Thread nD τ).loc cc0_scratch1) (fun q : Fin 4 => ((mlR q).set : Finset S4x16x64.Idx)) (row_disj (n := 2) rfl mlR mlR_mem) (row_cover (n := 2) rfl mlR mlR_mem rfl)
theorem ro_open : whole (F := F) c cc0_scratch2 ⊢ bigSep Finset.univ fun q : Dev nD => iprop(∃ f, roPt (F := F) c q f) :=
  slab_open (F := F) (ℓ := (c : Thread nD τ).loc cc0_scratch2) (fun q : Fin 4 => ((roR q).set : Finset S4x512x128.Idx)) (row_disj (n := 2) rfl roR roR_mem) (row_cover (n := 2) rfl roR roR_mem rfl)
theorem rml_open : whole (F := F) c cc0_scratch3 ⊢ bigSep Finset.univ fun q : Dev nD => iprop(∃ f, rmlPt (F := F) c q f) :=
  slab_open (F := F) (ℓ := (c : Thread nD τ).loc cc0_scratch3) (fun q : Fin 4 => ((mlR q).set : Finset S4x16x64.Idx)) (row_disj (n := 2) rfl mlR mlR_mem) (row_cover (n := 2) rfl mlR mlR_mem rfl)
theorem rt_open : whole (F := F) c cc0_scratch5 ⊢ bigSep Finset.univ fun q : Dev nD => iprop(∃ f, rtPt (F := F) c q f) :=
  slab_open (F := F) (ℓ := (c : Thread nD τ).loc cc0_scratch5) (fun q : Fin 4 => ((rtR q).set : Finset S4x64x1024.Idx)) (row_disj (n := 2) rfl rtR rtR_mem) (row_cover (n := 2) rfl rtR rtR_mem rfl)
theorem k_open : whole (F := F) c cc0_scratch6 ⊢ bigSep Finset.univ fun b : Fin 2 => iprop(∃ f, kPt (F := F) c b f) :=
  slab_open (F := F) (ℓ := (c : Thread nD τ).loc cc0_scratch6) (fun b : Fin 2 => ((halfR b).set : Finset S1x4096x8x128.Idx)) half_disj half_cover
theorem v_open : whole (F := F) c cc0_scratch7 ⊢ bigSep Finset.univ fun b : Fin 2 => iprop(∃ f, vPt (F := F) c b f) :=
  slab_open (F := F) (ℓ := (c : Thread nD τ).loc cc0_scratch7) (fun b : Fin 2 => ((halfR b).set : Finset S1x4096x8x128.Idx)) half_disj half_cover

/-- And put together again. -/
theorem o_close (f₀ : (cc0_scratch0 : Ref sig .tc).ty.Contents (Elt F)) : (bigSep Finset.univ fun q : Dev nD => iprop(∃ f, oPt (F := F) c q f)) ⊢ whole (F := F) c cc0_scratch0 :=
  slab_join (F := F) (ℓ := (c : Thread nD τ).loc cc0_scratch0) (fun q : Fin 4 => ((oR q).set : Finset S2048x128.Idx)) oR_disj oR_cover f₀
theorem ml_close (f₀ : (cc0_scratch1 : Ref sig .tc).ty.Contents (Elt F)) : (bigSep Finset.univ fun q : Dev nD => iprop(∃ f, mlPt (F := F) c q f)) ⊢ whole (F := F) c cc0_scratch1 :=
  slab_join (F := F) (ℓ := (c : Thread nD τ).loc cc0_scratch1) (fun q : Fin 4 => ((mlR q).set : Finset S4x16x64.Idx)) (row_disj (n := 2) rfl mlR mlR_mem) (row_cover (n := 2) rfl mlR mlR_mem rfl) f₀
theorem ro_close (f₀ : (cc0_scratch2 : Ref sig .tc).ty.Contents (Elt F)) : (bigSep Finset.univ fun q : Dev nD => iprop(∃ f, roPt (F := F) c q f)) ⊢ whole (F := F) c cc0_scratch2 :=
  slab_join (F := F) (ℓ := (c : Thread nD τ).loc cc0_scratch2) (fun q : Fin 4 => ((roR q).set : Finset S4x512x128.Idx)) (row_disj (n := 2) rfl roR roR_mem) (row_cover (n := 2) rfl roR roR_mem rfl) f₀
theorem rml_close (f₀ : (cc0_scratch3 : Ref sig .tc).ty.Contents (Elt F)) : (bigSep Finset.univ fun q : Dev nD => iprop(∃ f, rmlPt (F := F) c q f)) ⊢ whole (F := F) c cc0_scratch3 :=
  slab_join (F := F) (ℓ := (c : Thread nD τ).loc cc0_scratch3) (fun q : Fin 4 => ((mlR q).set : Finset S4x16x64.Idx)) (row_disj (n := 2) rfl mlR mlR_mem) (row_cover (n := 2) rfl mlR mlR_mem rfl) f₀
theorem rt_close (f₀ : (cc0_scratch5 : Ref sig .tc).ty.Contents (Elt F)) : (bigSep Finset.univ fun q : Dev nD => iprop(∃ f, rtPt (F := F) c q f)) ⊢ whole (F := F) c cc0_scratch5 :=
  slab_join (F := F) (ℓ := (c : Thread nD τ).loc cc0_scratch5) (fun q : Fin 4 => ((rtR q).set : Finset S4x64x1024.Idx)) (row_disj (n := 2) rfl rtR rtR_mem) (row_cover (n := 2) rfl rtR rtR_mem rfl) f₀
theorem k_close (f₀ : (cc0_scratch6 : Ref sig .tc).ty.Contents (Elt F)) : (bigSep Finset.univ fun b : Fin 2 => iprop(∃ f, kPt (F := F) c b f)) ⊢ whole (F := F) c cc0_scratch6 :=
  slab_join (F := F) (ℓ := (c : Thread nD τ).loc cc0_scratch6) (fun b : Fin 2 => ((halfR b).set : Finset S1x4096x8x128.Idx)) half_disj half_cover f₀
theorem v_close (f₀ : (cc0_scratch7 : Ref sig .tc).ty.Contents (Elt F)) : (bigSep Finset.univ fun b : Fin 2 => iprop(∃ f, vPt (F := F) c b f)) ⊢ whole (F := F) c cc0_scratch7 :=
  slab_join (F := F) (ℓ := (c : Thread nD τ).loc cc0_scratch7) (fun b : Fin 2 => ((halfR b).set : Finset S1x4096x8x128.Idx)) half_disj half_cover f₀

omit [FloatOps F] in
theorem sep_two (Φ : Fin 2 → sProp 𝕄) : bigSep Finset.univ Φ = iprop(Φ 0 ∗ Φ 1) := by
  rw [bigSep_univ_eq_bigSepL [0, 1] (by decide) (by decide)]; rfl

/-- The device's keys, values and output weights in main memory. -/
def argPt (b : Ref sig .tc) : sProp 𝕄 := ((c : Thread nD τ).loc b) ↦{fullShare} m ((c : Thread nD τ).loc b)
theorem argK_eq : argPt (F := F) m c main_arg2 = iprop(kSrc (F := F) m c 0 ∗ kSrc (F := F) m c 1) :=
  (slab_split (F := F) (ℓ := (c : Thread nD τ).loc main_arg2) (fun b : Fin 2 => ((halfR b).set : Finset S1x4096x8x128.Idx)) half_disj half_cover _).trans (sep_two _)
theorem argV_eq : argPt (F := F) m c main_arg3 = iprop(vSrc (F := F) m c 0 ∗ vSrc (F := F) m c 1) :=
  (slab_split (F := F) (ℓ := (c : Thread nD τ).loc main_arg3) (fun b : Fin 2 => ((halfR b).set : Finset S1x4096x8x128.Idx)) half_disj half_cover _).trans (sep_two _)

/-! ## Families over the kinds of cells -/

omit [FloatOps F] in
/-- A family over the kinds, kind by kind. -/
theorem sep_ck (Φ : Ck → sProp 𝕄) : bigSep Finset.univ Φ
    ⊣⊢ iprop(Φ .bar ∗ ((Φ (.kv 0 0) ∗ Φ (.kv 0 1)) ∗ (Φ (.kv 1 0) ∗ Φ (.kv 1 1))) ∗ Φ .wo ∗ (bigSep Finset.univ fun q => Φ (.so q)) ∗ (bigSep Finset.univ fun q => Φ (.ro q))
      ∗ (bigSep Finset.univ fun q => Φ (.sml q)) ∗ (bigSep Finset.univ fun q => Φ (.rml q)) ∗ (Φ (.sout 0) ∗ Φ (.sout 1) ∗ Φ (.sout 2)) ∗ (bigSep Finset.univ fun q => Φ (.rout q))) := by
  rw [bigSep_univ_eq_bigSepL ckList (by decide) ckList_nodup, sep_lit, sep_lit, sep_lit, sep_lit, sep_lit]
  constructor
  · show iprop(Φ .bar ∗ Φ (.kv 0 0) ∗ Φ (.kv 0 1) ∗ Φ (.kv 1 0) ∗ Φ (.kv 1 1) ∗ Φ .wo ∗ Φ (.so 0) ∗ Φ (.so 1) ∗ Φ (.so 2) ∗ Φ (.so 3) ∗ Φ (.ro 0) ∗ Φ (.ro 1) ∗ Φ (.ro 2) ∗ Φ (.ro 3)
      ∗ Φ (.sml 0) ∗ Φ (.sml 1) ∗ Φ (.sml 2) ∗ Φ (.sml 3) ∗ Φ (.rml 0) ∗ Φ (.rml 1) ∗ Φ (.rml 2) ∗ Φ (.rml 3) ∗ Φ (.sout 0) ∗ Φ (.sout 1) ∗ Φ (.sout 2) ∗ Φ (.rout 0) ∗ Φ (.rout 1) ∗ Φ (.rout 2) ∗ Φ (.rout 3)) ⊢ _
    iintro ⟨A, B0, B1, B2, B3, C, D0, D1, D2, D3, E0, E1, E2, E3, G0, G1, G2, G3, H0, H1, H2, H3, I0, I1, I2, J0, J1, J2, J3⟩
    isplitl [A]; · iexact A
    isplitl [B0 B1 B2 B3]
    · isplitl [B0 B1] <;> [(isplitl [B0] <;> iassumption); (isplitl [B2] <;> iassumption)]
    isplitl [C]; · iexact C
    isplitl [D0 D1 D2 D3]
    · isplitl [D0]; · iexact D0
      isplitl [D1]; · iexact D1
      isplitl [D2] <;> iassumption
    isplitl [E0 E1 E2 E3]
    · isplitl [E0]; · iexact E0
      isplitl [E1]; · iexact E1
      isplitl [E2] <;> iassumption
    isplitl [G0 G1 G2 G3]
    · isplitl [G0]; · iexact G0
      isplitl [G1]; · iexact G1
      isplitl [G2] <;> iassumption
    isplitl [H0 H1 H2 H3]
    · isplitl [H0]; · iexact H0
      isplitl [H1]; · iexact H1
      isplitl [H2] <;> iassumption
    isplitl [I0 I1 I2]
    · isplitl [I0]; · iexact I0
      isplitl [I1] <;> iassumption
    isplitl [J0]; · iexact J0
    isplitl [J1]; · iexact J1
    isplitl [J2] <;> iassumption
  · show _ ⊢ iprop(Φ .bar ∗ Φ (.kv 0 0) ∗ Φ (.kv 0 1) ∗ Φ (.kv 1 0) ∗ Φ (.kv 1 1) ∗ Φ .wo ∗ Φ (.so 0) ∗ Φ (.so 1) ∗ Φ (.so 2) ∗ Φ (.so 3) ∗ Φ (.ro 0) ∗ Φ (.ro 1) ∗ Φ (.ro 2) ∗ Φ (.ro 3)
      ∗ Φ (.sml 0) ∗ Φ (.sml 1) ∗ Φ (.sml 2) ∗ Φ (.sml 3) ∗ Φ (.rml 0) ∗ Φ (.rml 1) ∗ Φ (.rml 2) ∗ Φ (.rml 3) ∗ Φ (.sout 0) ∗ Φ (.sout 1) ∗ Φ (.sout 2) ∗ Φ (.rout 0) ∗ Φ (.rout 1) ∗ Φ (.rout 2) ∗ Φ (.rout 3))
    iintro ⟨A, ⟨⟨B0, B1⟩, B2, B3⟩, C, ⟨D0, D1, D2, D3⟩, ⟨E0, E1, E2, E3⟩, ⟨G0, G1, G2, G3⟩, ⟨H0, H1, H2, H3⟩, ⟨I0, I1, I2⟩, J0, J1, J2, J3⟩
    isplitl [A]; · iexact A
    isplitl [B0]; · iexact B0
    isplitl [B1]; · iexact B1
    isplitl [B2]; · iexact B2
    isplitl [B3]; · iexact B3
    isplitl [C]; · iexact C
    isplitl [D0]; · iexact D0
    isplitl [D1]; · iexact D1
    isplitl [D2]; · iexact D2
    isplitl [D3]; · iexact D3
    isplitl [E0]; · iexact E0
    isplitl [E1]; · iexact E1
    isplitl [E2]; · iexact E2
    isplitl [E3]; · iexact E3
    isplitl [G0]; · iexact G0
    isplitl [G1]; · iexact G1
    isplitl [G2]; · iexact G2
    isplitl [G3]; · iexact G3
    isplitl [H0]; · iexact H0
    isplitl [H1]; · iexact H1
    isplitl [H2]; · iexact H2
    isplitl [H3]; · iexact H3
    isplitl [I0]; · iexact I0
    isplitl [I1]; · iexact I1
    isplitl [I2]; · iexact I2
    isplitl [J0]; · iexact J0
    isplitl [J1]; · iexact J1
    isplitl [J2] <;> iassumption

omit [FloatOps F] in
theorem sep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The round a cell is at when the body ends: none was due if nobody credits the cell. -/
def endR (k : Ck) : ℕ := if payers c k = ∅ then 0 else 1

theorem close1 (k : Ck) : iprop(recs (F := F) m K ∗ pos (F := F) c k (endR c k)) ⊢ |={Set.univ}=> semVal (kcell (c, k)) 0 := by
  iintro ⟨#Hr, H⟩
  ihave Hx := (recs_inv m K (c, k)) $$ Hr
  icases Hx with ⟨#Hi, -⟩
  have hd : ∀ r, endR c k ≤ r → (rd (F := F) m).duties (kcell (c, k)) r = ∅ := by
    intro r hr
    unfold endR at hr
    by_cases h : payers c k = ∅
    · rcases Nat.eq_zero_or_pos r with rfl | h'
      · rw [duties_eq, h]
      · exact duties_later m _ r h'
    · rw [if_neg h] at hr; exact duties_later m _ r hr
  imod (Rounds.cell_close ER (rd m) (Set.mem_univ (K (c, k))) (fun h => h) (R := endR c k) hd) $$ [H] with Hz
  · isplitr; · iexact Hi
    iexact H
  imodintro
  iexact Hz

/-- All the cells of a device closed at once. -/
theorem close_all : iprop(recs (F := F) m K ∗ bigSep Finset.univ fun k => pos (F := F) c k (endR c k)) ⊢ |={Set.univ}=> bigSep Finset.univ fun k => semVal (kcell (c, k)) 0 :=
  (sep_pers fun k _ => close1 (F := F) m K c k).trans (bigSep_fupd _ _)

/-! ## The resources of the body, from whole families -/

/-- The tokens device `c` pays with. -/
def myToks : sProp 𝕄 :=
  iprop(((tok (F := F) c (.kv 0 0) c ∗ tok (F := F) c (.kv 0 1) c) ∗ (tok (F := F) c (.kv 1 0) c ∗ tok (F := F) c (.kv 1 1) c)) ∗ tok (F := F) c .wo c
    ∗ (bigSep Finset.univ fun q => tokQ (F := F) c q)
    ∗ (tok (F := F) c (.sout 0) c ∗ tok (F := F) c (.sout 1) c ∗ tok (F := F) c (.sout 2) c)
    ∗ (tok (F := F) (nx c 1) .bar c ∗ tok (F := F) (nx c 1) (.rout c) c) ∗ (tok (F := F) (nx c 2) .bar c ∗ tok (F := F) (nx c 2) (.rout c) c)
    ∗ (tok (F := F) (nx c 3) .bar c ∗ tok (F := F) (nx c 3) (.rout c) c))

theorem toks_peer (p : Dev nD) : (bigSep Finset.univ fun k => tok (F := F) p k c)
    ⊢ iprop(tok (F := F) p .bar c ∗ tok (F := F) p (.ro c) c ∗ tok (F := F) p (.rml c) c ∗ tok (F := F) p (.rout c) c) := by
  iintro H
  ihave H := (sep_ck (F := F) (fun k => tok (F := F) p k c)).1 $$ H
  rw [sep_all c (fun q => tok (F := F) p (.ro q) c), sep_all c (fun q => tok (F := F) p (.rml q) c), sep_all c (fun q => tok (F := F) p (.rout q) c)]
  icases H with ⟨A, -, -, -, ⟨B, -⟩, -, ⟨C, -⟩, -, D, -⟩
  isplitl [A]; · iexact A
  isplitl [B]; · iexact B
  isplitl [C] <;> iassumption

theorem toks_mine : (bigSep Finset.univ fun p : Dev nD => bigSep Finset.univ fun k => tok (F := F) p k c) ⊢ myToks (F := F) c := by
  unfold myToks
  rw [sep_all c, sep_all c (fun q => tokQ (F := F) c q)]
  iintro ⟨H, H1, H2, H3⟩
  ihave H := (sep_ck (F := F) (fun k => tok (F := F) c k c)).1 $$ H
  ihave H1 := (toks_peer (F := F) c (nx c 1)) $$ H1
  ihave H2 := (toks_peer (F := F) c (nx c 2)) $$ H2
  ihave H3 := (toks_peer (F := F) c (nx c 3)) $$ H3
  rw [sep_all c (fun q => tok (F := F) c (.so q) c), sep_all c (fun q => tok (F := F) c (.sml q) c)]
  icases H with ⟨-, A, B, ⟨-, S1, S2, S3⟩, -, ⟨-, M1, M2, M3⟩, -, E, -⟩
  icases H1 with ⟨A1, B1, C1, D1⟩
  icases H2 with ⟨A2, B2, C2, D2⟩
  icases H3 with ⟨A3, B3, C3, D3⟩
  isplitl [A]; · iexact A
  isplitl [B]; · iexact B
  isplitl [S1 S2 S3 M1 M2 M3 B1 C1 B2 C2 B3 C3]
  · unfold tokQ
    rw [if_pos rfl, if_neg (nx_ne c).1, if_neg (nx_ne c).2.1, if_neg (nx_ne c).2.2]
    isplitr; · iempintro
    isplitl [S1 M1 B1 C1]
    · isplitl [S1 B1]
      · isplitl [S1] <;> iassumption
      · isplitl [M1] <;> iassumption
    isplitl [S2 M2 B2 C2]
    · isplitl [S2 B2]
      · isplitl [S2] <;> iassumption
      · isplitl [M2] <;> iassumption
    isplitl [S3 B3]
    · isplitl [S3] <;> iassumption
    · isplitl [M3] <;> iassumption
  isplitl [E]; · iexact E
  isplitl [A1 D1]; · isplitl [A1] <;> iassumption
  isplitl [A2 D2]; · isplitl [A2] <;> iassumption
  isplitl [A3] <;> iassumption

/-- The credits device `c` is owed. -/
def creds : sProp 𝕄 :=
  iprop(cred (tallyAt (kcell (c, .bar)) () 3) ∗ (crd (F := F) c (.ro (nx c 1)) ∗ crd (F := F) c (.ro (nx c 2)) ∗ crd (F := F) c (.ro (nx c 3)))
    ∗ (crd (F := F) c (.rml (nx c 1)) ∗ crd (F := F) c (.rml (nx c 2)) ∗ crd (F := F) c (.rml (nx c 3)))
    ∗ (crd (F := F) c (.rout (nx c 1)) ∗ crd (F := F) c (.rout (nx c 2)) ∗ crd (F := F) c (.rout (nx c 3))))

/-- The scratch buffers, whole. -/
def scr : sProp 𝕄 :=
  iprop(whole (F := F) c cc0_scratch0 ∗ whole (F := F) c cc0_scratch1 ∗ whole (F := F) c cc0_scratch2 ∗ whole (F := F) c cc0_scratch3 ∗ whole (F := F) c cc0_scratch4
    ∗ whole (F := F) c cc0_scratch5 ∗ whole (F := F) c cc0_scratch6 ∗ whole (F := F) c cc0_scratch7 ∗ whole (F := F) c cc0_scratch8)
def args : sProp 𝕄 := iprop(argPt (F := F) m c main_arg2 ∗ argPt (F := F) m c main_arg3 ∗ argPt (F := F) m c main_arg4)
/-- The staged inputs. -/
def ins : sProp 𝕄 := iprop((((c : Thread nD τ).loc cc0_stg0_0) ↦{fullShare} xV m c) ∗ (((c : Thread nD τ).loc cc0_stg1_0) ↦{fullShare} wqV m c))

/-- What the body neither uses nor gives away: the slabs nobody writes, the cells nobody credits. -/
def keep : sProp 𝕄 :=
  iprop((pos (F := F) c (.ro c) 0 ∗ pos (F := F) c (.rml c) 0 ∗ pos (F := F) c (.rout c) 0)
    ∗ (∃ f, roPt (F := F) c c f) ∗ (∃ f, rmlPt (F := F) c c f) ∗ (∃ f, rtPt (F := F) c c f))

theorem open_A : iprop((bigSep Finset.univ fun k => pos (F := F) c k 0) ∗ myToks (F := F) c ∗ creds (F := F) c ∗ args (F := F) m c ∗ scr (F := F) c ∗ ins (F := F) m c
      ∗ whole (F := F) c cc0_stg2_0 ∗ ow (F := F) c (owe0 c))
    ⊢ iprop(inA (F := F) m c ∗ keep (F := F) c) := by
  unfold myToks creds args scr ins
  iintro ⟨P, ⟨⟨⟨T00, T01⟩, T10, T11⟩, Tw, TQ, ⟨Ts0, Ts1, Ts2⟩, ⟨Tb1, Tr1⟩, ⟨Tb2, Tr2⟩, Tb3, Tr3⟩, ⟨Cb, ⟨Co1, Co2, Co3⟩, ⟨Cm1, Cm2, Cm3⟩, Cr1, Cr2, Cr3⟩, ⟨A2, A3, A4⟩,
    ⟨X0, X1, X2, X3, X4, X5, X6, X7, X8⟩, HI, HW, Ho⟩
  ihave P := (sep_ck (F := F) (fun k => pos (F := F) c k 0)).1 $$ P
  ihave X0 := (o_open (F := F) c) $$ X0
  ihave X1 := (ml_open (F := F) c) $$ X1
  ihave X2 := (ro_open (F := F) c) $$ X2
  ihave X3 := (rml_open (F := F) c) $$ X3
  ihave X5 := (rt_open (F := F) c) $$ X5
  ihave X6 := (k_open (F := F) c) $$ X6
  ihave X7 := (v_open (F := F) c) $$ X7
  ihave A2 := (Entails.of_eq (argK_eq (F := F) m c)) $$ A2
  ihave A3 := (Entails.of_eq (argV_eq (F := F) m c)) $$ A3
  ihave X0 := (Entails.of_eq (sep_lit (F := F) _)) $$ X0
  ihave X1 := (Entails.of_eq (sep_lit (F := F) _)) $$ X1
  ihave X2 := (Entails.of_eq (sep_all (F := F) c _)) $$ X2
  ihave X3 := (Entails.of_eq (sep_all (F := F) c _)) $$ X3
  ihave X5 := (Entails.of_eq (sep_all (F := F) c _)) $$ X5
  ihave X6 := (Entails.of_eq (sep_two (F := F) _)) $$ X6
  ihave X7 := (Entails.of_eq (sep_two (F := F) _)) $$ X7
  ihave TQ := (Entails.of_eq (sep_lit (F := F) _)) $$ TQ
  icases P with ⟨Pb, ⟨⟨P00, P01⟩, P10, P11⟩, Pw, So, Ro, Sm, Rm, ⟨St0, St1, St2⟩, Rt⟩
  ihave So := (Entails.of_eq (sep_lit (F := F) _)) $$ So
  ihave Sm := (Entails.of_eq (sep_lit (F := F) _)) $$ Sm
  ihave Ro := (Entails.of_eq (sep_all (F := F) c _)) $$ Ro
  ihave Rm := (Entails.of_eq (sep_all (F := F) c _)) $$ Rm
  ihave Rt := (Entails.of_eq (sep_all (F := F) c _)) $$ Rt
  icases So with ⟨So0, So1, So2, So3⟩
  icases Sm with ⟨Sm0, Sm1, Sm2, Sm3⟩
  icases Ro with ⟨Ro, Ro1, Ro2, Ro3⟩
  icases Rm with ⟨Rm, Rm1, Rm2, Rm3⟩
  icases Rt with ⟨Rt, Rt1, Rt2, Rt3⟩
  icases A2 with ⟨K0, K1⟩
  icases A3 with ⟨V0, V1⟩
  icases X0 with ⟨O0, O1, O2, O3⟩
  icases X1 with ⟨M0, M1, M2, M3⟩
  icases X2 with ⟨Xo, Xo1, Xo2, Xo3⟩
  icases X3 with ⟨Xm, Xm1, Xm2, Xm3⟩
  icases X5 with ⟨Xt, Xt1, Xt2, Xt3⟩
  icases X6 with ⟨Xk0, Xk1⟩
  icases X7 with ⟨Xv0, Xv1⟩
  icases TQ with ⟨Q0, Q1, Q2, Q3⟩
  isplitr [Ro Rm Rt Xo Xm Xt]
  · unfold inA
    isplitl [Ho]; · iexact Ho
    isplitl [HI]; · iexact HI
    isplitl [T00 T01 T10 T11 K0 K1 V0 V1 Xk0 Xk1 Xv0 Xv1 P00 P01 P10 P11]
    · unfold kRes vRes
      isplitl [T00 K0 Xk0 P00]
      · isplitl [T00]; · iexact T00
        isplitl [K0]; · iexact K0
        isplitl [Xk0] <;> iassumption
      isplitl [T01 K1 Xk1 P01]
      · isplitl [T01]; · iexact T01
        isplitl [K1]; · iexact K1
        isplitl [Xk1] <;> iassumption
      isplitl [T10 V0 Xv0 P10]
      · isplitl [T10]; · iexact T10
        isplitl [V0]; · iexact V0
        isplitl [Xv0] <;> iassumption
      isplitl [T11]; · iexact T11
      isplitl [V1]; · iexact V1
      isplitl [Xv1] <;> iassumption
    isplitl [Tw A4 X8 Pw]
    · isplitl [Tw]; · iexact Tw
      isplitl [A4]; · unfold argPt wSrc; iexact A4
      isplitl [X8]; · unfold wPt; iexact X8
      iexact Pw
    isplitl [Tb1 Tb2 Tb3 Xo1 Xo2 Xo3 Xm1 Xm2 Xm3 Xt1 Xt2 Xt3]
    · unfold sigRes barPayA barPayB
      isplitl [Tb1 Xo1 Xm1 Xt1]
      · isplitl [Tb1]; · iexact Tb1
        isplitl [Xo1 Xm1]; · isplitl [Xo1] <;> iassumption
        iexact Xt1
      isplitl [Tb2 Xo2 Xm2 Xt2]
      · isplitl [Tb2]; · iexact Tb2
        isplitl [Xo2 Xm2]; · isplitl [Xo2] <;> iassumption
        iexact Xt2
      isplitl [Tb3]; · iexact Tb3
      isplitl [Xo3 Xm3]; · isplitl [Xo3] <;> iassumption
      iexact Xt3
    isplitl [Cb Pb]; · isplitl [Cb] <;> iassumption
    isplitl [O0 O1 O2 O3 M0 M1 M2 M3 Q0 Q1 Q2 Q3 So0 So1 So2 So3 Sm0 Sm1 Sm2 Sm3]
    · unfold blkRes
      isplitl [O0 M0 Q0 So0 Sm0]
      · isplitl [O0 M0]; · isplitl [O0] <;> iassumption
        isplitl [Q0]; · iexact Q0
        isplitl [So0] <;> iassumption
      isplitl [O1 M1 Q1 So1 Sm1]
      · isplitl [O1 M1]; · isplitl [O1] <;> iassumption
        isplitl [Q1]; · iexact Q1
        isplitl [So1] <;> iassumption
      isplitl [O2 M2 Q2 So2 Sm2]
      · isplitl [O2 M2]; · isplitl [O2] <;> iassumption
        isplitl [Q2]; · iexact Q2
        isplitl [So2] <;> iassumption
      isplitl [O3 M3]; · isplitl [O3] <;> iassumption
      isplitl [Q3]; · iexact Q3
      isplitl [So3] <;> iassumption
    isplitl [Co1 Co2 Co3 Cm1 Cm2 Cm3 Ro1 Ro2 Ro3 Rm1 Rm2 Rm3]
    · unfold due
      isplitl [Co1 Ro1 Cm1 Rm1]
      · isplitl [Co1 Ro1]; · isplitl [Co1] <;> iassumption
        isplitl [Cm1] <;> iassumption
      isplitl [Co2 Ro2 Cm2 Rm2]
      · isplitl [Co2 Ro2]; · isplitl [Co2] <;> iassumption
        isplitl [Cm2] <;> iassumption
      isplitl [Co3 Ro3]; · isplitl [Co3] <;> iassumption
      isplitl [Cm3] <;> iassumption
    isplitl [Ts0 Ts1 Ts2 Tr1 Tr2 Tr3 Cr1 Cr2 Cr3 Rt1 Rt2 Rt3 St0 St1 St2]
    · unfold rowRes0
      isplitl [Ts0 Tr1 Cr1 Rt1 St0]
      · isplitl [Ts0]; · iexact Ts0
        isplitl [Tr1]; · iexact Tr1
        isplitl [Cr1]; · iexact Cr1
        isplitl [Rt1] <;> iassumption
      isplitl [Ts1 Tr2 Cr2 Rt2 St1]
      · isplitl [Ts1]; · iexact Ts1
        isplitl [Tr2]; · iexact Tr2
        isplitl [Cr2]; · iexact Cr2
        isplitl [Rt2] <;> iassumption
      isplitl [Ts2]; · iexact Ts2
      isplitl [Tr3]; · iexact Tr3
      isplitl [Cr3]; · iexact Cr3
      isplitl [Rt3] <;> iassumption
    isplitl [HW]; · iexact HW
    unfold sPt; iexact X4
  unfold keep
  isplitl [Ro Rm Rt]
  · isplitl [Ro]; · iexact Ro
    isplitl [Rm] <;> iassumption
  isplitl [Xo]; · iexact Xo
  isplitl [Xm] <;> iassumption

theorem endR_nx : ∀ c : Dev nD, endR c .bar = 1 ∧ endR c (.ro (nx c 1)) = 1 ∧ endR c (.ro (nx c 2)) = 1 ∧ endR c (.ro (nx c 3)) = 1
    ∧ endR c (.rml (nx c 1)) = 1 ∧ endR c (.rml (nx c 2)) = 1 ∧ endR c (.rml (nx c 3)) = 1
    ∧ endR c (.rout (nx c 1)) = 1 ∧ endR c (.rout (nx c 2)) = 1 ∧ endR c (.rout (nx c 3)) = 1
    ∧ endR c (.ro c) = 0 ∧ endR c (.rml c) = 0 ∧ endR c (.rout c) = 0 := by decide
theorem endR_so : ∀ c q : Dev nD, endR c (.so q) = rnd c q ∧ endR c (.sml q) = rnd c q := by decide

/-- The blocks kept or sent, all back. -/
theorem done_split : iprop((oPt (F := F) c c (bufO m c) ∗ mlPt (F := F) c c (bufML m c)) ∗ done (F := F) m c 0 ∗ done (F := F) m c 1 ∗ done (F := F) m c 2 ∗ done (F := F) m c 3)
    ⊢ iprop((bigSep Finset.univ fun q => oPt (F := F) c q (bufO m c)) ∗ (bigSep Finset.univ fun q => mlPt (F := F) c q (bufML m c))) := by
  refine Entails.of_eq ?_
  rw [← bigSep_sep', ← sep_lit (fun q => done (F := F) m c q)]
  refine (sep_own (F := F) c (fun q => iprop(oPt (F := F) c q (bufO m c) ∗ mlPt (F := F) c q (bufML m c))) (fun q => iprop(oPt (F := F) c q (bufO m c) ∗ mlPt (F := F) c q (bufML m c)))).symm.trans ?_
  exact congrArg (bigSep Finset.univ) (funext fun q => by split <;> rfl)

theorem o_shut (f : (cc0_scratch0 : Ref sig .tc).ty.Contents (Elt F)) : (bigSep Finset.univ fun q : Dev nD => oPt (F := F) c q f) ⊢ whole (F := F) c cc0_scratch0 :=
  (bigSep_mono fun q _ => some_of (F := F) (ℓ := (c : Thread nD τ).loc cc0_scratch0) _ f).trans (o_close (F := F) c f)
theorem ml_shut (f : (cc0_scratch1 : Ref sig .tc).ty.Contents (Elt F)) : (bigSep Finset.univ fun q : Dev nD => mlPt (F := F) c q f) ⊢ whole (F := F) c cc0_scratch1 :=
  (bigSep_mono fun q _ => some_of (F := F) (ℓ := (c : Thread nD τ).loc cc0_scratch1) _ f).trans (ml_close (F := F) c f)

/-- One slab at any contents, the others as received. -/
theorem ro_shut (f : (cc0_scratch2 : Ref sig .tc).ty.Contents (Elt F)) :
    iprop((∃ g, roPt (F := F) c c g) ∗ roPt (F := F) c (nx c 1) f ∗ roPt (F := F) c (nx c 2) f ∗ roPt (F := F) c (nx c 3) f) ⊢ whole (F := F) c cc0_scratch2 := by
  iintro ⟨H, H1, H2, H3⟩
  iapply (ro_close (F := F) c f)
  iapply (Entails.of_eq (sep_all (F := F) c (fun q => iprop(∃ g, roPt (F := F) c q g))).symm)
  isplitl [H]; · iexact H
  isplitl [H1]; · iexists f; iexact H1
  isplitl [H2]; · iexists f; iexact H2
  iexists f; iexact H3
theorem rml_shut (f : (cc0_scratch3 : Ref sig .tc).ty.Contents (Elt F)) :
    iprop((∃ g, rmlPt (F := F) c c g) ∗ rmlPt (F := F) c (nx c 1) f ∗ rmlPt (F := F) c (nx c 2) f ∗ rmlPt (F := F) c (nx c 3) f) ⊢ whole (F := F) c cc0_scratch3 := by
  iintro ⟨H, H1, H2, H3⟩
  iapply (rml_close (F := F) c f)
  iapply (Entails.of_eq (sep_all (F := F) c (fun q => iprop(∃ g, rmlPt (F := F) c q g))).symm)
  isplitl [H]; · iexact H
  isplitl [H1]; · iexists f; iexact H1
  isplitl [H2]; · iexists f; iexact H2
  iexists f; iexact H3
theorem rt_shut (f : (cc0_scratch5 : Ref sig .tc).ty.Contents (Elt F)) :
    iprop((∃ g, rtPt (F := F) c c g) ∗ rtPt (F := F) c (nx c 1) f ∗ rtPt (F := F) c (nx c 2) f ∗ rtPt (F := F) c (nx c 3) f) ⊢ whole (F := F) c cc0_scratch5 := by
  iintro ⟨H, H1, H2, H3⟩
  iapply (rt_close (F := F) c f)
  iapply (Entails.of_eq (sep_all (F := F) c (fun q => iprop(∃ g, rtPt (F := F) c q g))).symm)
  isplitl [H]; · iexact H
  isplitl [H1]; · iexists f; iexact H1
  isplitl [H2]; · iexists f; iexact H2
  iexists f; iexact H3
theorem k_shut (f : (cc0_scratch6 : Ref sig .tc).ty.Contents (Elt F)) : iprop(kPt (F := F) c 0 f ∗ kPt (F := F) c 1 f) ⊢ whole (F := F) c cc0_scratch6 :=
  (Entails.of_eq (sep_two (F := F) (fun b => kPt (F := F) c b f)).symm).trans
    ((bigSep_mono fun q _ => some_of (F := F) (ℓ := (c : Thread nD τ).loc cc0_scratch6) _ f).trans (k_close (F := F) c f))
theorem v_shut (f : (cc0_scratch7 : Ref sig .tc).ty.Contents (Elt F)) : iprop(vPt (F := F) c 0 f ∗ vPt (F := F) c 1 f) ⊢ whole (F := F) c cc0_scratch7 :=
  (Entails.of_eq (sep_two (F := F) (fun b => vPt (F := F) c b f)).symm).trans
    ((bigSep_mono fun q _ => some_of (F := F) (ℓ := (c : Thread nD τ).loc cc0_scratch7) _ f).trans (v_close (F := F) c f))

/-- The positions at the end. -/
theorem pos_end : iprop(pos (F := F) c .bar 1 ∗ ((pos (F := F) c (.kv 0 0) 1 ∗ pos (F := F) c (.kv 0 1) 1) ∗ (pos (F := F) c (.kv 1 0) 1 ∗ pos (F := F) c (.kv 1 1) 1)) ∗ pos (F := F) c .wo 1
      ∗ (bigSep Finset.univ fun q => pos (F := F) c (.so q) (rnd c q))
      ∗ (pos (F := F) c (.ro c) 0 ∗ pos (F := F) c (.ro (nx c 1)) 1 ∗ pos (F := F) c (.ro (nx c 2)) 1 ∗ pos (F := F) c (.ro (nx c 3)) 1)
      ∗ (bigSep Finset.univ fun q => pos (F := F) c (.sml q) (rnd c q))
      ∗ (pos (F := F) c (.rml c) 0 ∗ pos (F := F) c (.rml (nx c 1)) 1 ∗ pos (F := F) c (.rml (nx c 2)) 1 ∗ pos (F := F) c (.rml (nx c 3)) 1)
      ∗ (pos (F := F) c (.sout 0) 1 ∗ pos (F := F) c (.sout 1) 1 ∗ pos (F := F) c (.sout 2) 1)
      ∗ (pos (F := F) c (.rout c) 0 ∗ pos (F := F) c (.rout (nx c 1)) 1 ∗ pos (F := F) c (.rout (nx c 2)) 1 ∗ pos (F := F) c (.rout (nx c 3)) 1))
    ⊢ bigSep Finset.univ fun k => pos (F := F) c k (endR c k) := by
  refine Entails.trans (Entails.of_eq ?_) (sep_ck (F := F) (fun k => pos (F := F) c k (endR c k))).2
  obtain ⟨h0, h1, h2, h3, h4, h5, h6, h7, h8, h9, h10, h11, h12⟩ := endR_nx c
  rw [sep_all c (fun q => pos (F := F) c (.ro q) (endR c (.ro q))), sep_all c (fun q => pos (F := F) c (.rml q) (endR c (.rml q))), sep_all c (fun q => pos (F := F) c (.rout q) (endR c (.rout q))),
    h0, h1, h2, h3, h4, h5, h6, h7, h8, h9, h10, h11, h12, (funext fun q => by rw [(endR_so c q).1] : (fun q => pos (F := F) c (.so q) (endR c (.so q))) = fun q => pos (F := F) c (.so q) (rnd c q)),
    (funext fun q => by rw [(endR_so c q).2] : (fun q => pos (F := F) c (.sml q) (endR c (.sml q))) = fun q => pos (F := F) c (.sml q) (rnd c q))]
  rfl

theorem close_A : iprop(outA (F := F) m c ∗ keep (F := F) c)
    ⊢ iprop((bigSep Finset.univ fun k => pos (F := F) c k (endR c k)) ∗ ow (F := F) c [] ∗ ins (F := F) m c ∗ (((c : Thread nD τ).loc cc0_stg2_0) ↦{fullShare} outW m c) ∗ args (F := F) m c ∗ scr (F := F) c) := by
  unfold outA keep kEnd vEnd outB held outC rowEnd outEnd
  iintro ⟨⟨HI, ⟨⟨Xk0, K0, P00⟩, ⟨Xk1, K1, P01⟩, ⟨Xv0, V0, P10⟩, Xv1, V1, P11⟩, Pb, ⟨Ro1, Rm1, Ro2⟩, ⟨HO, ⟨Xo1, Xm1⟩, ⟨Xo2, Xm2⟩, Xo3, Xm3⟩, ⟨Rm2, Ro3, Rm3⟩,
    Ho, ⟨Hw, Pw⟩, HW, HS, ⟨⟨Xt1, Rt1, St0⟩, ⟨Xt2, Rt2, St1⟩, Xt3, Rt3, St2⟩, ⟨D0, So0, Sm0⟩, ⟨D1, So1, Sm1⟩, ⟨D2, So2, Sm2⟩, D3, So3, Sm3⟩, ⟨Ro, Rm, Rt⟩, Xo, Xm, Xt⟩
  ihave Hw := (Entails.of_eq (show payOf (F := F) m c c .wo = iprop(wPt (F := F) c (woBuf m c) ∗ wSrc (F := F) m c) from rfl)) $$ Hw
  icases Hw with ⟨X8, A4⟩
  ihave HD := (done_split (F := F) m c) $$ [HO D0 D1 D2 D3]
  · isplitl [HO]; · iexact HO
    isplitl [D0]; · iexact D0
    isplitl [D1]; · iexact D1
    isplitl [D2] <;> iassumption
  icases HD with ⟨X0, X1⟩
  isplitl [Pb P00 P01 P10 P11 Pw So0 So1 So2 So3 Sm0 Sm1 Sm2 Sm3 Ro Ro1 Ro2 Ro3 Rm Rm1 Rm2 Rm3 St0 St1 St2 Rt Rt1 Rt2 Rt3]
  · iapply (pos_end (F := F) c)
    isplitl [Pb]; · iexact Pb
    isplitl [P00 P01 P10 P11]
    · isplitl [P00 P01] <;> [(isplitl [P00] <;> iassumption); (isplitl [P10] <;> iassumption)]
    isplitl [Pw]; · iexact Pw
    isplitl [So0 So1 So2 So3]
    · iapply (Entails.of_eq (sep_lit (F := F) (fun q => pos (F := F) c (.so q) (rnd c q))).symm)
      isplitl [So0]; · iexact So0
      isplitl [So1]; · iexact So1
      isplitl [So2] <;> iassumption
    isplitl [Ro Ro1 Ro2 Ro3]
    · isplitl [Ro]; · iexact Ro
      isplitl [Ro1]; · iexact Ro1
      isplitl [Ro2] <;> iassumption
    isplitl [Sm0 Sm1 Sm2 Sm3]
    · iapply (Entails.of_eq (sep_lit (F := F) (fun q => pos (F := F) c (.sml q) (rnd c q))).symm)
      isplitl [Sm0]; · iexact Sm0
      isplitl [Sm1]; · iexact Sm1
      isplitl [Sm2] <;> iassumption
    isplitl [Rm Rm1 Rm2 Rm3]
    · isplitl [Rm]; · iexact Rm
      isplitl [Rm1]; · iexact Rm1
      isplitl [Rm2] <;> iassumption
    isplitl [St0 St1 St2]
    · isplitl [St0]; · iexact St0
      isplitl [St1] <;> iassumption
    isplitl [Rt]; · iexact Rt
    isplitl [Rt1]; · iexact Rt1
    isplitl [Rt2] <;> iassumption
  isplitl [Ho]; · iexact Ho
  isplitl [HI]; · unfold ins; iexact HI
  isplitl [HW]; · iexact HW
  isplitl [K0 K1 V0 V1 A4]
  · unfold args
    isplitl [K0 K1]
    · iapply (Entails.of_eq (argK_eq (F := F) m c).symm)
      isplitl [K0] <;> iassumption
    isplitl [V0 V1]
    · iapply (Entails.of_eq (argV_eq (F := F) m c).symm)
      isplitl [V0] <;> iassumption
    unfold argPt wSrc; iexact A4
  unfold scr
  isplitl [X0]; · iapply (o_shut (F := F) c (bufO m c)); iexact X0
  isplitl [X1]; · iapply (ml_shut (F := F) c (bufML m c)); iexact X1
  isplitl [Xo Xo1 Xo2 Xo3]
  · iapply (ro_shut (F := F) c (recvO m c))
    isplitl [Xo]; · iexact Xo
    isplitl [Xo1]; · iexact Xo1
    isplitl [Xo2] <;> iassumption
  isplitl [Xm Xm1 Xm2 Xm3]
  · iapply (rml_shut (F := F) c (recvML m c))
    isplitl [Xm]; · iexact Xm
    isplitl [Xm1]; · iexact Xm1
    isplitl [Xm2] <;> iassumption
  isplitl [HS]; · iexists (outS m c); unfold sPt; iexact HS
  isplitl [Xt Xt1 Xt2 Xt3]
  · iapply (rt_shut (F := F) c (outR m c))
    isplitl [Xt]; · iexact Xt
    isplitl [Xt1]; · iexact Xt1
    isplitl [Xt2] <;> iassumption
  isplitl [Xk0 Xk1]
  · iapply (k_shut (F := F) c (kBuf m c))
    isplitl [Xk0] <;> iassumption
  isplitl [Xv0 Xv1]
  · iapply (v_shut (F := F) c (vBuf m c))
    isplitl [Xv0] <;> iassumption
  iexists (woBuf m c); unfold wPt; iexact X8

end Cert.AttnProof
end
-- ==== Proof.BodyEq.lean ====
/- The body the pipeline calls is the body the run is about. -/
module

public import proofs.«01_k».proof.Proof.Ends
public import proofs.«01_k».proof.Proof.Gen.KernelIdeal.Points

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

set_option maxHeartbeats 4000000 in
theorem body_eq : bodyAt0 (F := F) t0_0 = bodyA (F := F) := by
  unfold bodyAt0
  rw [cc0_body_eq_skeleton]
  unfold cc0_body_skel bodyA bodyB bodyC on
  rw [k0_part68_eq_skeleton]
  unfold k0_part68_skel
  simp only [Prog.bind_assoc]
  rfl

end Cert.AttnProof
end
-- ==== Proof.LaunchBody.lean ====
/- The launch: from the memory at launch every device runs the attention body to its end; the result array holds the
   computed rows, every argument holds what it held, every counter is back at zero. -/
module

public import proofs.«01_k».proof.Proof.BodyEq
public import proofs.«01_k».proof.Proof.Ends

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The invariants at some names, with the device's positions and tokens. -/
def G' (c : Dev nD) : sProp 𝕄 :=
  iprop(∃ K : Dev nD × Ck → ℕ, (bigSep Finset.univ fun x => iprop(cellInv ER (rd (F := F) m) (K x) (kcell x) ∗ reached ER (kcell x) 0))
    ∗ (bigSep Finset.univ fun k => pos (F := F) c k 0) ∗ myToks (F := F) c)
def startR (c : Dev nD) : sProp 𝕄 := iprop(G' m c ∗ creds (F := F) c ∗ args m c ∗ levAts L lv)
def Φ₀ (c : Dev nD) : sProp 𝕄 := iprop(startR m c ∗ scr (F := F) c)
def Φ₁ (c : Dev nD) : sProp 𝕄 := iprop(scr (F := F) c ∗ (bigSep Finset.univ fun k => semVal (kcell (c, k)) 0) ∗ args m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => wqV m c
    | ⟨2, _⟩ => outW m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

theorem before_x (c : Dev nD) (d) : (dats m ρ 0 c).before (0 : Fin 3) t0_0 d = xV m c := by
  unfold Dat.before; rw [if_pos (fetch0_0 _)]; rfl
theorem before_wq (c : Dev nD) (d) : (dats m ρ 0 c).before (1 : Fin 3) t0_0 d = wqV m c := by
  unfold Dat.before; rw [if_pos (fetch0_1 _)]; rfl

/-- A staging buffer at contents `X`. -/
abbrev stgAt (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def preB (c : Dev nD) : sProp 𝕄 :=
  iprop(Φ₀ m c ∗ (dats m ρ 0 c).owesAt () t0_0.castSucc
    ∗ (∃ d, stgAt c cc0_stg0_0 ((dats m ρ 0 c).before (0 : Fin 3) t0_0 d))
    ∗ (∃ d, stgAt c cc0_stg1_0 ((dats m ρ 0 c).before (1 : Fin 3) t0_0 d))
    ∗ (∃ d, stgAt c cc0_stg2_0 ((dats m ρ 0 c).before (2 : Fin 3) t0_0 d)))
def postB (c : Dev nD) : sProp 𝕄 :=
  iprop(Φ₁ m c ∗ (dats m ρ 0 c).owesAt () t0_0.succ
    ∗ stgAt c cc0_stg0_0 (xV m c) ∗ stgAt c cc0_stg1_0 (wqV m c) ∗ stgAt c cc0_stg2_0 (outW m c))

theorem owes_out (c : Dev nD) (t : Fin (cfg0.N + 1)) (l : List (Dev nD × Ck)) (h : (dats m ρ 0 c).owed t = owed l) :
    (dats m ρ 0 c).owesAt () t ⊢ ow (F := F) c l := by
  unfold Dat.owesAt Pipeline.owesWithin ow
  rw [h]
  iintro ⟨%W, -, H⟩
  iexists W; iexact H
theorem owes_in (c : Dev nD) (t : Fin (cfg0.N + 1)) (l : List (Dev nD × Ck)) (h : (dats m ρ 0 c).owed t = owed l) :
    ow (F := F) c l ⊢ (dats m ρ 0 c).owesAt () t := by
  unfold Dat.owesAt Pipeline.owesWithin ow
  rw [h]
  iintro ⟨%W, H⟩
  iexists W
  isplitr; · ipureintro; exact fun _ _ => Or.inl trivial
  iexact H

theorem sound_body (c : Dev nD) : preB m ρ c ⊢ WP (F := F) c (bodyA (F := F)) (fun _ => postB m ρ c) := by
  unfold preB Φ₀ startR G'
  iintro ⟨⟨⟨⟨%K, HI, HP, HT⟩, HC, HA, HL⟩, HS⟩, Ho, ⟨%d0, %f0, %h0, H0⟩, ⟨%d1, %f1, %h1, H1⟩, ⟨%d2, %f2, -, H2⟩⟩
  rw [before_x] at h0
  rw [before_wq] at h1
  subst h0 h1
  ihave Ho := (owes_out m ρ c t0_0.castSucc (owe0 c) rfl) $$ Ho
  ihave HR := (show iprop((bigSep Finset.univ fun x => iprop(cellInv ER (rd (F := F) m) (K x) (kcell x) ∗ reached ER (kcell x) 0)) ∗ levAts L lv) ⊢ recs m K from
    Entails.of_eq (by unfold recs; rfl)) $$ [HI HL]
  · isplitl [HI] <;> iassumption
  icases HR with #HR
  ihave HX := (open_A m c) $$ [HP HT HC HA HS Ho H0 H1 H2]
  · isplitl [HP]; · iexact HP
    isplitl [HT]; · iexact HT
    isplitl [HC]; · iexact HC
    isplitl [HA]; · iexact HA
    isplitl [HS]; · iexact HS
    isplitl [H0 H1]
    · unfold ins
      isplitl [H0] <;> iassumption
    isplitl [H2]
    · unfold whole
      iexists f2; iexact H2
    iexact Ho
  icases HX with ⟨HX, Hk⟩
  iapply (wp_fupd frame (wpE (defs₀ (F := F)) 𝒱₀ (c : Thread nD τ) none) Set.univ (bodyA (F := F)) (fun _ => postB m ρ c))
  iapply (runA m K c) $$ [HX]
  · isplitr; · iexact HR
    iexact HX
  iintro HX
  ihave HX := (close_A m c) $$ [HX Hk]
  · isplitl [HX] <;> iassumption
  icases HX with ⟨HP, Ho, HI, H2, HA, HS⟩
  imod (close_all m K c) $$ [HP] with HP
  · isplitr; · iexact HR
    iexact HP
  unfold postB Φ₁ ins
  icases HI with ⟨H0, H1⟩
  ihave Ho := (owes_in m ρ c t0_0.succ [] rfl) $$ Ho
  imodintro
  isplitl [HS HP HA]
  · isplitl [HS]; · iexact HS
    isplitl [HP] <;> iassumption
  isplitl [Ho]; · iexact Ho
  isplitl [H0]
  · iexists _; isplitr; · (ipureintro; rfl)
    iexact H0
  isplitl [H1]
  · iexists _; isplitr; · (ipureintro; rfl)
    iexact H1
  iexists _; isplitr; · (ipureintro; rfl)
  iexact H2

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show preB m ρ c ⊢ wp frame (wpE (defs₀ (F := F)) 𝒱₀ c none) Set.univ (bodyAt0 (F := F) t0_0) (fun _ => postB m ρ c)
  rw [body_eq]
  exact sound_body m ρ c

end Cert.AttnProof
end
-- ==== Proof.Launch.lean ====
/- The launch's ghost state: the cells' records dealt to the devices, the launch credit, and what the semaphores give
   back. -/
module

public import proofs.«01_k».proof.Proof.LaunchBody
public import Idealize.ShloMosaic.Lib.Pipeline.CollectiveSegs
public import Idealize.ShloMosaic.Lib.Quiescent

@[expose] public section

set_option maxRecDepth 16384

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kinds other than the barrier. -/
def ock (i : Fin 28) : Ck := ckList.get ⟨i.val + 1, Nat.succ_lt_succ i.isLt⟩
theorem ock_inj : Function.Injective ock := by decide
theorem ock_univ : (Finset.univ : Finset Ck).erase .bar = Finset.univ.map ⟨ock, ock_inj⟩ := by decide
abbrev osem (i : Fin 28) : SemLoc sig := csem (ock i)
theorem ownSemFacts : Pipeline.OwnSemFacts cfg0.spec osem := by decide

omit [FloatOps F] in
theorem sems_eq (c : Dev nD) :
    iprop(Pipeline.ownSems0 (Ix := Unit) (Name := ℕ) (U := UU) (Lvl := ℕ) (Val := Elt F) (τ := τ) osem c ∗ unscopedSems0 c)
      ⊣⊢ (bigSep Finset.univ fun k : Ck => semVal (kcell (c, k)) 0 : sProp 𝕄) := by
  have h1 : (unscopedSems0 c : sProp 𝕄) = semVal (kcell (c, .bar)) 0 := by
    unfold unscopedSems0; rw [bigSep_eq_bigSepL_of_eq [SemLoc.reg barS] (by decide) (by decide)]; rfl
  have h2 : (Pipeline.ownSems0 (Ix := Unit) (Name := ℕ) (U := UU) (Lvl := ℕ) (Val := Elt F) (τ := τ) osem c : sProp 𝕄)
      = bigSep ((Finset.univ : Finset Ck).erase .bar) fun k => semVal (kcell (c, k)) 0 := by
    unfold Pipeline.ownSems0; rw [ock_univ, bigSep_map]; rfl
  rw [h1, h2, bigSep_erase (Finset.mem_univ Ck.bar)]
  constructor
  · show _ ⊢ iprop(semVal (kcell (c, .bar)) 0 ∗ bigSep ((Finset.univ : Finset Ck).erase .bar) fun k => semVal (kcell (c, k)) 0)
    iintro ⟨A, B⟩
    isplitl [B]; · iexact B
    iexact A
  · show iprop(semVal (kcell (c, .bar)) 0 ∗ bigSep ((Finset.univ : Finset Ck).erase .bar) fun k => semVal (kcell (c, k)) 0) ⊢ _
    iintro ⟨A, B⟩
    isplitl [B]; · iexact B
    iexact A

/-! ## The records at launch -/

def allCells : Finset (GSem nD τ sig) := Finset.univ.map ⟨kcell, kcell_inj⟩
def tokOf (x : Dev nD × Dev nD × Ck) : GSem nD τ sig × ℕ × Dev nD := (kcell (x.2.1, x.2.2), 0, x.1)
theorem tokOf_inj : Function.Injective tokOf := by
  rintro ⟨d, x⟩ ⟨d', x'⟩ h
  have h1 : d = d' := congrArg (fun y : GSem nD τ sig × ℕ × Dev nD => y.2.2) h
  have h2 : x = x' := kcell_inj (congrArg (fun y : GSem nD τ sig × ℕ × Dev nD => y.1) h)
  rw [h1, h2]
def allToks : Finset (GSem nD τ sig × ℕ × Dev nD) := Finset.univ.map ⟨tokOf, tokOf_inj⟩

def u₀ : UU :=
  (initOf (Pipeline.cells cfgs cellOf_inj) (Pipeline.launchToks cfgs cellOf_inj), initOf allCells allToks)

def recR (c : Dev nD) : sProp 𝕄 := iprop(bigSep Finset.univ fun k : Ck => reached ER (kcell (c, k)) 0)

/-- What the launch element deals device `c`. -/
def G (c : Dev nD) : sProp 𝕄 :=
  iprop((bigSep Finset.univ fun k : Ck => roundState ER (rd (F := F) m) (kcell (c, k)) 0) ∗ recR (F := F) c
    ∗ (bigSep Finset.univ fun k => pos (F := F) c k 0) ∗ myToks (F := F) c)

omit [FloatOps F] in
theorem cells_eq (Φ : GSem nD τ sig → sProp 𝕄) : bigSep allCells Φ = bigSep Finset.univ fun c : Dev nD => bigSep Finset.univ fun k : Ck => Φ (kcell (c, k)) := by
  unfold allCells; rw [bigSep_map, bigSep_univ_prod]; rfl

theorem toks_deal : bigSep allToks (fun x => (dutyTok ER x.1 x.2.1 x.2.2 : sProp 𝕄)) ⊢ bigSep Finset.univ fun c : Dev nD => myToks (F := F) c := by
  have h : bigSep allToks (fun x => (dutyTok ER x.1 x.2.1 x.2.2 : sProp 𝕄))
      = bigSep Finset.univ fun c : Dev nD => bigSep Finset.univ fun p : Dev nD => bigSep Finset.univ fun k => tok (F := F) p k c := by
    unfold allToks; rw [bigSep_map, bigSep_univ_prod]
    exact bigSep_congr fun c _ => by rw [bigSep_univ_prod]; rfl
  rw [h]
  exact bigSep_mono fun c _ => toks_mine (F := F) c

theorem fund_all : BI.own (ER (initOf allCells allToks)) ⊢ (|==> bigSep Finset.univ (G m) : sProp 𝕄) := by
  iintro HX
  imod (Rounds.fund ER (rd (F := F) m) allCells allToks) $$ HX with ⟨Hst, Hr, Hat, Htok⟩
  imodintro
  ihave Hst := (Entails.of_eq (cells_eq fun g => roundState ER (rd (F := F) m) g 0)) $$ Hst
  ihave Hat := (Entails.of_eq (cells_eq fun g => atPos ER g 0 ∅ 0)) $$ Hat
  ihave Hr := (Entails.of_eq (cells_eq fun g => reached ER g 0)) $$ Hr
  ihave Htok := (toks_deal (F := F)) $$ Htok
  unfold G recR; simp only [bigSep_sep']
  isplitl [Hst]; · iexact Hst
  isplitl [Hr]; · iexact Hr
  isplitl [Hat] <;> iassumption

def G1 (c : Dev nD) : sProp 𝕄 :=
  iprop((bigSep Finset.univ fun k : Ck => iprop(∃ κ : ℕ, cellInv ER (rd (F := F) m) κ (kcell (c, k)))) ∗ recR (F := F) c
    ∗ (bigSep Finset.univ fun k => pos (F := F) c k 0) ∗ myToks (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> G1 m c := by
  unfold G G1
  iintro ⟨Hos, Hus, Hst, Hr, Hat, Htok⟩
  ihave Hv := (sems_eq (F := F) c).1 $$ [Hos Hus]
  · isplitl [Hos] <;> iassumption
  imod (show iprop((bigSep Finset.univ fun k : Ck => semVal (kcell (c, k)) 0) ∗ bigSep Finset.univ fun k : Ck => roundState ER (rd (F := F) m) (kcell (c, k)) 0)
      ⊢ (|={Set.univ}=> bigSep Finset.univ fun k => iprop(∃ κ : ℕ, cellInv ER (rd (F := F) m) κ (kcell (c, k))) : sProp 𝕄) from by
        rw [← bigSep_sep']
        exact (bigSep_mono fun k _ => (Rounds.body_intro ER (rd (F := F) m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The records every device keeps. -/
def recA (K : Dev nD × Ck → ℕ) : sProp 𝕄 :=
  iprop(bigSep Finset.univ fun x => iprop(cellInv ER (rd (F := F) m) (K x) (kcell x) ∗ reached ER (kcell x) 0))
instance recA_persistent (K : Dev nD × Ck → ℕ) : BI.Persistent (recA m K) := by unfold recA; infer_instance

theorem regroup : (bigSep Finset.univ (G1 m) : sProp 𝕄) ⊢ bigSep Finset.univ (G' m) := by
  unfold G1 recR
  simp only [bigSep_sep']
  rw [← bigSep_univ_prod (fun x : Dev nD × Ck => iprop(∃ κ : ℕ, cellInv ER (rd (F := F) m) κ (kcell x))),
    ← bigSep_univ_prod (fun x : Dev nD × Ck => (reached ER (kcell x) 0 : sProp 𝕄))]
  iintro ⟨HI, HR, Hat, Htok⟩
  ihave HK := (BI.bigSep_exists_pi Finset.univ (fun (x : Dev nD × Ck) (κ : ℕ) => (cellInv ER (rd (F := F) m) κ (kcell x) : sProp 𝕄))) $$ HI
  icases HK with ⟨%K, HI⟩
  ihave HA := (show iprop((bigSep Finset.univ fun x : Dev nD × Ck => cellInv ER (rd (F := F) m) (K x) (kcell x))
      ∗ bigSep Finset.univ fun x : Dev nD × Ck => reached ER (kcell x) 0) ⊢ recA m K from by unfold recA; rw [bigSep_sep']) $$ [HI HR]
  · isplitl [HI] <;> iassumption
  ihave HL := (Entails.of_eq (bigSep_sep' Finset.univ (fun c : Dev nD => bigSep Finset.univ fun k => pos (F := F) c k 0) (fun c => myToks (F := F) c)).symm) $$ [Hat Htok]
  · isplitl [Hat] <;> iassumption
  iapply (sep_pers (R := recA m K) (S := Finset.univ) (Φ := fun c : Dev nD => iprop((bigSep Finset.univ fun k => pos (F := F) c k 0) ∗ myToks (F := F) c)) (Ψ := G' m)
    (fun c _ => show _ ⊢ _ from by
      unfold G' recA
      iintro ⟨A, B⟩
      iexists K
      isplitl [A] <;> iassumption))
  isplitl [HA] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How many devices owe a cell. -/
def cnt (c : Dev nD) : Ck → ℕ
  | .bar => 3
  | .ro p => if p = c then 0 else 1
  | .rml p => if p = c then 0 else 1
  | .rout p => if p = c then 0 else 1
  | _ => 0

omit [FloatOps F] in
theorem launch_k (c : Dev nD) (k : Ck) :
    tallyOn (kcell (c, k)) (launchCredit (Pipeline.owing O₀) 0 (kcell (c, k))) = (tallyAt (kcell (c, k)) () (cnt c k * amt k) : CellTallies nD τ sig Unit) := by
  unfold tallyAt; refine congrArg _ (Finsupp.ext fun u => ?_); cases u
  rw [Pipeline.launchCredit_owing, Finsupp.single_eq_same,
    show (∑ d : Dev nD, O₀ d (kcell (c, k)) ()) = ∑ d : Dev nD, (owe0 d).count (c, k) * amt k from Finset.sum_congr rfl fun d _ => owed_kcell (owe0 d) (c, k),
    ← Finset.sum_mul, owe0_count]
  cases k <;> rfl

omit [FloatOps F] in
theorem creds_k (c : Dev nD) : (Pipeline.launchCred O₀ c : sProp 𝕄) ⊢ bigSep Finset.univ fun k : Ck => cred (tallyAt (kcell (c, k)) () (cnt c k * amt k)) := by
  have h : (bigSep Finset.univ fun k : Ck => (cred (tallyAt (kcell (c, k)) () (cnt c k * amt k)) : sProp 𝕄))
      = bigSep (Finset.univ.map ⟨csem, csem_inj⟩) fun sm => cred (tallyOn ((c : Thread nD τ), sm) (launchCredit (Pipeline.owing O₀) 0 ((c : Thread nD τ), sm))) := by
    rw [bigSep_map]
    exact bigSep_congr fun k _ => congrArg cred (launch_k c k).symm
  rw [h]
  unfold Pipeline.launchCred
  exact bigSep_subset (Finset.subset_univ _)

theorem cred_peer (c p : Dev nD) (k : Ck) (h : cnt c k = 1) : (cred (tallyAt (kcell (c, k)) () (cnt c k * amt k)) : sProp 𝕄) ⊢ crd (F := F) c k :=
  Entails.of_eq (by rw [h, Nat.one_mul])

theorem creds_of (c : Dev nD) : (Pipeline.launchCred O₀ c : sProp 𝕄) ⊢ creds (F := F) c := by
  obtain ⟨n1, n2, n3⟩ := nx_ne c
  unfold creds
  iintro H
  ihave H := (creds_k (F := F) c) $$ H
  ihave H := (sep_ck (F := F) (fun k => cred (tallyAt (kcell (c, k)) () (cnt c k * amt k)))).1 $$ H
  icases H with ⟨A, -, -, -, B, -, C, -, D⟩
  ihave B := (Entails.of_eq (sep_all (F := F) c _)) $$ B
  ihave C := (Entails.of_eq (sep_all (F := F) c _)) $$ C
  ihave D := (Entails.of_eq (sep_all (F := F) c _)) $$ D
  icases B with ⟨-, B1, B2, B3⟩
  icases C with ⟨-, C1, C2, C3⟩
  icases D with ⟨-, D1, D2, D3⟩
  isplitl [A]; · iexact A
  isplitl [B1 B2 B3]
  · isplitl [B1]; · iapply (cred_peer (F := F) c c (.ro (nx c 1)) (if_neg n1)); iexact B1
    isplitl [B2]; · iapply (cred_peer (F := F) c c (.ro (nx c 2)) (if_neg n2)); iexact B2
    iapply (cred_peer (F := F) c c (.ro (nx c 3)) (if_neg n3)); iexact B3
  isplitl [C1 C2 C3]
  · isplitl [C1]; · iapply (cred_peer (F := F) c c (.rml (nx c 1)) (if_neg n1)); iexact C1
    isplitl [C2]; · iapply (cred_peer (F := F) c c (.rml (nx c 2)) (if_neg n2)); iexact C2
    iapply (cred_peer (F := F) c c (.rml (nx c 3)) (if_neg n3)); iexact C3
  isplitl [D1]; · iapply (cred_peer (F := F) c c (.rout (nx c 1)) (if_neg n1)); iexact D1
  isplitl [D2]; · iapply (cred_peer (F := F) c c (.rout (nx c 2)) (if_neg n2)); iexact D2
  iapply (cred_peer (F := F) c c (.rout (nx c 3)) (if_neg n3)); iexact D3

/-! ## In and out of the pipeline -/

/-- Device `c`'s contents at launch. -/
abbrev V₀ (c : Dev nD) (b : Ref sig .tc) : Buf (Elt F) ((c : Thread nD τ).loc b) := m ((c : Thread nD τ).loc b)
theorem args_eq (c : Dev nD) : (Pipeline.unscopedRest cfg0.spec c (V₀ m c) : sProp 𝕄) = args m c := by
  rw [unscopedRest0_eq]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startR m c ∗ emp) := by
  rw [Pipeline.unscopedRestP_none, args_eq]
  unfold startR
  iintro ⟨HA, Hlev, Hcr, -, HG⟩
  ihave Hc := (creds_of (F := F) c) $$ Hcr
  imodintro
  isplitl
  · isplitl [HG]; · iexact HG
    isplitl [Hc]; · iexact Hc
    isplitl [HA]; · iexact HA
    iexact Hlev
  · iempintro

omit [FloatOps F] in
theorem scr_eq (c : Dev nD) : (Pipeline.scopedRest cfg0.spec c : sProp 𝕄) = scr (F := F) c := by
  rw [scopedRest0_eq]; rfl

theorem phi0_intro (c : Dev nD) :
    iprop(startR m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

def YY (c : Dev nD) : sProp 𝕄 := iprop(unscopedSems0 c ∗ args m c)

theorem phi1_exit (c : Dev nD) :
    (dats m ρ 0 c).Φ (Fin.last cfg0.N) ⊢ iprop(YY m c ∗ Pipeline.ownSems0 osem c ∗ Pipeline.scopedRest cfg0.spec c) := by
  rw [show (dats m ρ 0 c).Φ (Fin.last cfg0.N) = Φ₁ m c from rfl, scr_eq]
  unfold Φ₁ YY
  iintro ⟨Hr, Hz, HA⟩
  ihave Hz := (sems_eq (F := F) c).2 $$ Hz
  icases Hz with ⟨Ho, Hu⟩
  isplitl [Hu HA]
  · isplitl [Hu] <;> iassumption
  isplitl [Ho] <;> iassumption

theorem stage_lv (c : Dev nD) (w : Fin 3) (s : Fin (cfg0.win w).nbuf) : lv ((c : Thread nD τ), .dma ((cfg0.win w).sem s)) () = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ (owe0 c) fun x hx => by
        rw [show lv ((c : Thread nD τ), _) () = 0 from stage_lv c w s]; exact lev_owe0 c x hx
    · show (levAts L lv : sProp 𝕄) ⊢ MayWait (c : Thread nD τ) _ () 0
      rw [MayWait_zero]; iintro -; iempintro

/-- The arguments the pipeline does not carry. -/
abbrev restRefs : Finset (Ref sig .tc) := (Finset.univ.filter fun b : Ref sig .tc => ¬ b.isScoped) \ Finset.univ.image (Pipeline.arrRef cfg0.spec)

def QY (c : Dev nD) (s : MemSt nD τ sig (Elt F)) : Prop :=
  (∀ sm : SemLoc sig, sm.isScoped .tc = false → s.sem ((c.tc : Thread nD τ), sm) = 0)
    ∧ ∀ b ∈ restRefs, s.mem ((c : Thread nD τ).loc b) = m ((c : Thread nD τ).loc b)

theorem args_read (c : Dev nD) (s' : Phys nD τ sig (Elt F)) : (iprop(args m c ∗ SI s') : sProp 𝕄)
    ⊢ iprop(⌜∀ b ∈ restRefs, s'.mem.mem ((c : Thread nD τ).loc b) = m ((c : Thread nD τ).loc b)⌝ ∗ SI s') := by
  rw [← args_eq]
  exact pointsTo_read_all restRefs (fun b => (c : Thread nD τ).loc b) (V₀ m c) s'

theorem read_end (c : Dev nD) (s' : Phys nD τ sig (Elt F)) :
    (iprop(YY m c ∗ emp ∗ SI s') : sProp 𝕄) ⊢ |={Set.univ}=> iprop(⌜QY m c s'.mem⌝ ∗ SI s') := by
  unfold YY
  iintro ⟨⟨Hu, HA⟩, -, HSI⟩
  ihave HR := (args_read m c s') $$ [HA HSI]
  · isplitl [HA] <;> iassumption
  icases HR with ⟨%h, HSI⟩
  imod (Pipeline.unscopedSems0_read (X := unscopedSems0 c) (c := c) fupd_intro s') $$ [Hu HSI] with ⟨%h', HSI⟩
  · isplitl [Hu] <;> iassumption
  imodintro
  isplitr; · ipureintro; exact ⟨h', h⟩
  iexact HSI

/-! ## The run -/

theorem share_eq (c : Dev nD) (w : Fin cfg0.W) : (dats m ρ 0 c).share w = fullShare := by unfold Dat.share; split <;> rfl

/-- The final memory: the pipelined arrays at what the pipeline leaves, the other arguments unchanged. -/
def QC (r : PUnit × MemSt nD τ sig (Elt F)) : Prop := ∀ c : Dev nD,
  (∀ w : Fin cfg0.W, r.2.mem ((cfg0.win w).arr.view.loc (c : Thread nD τ)) = (dats m ρ 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := startR m) (Y := YY m) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2.2 main_arg2 (by decide), (h c).2.2.2 main_arg3 (by decide), (h c).2.2.2 main_arg4 (by decide)⟩,
      sem_eq_zero hs fun c => (h c).2.2.1⟩)

/-- An input's array after the run holds what it held. -/
theorem arrAt_x (c : Dev nD) : (dats m ρ 0 c).arrAt (0 : Fin 3) cfg0.N = m ((c : Thread nD τ).loc main_arg0) :=
  (dats (F := F) m ρ 0 c).arrAt_in (0 : Fin 3) rfl _
theorem arrAt_wq (c : Dev nD) : (dats m ρ 0 c).arrAt (1 : Fin 3) cfg0.N = m ((c : Thread nD τ).loc main_arg1) :=
  (dats (F := F) m ρ 0 c).arrAt_in (1 : Fin 3) rfl _

end Cert.AttnProof
end
-- ==== Proof.Frames.lean ====
/- The frames: the kernel, its ideal program and the reference each run, leave their arguments as they were and every
   semaphore counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.AttnProof

open Idealize.ShloMosaic Idealize.ShloMosaic.TcCoe Idealize.SL.Sem

open Cert.KernelIdeal in
/-- The run of the ideal program's text at any float values: the arguments kept, the counters at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).1 0).trans (arrAt_x m ρ c), ((h.1 c).1 1).trans (arrAt_wq m ρ c), (h.1 c).2⟩, h.2⟩) (run_main m ρ)

theorem frame_ideal : Cert.quiescent_KernelIdeal := fun m ρ _ => frame_any (F := Ideal) m ρ

/-- The two programs have one text, so one table of bodies; -/
theorem defs₀_same : (Cert.Kernel.defs₀ (F := Bits)) = (Cert.KernelIdeal.defs₀ (F := Bits)) := by
  unfold Cert.Kernel.defs₀ Cert.KernelIdeal.defs₀
  refine congrArg Defs.onTc ?_
  funext l x
  match l, x with
  | ⟨0, _⟩, (t, s) => rfl
  | ⟨n + 1, h⟩, _ => exact absurd h (by simp)
theorem defs_same : (Cert.Kernel.defs (F := Bits)) = (Cert.KernelIdeal.defs (F := Bits)) :=
  congrArg (Pipeline.defs (Cert.KernelIdeal.pcfgs (F := Bits))) defs₀_same

/-- so the kernel's run is the one above at the machine's floats. -/
theorem frame_kernel : Cert.quiescent_Kernel := by
  intro m ρ _
  rw [defs_same]
  exact frame_any (F := Bits) m ρ

theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.AttnProof
end
-- ==== Proof.Merge.lean ====
/- Sums of exponential weights over the extended reals. For a family of real scores `s` and any real level `μ`, the
   weights are `exp (s t - μ)`; their sum and the weighted sum of values `v` (any extended reals) change from one
   level to another by one factor, so the quotient does not depend on the level. -/
module

public import Idealize.ShloMosaic.PureOps.Ideal
public import Idealize.ShloMosaic.PureOps.Ideal.Laws

@[expose] public section

noncomputable section

namespace Cert.AttnProof

open Idealize.ShloMosaic

variable {T U : Type} [Fintype T] [Fintype U]

/-- A nonnegative real factor goes into a sum of extended reals. -/
theorem sum_mul_real (f : T → EReal) (c : ℝ) (hc : 0 ≤ c) : (∑ t, f t) * (c : EReal) = ∑ t, f t * (c : EReal) := by
  classical
  refine Finset.induction_on (Finset.univ : Finset T) (by simp) ?_
  intro a S ha ih
  rw [Finset.sum_insert ha, Finset.sum_insert ha, EReal.right_distrib_of_nonneg_of_ne_top (by exact_mod_cast hc) (EReal.coe_ne_top c), ih]

theorem coe_sum_real (f : T → ℝ) : ((∑ t, f t : ℝ) : EReal) = ∑ t, (f t : EReal) := by
  classical
  refine Finset.induction_on (Finset.univ : Finset T) (by simp) ?_
  intro a S ha ih
  rw [Finset.sum_insert ha, Finset.sum_insert ha, EReal.coe_add, ih]

/-- The sum of the weights at level `μ`, -/
def Es (s : T → ℝ) (μ : ℝ) : ℝ := ∑ t, Real.exp (s t - μ)
/-- and the weighted sum of the values. -/
def Os (s : T → ℝ) (v : T → EReal) (μ : ℝ) : EReal := ∑ t, (Real.exp (s t - μ) : EReal) * v t

theorem exp_sub_real (a b : ℝ) : Ideal.exp ((a : EReal) - (b : EReal)) = ((Real.exp (a - b) : ℝ) : EReal) := by
  rw [← EReal.coe_sub]; rfl

/-- From one level to another. -/
theorem Es_rescale (s : T → ℝ) (μ ν : ℝ) : (Es s μ : EReal) * Ideal.exp ((μ : EReal) - (ν : EReal)) = (Es s ν : EReal) := by
  rw [exp_sub_real, ← EReal.coe_mul]
  unfold Es
  rw [Finset.sum_mul]
  congr 1
  refine Finset.sum_congr rfl fun t _ => ?_
  rw [← Real.exp_add]; congr 1; ring

theorem Os_rescale (s : T → ℝ) (v : T → EReal) (μ ν : ℝ) : Os s v μ * Ideal.exp ((μ : EReal) - (ν : EReal)) = Os s v ν := by
  rw [exp_sub_real]
  unfold Os
  rw [sum_mul_real _ _ (Real.exp_pos _).le]
  refine Finset.sum_congr rfl fun t _ => ?_
  rw [mul_right_comm, ← EReal.coe_mul, ← Real.exp_add]
  congr 3; ring

theorem Es_pos [Nonempty T] (s : T → ℝ) (μ : ℝ) : 0 < Es s μ :=
  Finset.sum_pos (fun t _ => Real.exp_pos _) Finset.univ_nonempty

/-- A weight over the sum of the weights is the same at every level. -/
theorem weight_level [Nonempty T] (s : T → ℝ) (μ ν : ℝ) (t : T) :
    Real.exp (s t - μ) * (1 / Es s μ) = Real.exp (s t - ν) * (1 / Es s ν) := by
  have h : Es s ν = Es s μ * Real.exp (μ - ν) := by
    unfold Es; rw [Finset.sum_mul]
    refine Finset.sum_congr rfl fun t _ => ?_
    rw [← Real.exp_add]; congr 1; ring
  have h2 : Real.exp (s t - ν) = Real.exp (s t - μ) * Real.exp (μ - ν) := by rw [← Real.exp_add]; congr 1; ring
  have hp := (Es_pos s μ).ne'
  have hq := (Real.exp_pos (μ - ν)).ne'
  rw [h, h2]; field_simp

/-- So the quotient of the two sums at one level is the sum of the normalised weights at another, times the values. -/
theorem quotient_level [Nonempty T] (s : T → ℝ) (v : T → EReal) (μ ν : ℝ) :
    Ideal.div (Os s v μ) (Es s μ : EReal) = ∑ t, v t * Ideal.div (Real.exp (s t - ν) : EReal) (Es s ν : EReal) := by
  rw [Ideal.div_coe (Es_pos s μ).ne']
  unfold Os
  rw [sum_mul_real _ _ (by have := Es_pos s μ; positivity)]
  refine Finset.sum_congr rfl fun t _ => ?_
  rw [Ideal.div_coe (Es_pos s ν).ne', mul_right_comm, ← EReal.coe_mul, weight_level s μ ν, EReal.coe_mul, mul_comm]

/-! ## A family cut into parts -/

theorem Es_parts (s : U → T → ℝ) (μ : ℝ) : Es (fun x : U × T => s x.1 x.2) μ = ∑ u, Es (s u) μ := by
  unfold Es; exact Fintype.sum_prod_type _
theorem Os_parts (s : U → T → ℝ) (v : U → T → EReal) (μ : ℝ) : Os (fun x : U × T => s x.1 x.2) (fun x => v x.1 x.2) μ = ∑ u, Os (s u) (v u) μ := by
  unfold Os; exact Fintype.sum_prod_type _

/-! ## Finite extended reals -/

/-- `x` is a real number. -/
def IsReal (x : EReal) : Prop := ∃ r : ℝ, x = (r : EReal)

theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (Max.max x y) := by
  rcases max_choice x y with h | h <;> rw [h] <;> assumption
theorem isReal_sum {f : T → EReal} (hf : ∀ t, IsReal (f t)) : IsReal (∑ t, f t) := by
  choose g hg using hf
  exact ⟨∑ t, g t, by rw [coe_sum_real]; exact Finset.sum_congr rfl fun t _ => hg t⟩

/-- The greatest of a family of which no member is `⊤` and some member is real. -/
theorem isReal_fold {ι : Type} (S : Finset ι) (f : ι → EReal) (hf : ∀ i ∈ S, f i ≠ ⊤) (i₀ : ι) (hi : i₀ ∈ S) (h₀ : IsReal (f i₀)) :
    IsReal (S.fold max ⊥ f) := by
  rw [isReal_iff]
  constructor
  · refine ne_of_gt ?_
    rw [Finset.lt_fold_max]
    exact Or.inr ⟨i₀, hi, bot_lt_iff_ne_bot.2 (isReal_iff.1 h₀).1⟩
  · refine ne_of_lt ?_
    rw [Finset.fold_max_lt]
    exact ⟨bot_lt_top, fun i h => lt_top_iff_ne_top.2 (hf i h)⟩

end Cert.AttnProof
end
-- ==== Proof.KVal.lean ====
/- The kernel's values over the extended reals, element by element: the projected queries, the selected keys and
   values, the scores of a chunk, and the sums of weights of a chunk, of a device, and of the four devices. -/
module

public import proofs.«01_k».proof.Proof.Vals
public import proofs.«01_k».proof.Proof.Merge
public import Idealize.ShloMosaic.Lib.MatmulPlain
public import Idealize.ShloMosaic.Lib.IdealHost
public import Idealize.ShloMosaic.Lib.ValueLayoutCasts
public import Idealize.ShloMosaic.Lib.Pipeline.Value

@[expose] public section

set_option maxRecDepth 16384

noncomputable section

namespace Cert.AttnProof

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## Products -/

theorem dot_q : dot_S256x1024_S1024x1024_S256x1024_1_0_0_1_n_n = DotDims.plain 256 1024 1024 := rfl
theorem dot_s : dot_S64x128_S512x128_S64x512_1_1_0_0_n_n = DotDims.transposedRhs 64 128 512 := rfl
theorem dot_o : dot_S64x512_S512x128_S64x128_1_0_0_1_n_n = DotDims.plain 64 512 128 := rfl
theorem dot_out : dot_S64x1024_S1024x1024_S64x1024_1_0_0_1_n_n = DotDims.plain 64 1024 1024 := rfl

/-- Column `d` of head `h`. -/
abbrev hcol (h : Fin 8) (d : Fin 128) : Fin 1024 := ⟨128 * h.val + d.val, by omega⟩
/-- Row `r` of query block `q`. -/
abbrev qrow (q : Fin 4) (r : Fin 64) : Fin 256 := ⟨64 * q.val + r.val, by omega⟩
/-- Row of the `t`-th selected key of chunk `b` for query block `q`, within the device's shard. -/
abbrev krow (b : Fin 2) (q : Fin 4) (t : Fin 512) : Fin 4096 :=
  ⟨2048 * b.val + (64 * q.val + 256 * (t.val / 64) + t.val % 64), by omega⟩

/-- The argument arrays of device `c` at coordinates. -/
def xE (c : Dev nD) (i : Fin 256) (k : Fin 1024) : EReal := (m ((c : Thread nD τ).loc main_arg0) : FVec Ideal S1x256x1024 .f32) (ix3 0 i k)
def wqE (c : Dev nD) (k j : Fin 1024) : EReal := (m ((c : Thread nD τ).loc main_arg1) : FVec Ideal S1024x1024 .f32) (ix2 k j)
def kE (c : Dev nD) (j : Fin 4096) (h : Fin 8) (d : Fin 128) : EReal := (m ((c : Thread nD τ).loc main_arg2) : FVec Ideal S1x4096x8x128 .f32) (ix4 0 j h d)
def vE (c : Dev nD) (j : Fin 4096) (h : Fin 8) (d : Fin 128) : EReal := (m ((c : Thread nD τ).loc main_arg3) : FVec Ideal S1x4096x8x128 .f32) (ix4 0 j h d)
def woE (c : Dev nD) (k j : Fin 1024) : EReal := (m ((c : Thread nD τ).loc main_arg4) : FVec Ideal S1024x1024 .f32) (ix2 k j)

theorem xV_apply (c : Dev nD) (i : Fin 256) (k : Fin 1024) : (xV m c : FVec Ideal S1x256x1024 .f32) (ix3 0 i k) = xE m c i k := by
  unfold xV xE
  refine congrArg (m ((c : Thread nD τ).loc main_arg0) : FVec Ideal S1x256x1024 .f32) ?_
  funext a
  match a with
  | ⟨0, _⟩ => rfl
  | ⟨1, _⟩ => apply Fin.ext; show 0 + 1 * i.val = i.val; omega
  | ⟨2, _⟩ => apply Fin.ext; show 0 + 1 * k.val = k.val; omega

theorem wqV_apply (c : Dev nD) (k j : Fin 1024) : (wqV m c : FVec Ideal S1024x1024 .f32) (ix2 k j) = wqE m c k j := by
  unfold wqV wqE
  refine congrArg (m ((c : Thread nD τ).loc main_arg1) : FVec Ideal S1024x1024 .f32) ?_
  funext a
  match a with
  | ⟨0, _⟩ => apply Fin.ext; show 0 + 1 * k.val = k.val; omega
  | ⟨1, _⟩ => apply Fin.ext; show 0 + 1 * j.val = j.val; omega

/-- The projected query of row `i`, column `j`. -/
def qE (c : Dev nD) (i : Fin 256) (j : Fin 1024) : EReal := ∑ k : Fin 1024, xE m c i k * wqE m c k j

theorem qB_apply (c : Dev nD) (q : Fin 4) (r : Fin 64) (j : Fin 1024) : qB m c q (ix2 r j) = qE m c (qrow q r) j := by
  unfold qB
  show extractStridedSlice S64x1024 ![64 * q.val, 0] (k0_pay1 (xV m c) (wqV m c)) (sl_q q) (ix2 r j) = _
  rw [slice2_axis0_apply _ _ _ r j (qrow q r) rfl]
  unfold k0_pay1
  simp only [matmul]
  rw [dot_q, Ideal.matmul_plain_apply]
  rw [show (constant S256x1024 .f32 0x00000000#32 : FVec Ideal S256x1024 .f32) (ix2 (qrow q r) j) = 0 from Ideal.ofBits_zero_f32, zero_add]
  refine Finset.sum_congr rfl fun k _ => ?_
  refine congrArg₂ (· * ·) ?_ ?_
  · exact (shapeCast_1ab_ab_apply _ _ _ _).trans (xV_apply m c _ _)
  · exact (congrFun (shapeCast_self _ _) _).trans (wqV_apply m c _ _)

theorem kH_apply (c : Dev nD) (b : Fin 2) (i : Fin 2048) (h : Fin 8) (d : Fin 128) :
    kH m c b (ix4 0 i h d) = kE m c ⟨2048 * b.val + i.val, by omega⟩ h d := by
  unfold kH kE
  refine congrArg (kBuf m c : FVec Ideal S1x4096x8x128 .f32) ?_
  funext a
  match a with
  | ⟨0, _⟩ => rfl
  | ⟨1, _⟩ => apply Fin.ext; show 2048 * b.val + 1 * i.val = 2048 * b.val + i.val; omega
  | ⟨2, _⟩ => apply Fin.ext; show 0 + 1 * h.val = h.val; omega
  | ⟨3, _⟩ => apply Fin.ext; show 0 + 1 * d.val = d.val; omega
theorem vH_apply (c : Dev nD) (b : Fin 2) (i : Fin 2048) (h : Fin 8) (d : Fin 128) :
    vH m c b (ix4 0 i h d) = vE m c ⟨2048 * b.val + i.val, by omega⟩ h d := by
  unfold vH vE
  refine congrArg (vBuf m c : FVec Ideal S1x4096x8x128 .f32) ?_
  funext a
  match a with
  | ⟨0, _⟩ => rfl
  | ⟨1, _⟩ => apply Fin.ext; show 2048 * b.val + 1 * i.val = 2048 * b.val + i.val; omega
  | ⟨2, _⟩ => apply Fin.ext; show 0 + 1 * h.val = h.val; omega
  | ⟨3, _⟩ => apply Fin.ext; show 0 + 1 * d.val = d.val; omega

/-- Heads and columns of a chunk put side by side. -/
theorem flat_apply (f : FVec Ideal S1x2048x8x128 .f32) (i : Fin 2048) (h : Fin 8) (d : Fin 128) :
    k0_pay6 f (ix2 i (hcol h d)) = f (ix4 0 i h d) := by
  unfold k0_pay6
  show shapeCast S2048x1024 (shapeCast S2048x8x128 f shapeCasts_S1x2048x8x128_S2048x8x128) shapeCasts_S2048x8x128_S2048x1024 (ix2 i (hcol h d)) = _
  rw [shapeCast_apply _ shapeCasts_S2048x8x128_S2048x1024 (ix2 i (hcol h d)) (ix3 i h d) (by
    rw [Shape.rowMajor_val_two, Shape.rowMajor_val_three]
    show (i.val * 8 + h.val) * 128 + d.val = i.val * 1024 + (128 * h.val + d.val); omega)]
  exact shapeCast_1abc_abc_apply _ _ _ _ _

/-- The selected rows of a chunk. -/
theorem sel_apply (f : FVec Ideal S2048x1024 .f32) (q : Fin 4) (t : Fin 512) (j : Fin 1024) :
    sel f q (ix2 t j) = f (ix2 ⟨64 * q.val + 256 * (t.val / 64) + t.val % 64, by omega⟩ j) := by
  have e := concatenate_ofFn_apply (t := S512x1024) (s₁ := S64x1024) 0
    (fun n : Fin 8 => (extractStridedSlice S64x1024 ![64 * q.val + 256 * n.val, 0] f (sl_sel q n) : S64x1024.Idx → EReal))
    concatenates_S64x1024_S64x1024_S64x1024_S64x1024_S64x1024_S64x1024_S64x1024_S64x1024_S512x1024_d0 rfl 64 rfl (ix2 t j)
    ⟨t.val / 64, by omega⟩ rfl (ix2 ⟨t.val % 64, by omega⟩ j) rfl (fun b hb => by
      match b with
      | ⟨0, _⟩ => exact absurd rfl hb
      | ⟨1, _⟩ => rfl)
  refine (show sel f q (ix2 t j) = _ from e).trans ?_
  exact slice2_axis0_apply _ _ _ _ _ _ rfl

end Cert.AttnProof
end
-- ==== Proof.KRow.lean ====
/- The kernel's scores, the sums of weights of a chunk, of a device and of the four devices, and the result, each
   read at an element over the extended reals. -/
module

public import proofs.«01_k».proof.Proof.KVal

@[expose] public section

set_option maxRecDepth 16384

noncomputable section

namespace Cert.AttnProof

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## Scores -/

theorem mulf_at {s : Shape} {φ : FTy} (a b : FVec Ideal s φ) (i : s.Idx) : mulf a b i = (a i : EReal) * (b i : EReal) := rfl
theorem addf_at {s : Shape} {φ : FTy} (a b : FVec Ideal s φ) (i : s.Idx) : addf a b i = (a i : EReal) + (b i : EReal) := rfl
theorem subf_at {s : Shape} {φ : FTy} (a b : FVec Ideal s φ) (i : s.Idx) : subf a b i = (a i : EReal) - (b i : EReal) := rfl
theorem divf_at {s : Shape} {φ : FTy} (a b : FVec Ideal s φ) (i : s.Idx) : divf a b i = Ideal.div (a i) (b i) := rfl
theorem exp_at {s : Shape} {φ : FTy} (a : FVec Ideal s φ) (i : s.Idx) : exp a i = Ideal.exp (a i) := rfl
theorem maximumf_at {s : Shape} {φ : FTy} (a b : FVec Ideal s φ) (i : s.Idx) : maximumf a b i = Max.max (a i : EReal) (b i : EReal) := rfl

/-- The scale of the scores. -/
def sclE : EReal := Ideal.ofBits .f32 0x3DB504F3#32

/-- The score of row `i` against key `j` of device `c`'s shard, head `h`. -/
def scE (c : Dev nD) (h : Fin 8) (i : Fin 256) (j : Fin 4096) : EReal := (∑ d : Fin 128, qE m c i (hcol h d) * kE m c j h d) * sclE

theorem selK_apply (c : Dev nD) (b : Fin 2) (q : Fin 4) (t : Fin 512) (h : Fin 8) (d : Fin 128) :
    sel (k0_pay6 (kH m c b)) q (ix2 t (hcol h d)) = kE m c (krow b q t) h d := by
  rw [sel_apply, flat_apply, kH_apply]
theorem selV_apply (c : Dev nD) (b : Fin 2) (q : Fin 4) (t : Fin 512) (h : Fin 8) (d : Fin 128) :
    sel (k0_pay7 (vH m c b)) q (ix2 t (hcol h d)) = vE m c (krow b q t) h d := by
  rw [sel_apply]; exact (flat_apply _ _ _ _).trans (vH_apply m c b _ h d)

theorem sC_apply (c : Dev nD) (b : Fin 2) (q : Fin 4) (h : Fin 8) (r : Fin 64) (t : Fin 512) :
    sC m c b q h (ix2 r t) = scE m c h (qrow q r) (krow b q t) := by
  unfold sC sP
  rw [mulf_at]
  unfold scE
  refine congrArg₂ (· * ·) ?_ rfl
  simp only [matmul]
  rw [dot_s, Ideal.matmul_transposedRhs_apply]
  rw [show (constant S64x512 .f32 0x00000000#32 : FVec Ideal S64x512 .f32) (ix2 r t) = 0 from Ideal.ofBits_zero_f32, zero_add]
  refine Finset.sum_congr rfl fun d _ => ?_
  refine congrArg₂ (· * ·) ?_ ?_
  · exact (slice2_axis1_apply _ _ _ r d (hcol h d) rfl).trans (qB_apply m c q r _)
  · exact (slice2_axis1_apply _ _ _ t d (hcol h d) rfl).trans (selK_apply m c b q t h d)

/-! ## One chunk -/

theorem lift_row (r : Fin 64) (t : Fin 512) : Shape.Reduces.lift reduces_S64x512_S64 (ix1 r) t = ix2 r t := by
  funext a
  match a with
  | ⟨0, _⟩ => rfl
  | ⟨1, _⟩ => rfl

theorem bcol_apply (v : FVec Ideal S64 .f32) (r : Fin 64) (t : Fin 512) :
    broadcastTo S64x512 (shapeCast S64x1 v shapeCasts_S64_S64x1) broadcasts_S64x1_S64x512 (ix2 r t) = v (ix1 r) := by
  rw [broadcastTo_apply _ _ (ix2 r t) (ix2 r (0 : Fin 1)) (fun a => by
    match a with
    | ⟨0, _⟩ => rfl
    | ⟨1, _⟩ => rfl)]
  exact shapeCast_a_a1_apply _ _ _ _
theorem bcC_apply (v : FVec Ideal S64 .f32) (r : Fin 64) (d : Fin 128) : bcC v (ix2 r d) = v (ix1 r) := by
  unfold bcC
  rw [broadcastTo_apply _ _ (ix2 r d) (ix2 r (0 : Fin 1)) (fun a => by
    match a with
    | ⟨0, _⟩ => rfl
    | ⟨1, _⟩ => rfl)]
  exact shapeCast_a_a1_apply _ _ _ _

theorem mP_apply (S : FVec Ideal S64x512 .f32) (r : Fin 64) :
    mP S (ix1 r) = (Finset.univ : Finset (Fin 512)).fold max (⊥ : EReal) (fun t => S (ix2 r t)) := by
  have h0 : (FloatOps.ofBits .f32 0xFF800000#32 : Ideal .f32) = (⊥ : EReal) := by
    show Ideal.ofBits .f32 0xFF800000#32 = ⊥
    simp [Ideal.ofBits, Ideal.ieee]
  have h1 : (S ∘ Shape.Reduces.lift reduces_S64x512_S64 (ix1 r)) = fun t : Fin 512 => S (ix2 r t) :=
    funext fun t => congrArg S (lift_row r t)
  have h2 := Ideal.multiReduction_maximumf_single (φ := .f32) S 0xFF800000#32 reduces_S64x512_S64 (.inl rfl) rfl (ix1 r)
  rw [h0, h1] at h2
  exact h2
theorem lP_apply (S : FVec Ideal S64x512 .f32) (r : Fin 64) : lP S (ix1 r) = ∑ t : Fin 512, (wP S (ix2 r t) : EReal) := by
  have h2 := Ideal.multiReduction_add_single (φ := .f32) (wP S) 0x00000000#32 reduces_S64x512_S64 (.inl rfl) rfl (ix1 r)
  exact h2.trans (Finset.sum_congr rfl fun t _ => congrArg (wP S) (lift_row r t))

/-- A row of real scores: its maximum is real, and the weights, their sum and the weighted values are those at the
    maximum's level. -/
theorem chunk (S : FVec Ideal S64x512 .f32) (r : Fin 64) (s : Fin 512 → ℝ) (hs : ∀ t, S (ix2 r t) = (s t : EReal)) :
    ∃ μ : ℝ, mP S (ix1 r) = (μ : EReal) ∧ lP S (ix1 r) = (Es s μ : EReal)
      ∧ ∀ (vs : FVec Ideal S512x1024 .bf16) (h : Fin 8) (d : Fin 128), oP S vs h (ix2 r d) = Os s (fun t => vs (ix2 t (hcol h d))) μ := by
  have hm : IsReal (mP S (ix1 r)) := by
    rw [mP_apply]
    refine isReal_fold _ _ (fun t _ => ?_) (0 : Fin 512) (Finset.mem_univ _) ⟨s 0, ?_⟩
    · show (S (ix2 r t) : EReal) ≠ ⊤
      rw [hs t]; exact EReal.coe_ne_top _
    · exact hs 0
  obtain ⟨μ, hμ⟩ := hm
  have hw : ∀ t, wP S (ix2 r t) = ((Real.exp (s t - μ) : ℝ) : EReal) := fun t => by
    unfold wP
    show Ideal.exp (S (ix2 r t) - broadcastTo S64x512 (shapeCast S64x1 (mP S) shapeCasts_S64_S64x1) broadcasts_S64x1_S64x512 (ix2 r t)) = _
    rw [bcol_apply, hμ, hs t, exp_sub_real]
  refine ⟨μ, hμ, ?_, fun vs h d => ?_⟩
  · rw [lP_apply]
    unfold Es
    rw [coe_sum_real]
    exact Finset.sum_congr rfl fun t _ => hw t
  · unfold oP
    simp only [matmul]
    rw [dot_o, Ideal.matmul_plain_apply]
    rw [show (constant S64x128 .f32 0x00000000#32 : FVec Ideal S64x128 .f32) (ix2 r d) = 0 from Ideal.ofBits_zero_f32, zero_add]
    unfold Os
    refine Finset.sum_congr rfl fun t _ => ?_
    refine congrArg₂ (· * ·) (hw t) ?_
    exact slice2_axis1_apply _ _ _ t d (hcol h d) rfl

/-! ## One device: two chunks -/

/-- The sums of device `c` for row `r` of query block `q`, head `h`, at a level of its own. -/
theorem device (c : Dev nD) (q : Fin 4) (h : Fin 8) (r : Fin 64) (s : Fin 2 × Fin 512 → ℝ)
    (hs : ∀ b t, scE m c h (qrow q r) (krow b q t) = (s (b, t) : EReal)) :
    ∃ μ : ℝ, mT m c q h (ix1 r) = (μ : EReal) ∧ lT m c q h (ix1 r) = (Es s μ : EReal)
      ∧ ∀ d : Fin 128, oT m c q h (ix2 r d) = Os s (fun x => vE m c (krow x.1 q x.2) h d) μ := by
  obtain ⟨μ0, hm0, hl0, ho0⟩ := chunk (sC m c 0 q h) r (fun t => s (0, t)) (fun t => (sC_apply m c 0 q h r t).trans (hs 0 t))
  obtain ⟨μ1, hm1, hl1, ho1⟩ := chunk (sC m c 1 q h) r (fun t => s (1, t)) (fun t => (sC_apply m c 1 q h r t).trans (hs 1 t))
  obtain ⟨μ, hμ⟩ : IsReal (mT m c q h (ix1 r)) := IsReal.max ⟨μ0, hm0⟩ ⟨μ1, hm1⟩
  refine ⟨μ, hμ, ?_, fun d => ?_⟩
  · unfold lT
    rw [addf_at, mulf_at, mulf_at, exp_at, exp_at, subf_at, subf_at, hμ]
    unfold mC lC
    rw [hm0, hm1, hl0, hl1, Es_rescale, Es_rescale, Es_parts (fun b t => s (b, t)), Fin.sum_univ_two, EReal.coe_add]
  · unfold oT
    rw [addf_at, mulf_at, mulf_at, bcC_apply, bcC_apply, exp_at, exp_at, subf_at, subf_at, hμ]
    unfold mC oC
    rw [hm0, hm1, ho0, ho1, Os_rescale, Os_rescale, Os_parts (fun b t => s (b, t)) (fun b t => vE m c (krow b q t) h d), Fin.sum_univ_two]
    simp only [selV_apply]

/-! ## The four devices -/

theorem ldM_apply (p : Dev nD) (q : Fin 4) (h : Fin 8) (r : Fin 64) : shapeCast S64 (ldM m p q h) shapeCasts_S1x1x64_S64 (ix1 r) = mT m p q h (ix1 r) := by
  rw [shapeCast_apply _ shapeCasts_S1x1x64_S64 (ix1 r) (ix3 0 0 r) (by rw [Shape.rowMajor_val_one, Shape.rowMajor_val_three]; show (0 * 1 + 0) * 64 + r.val = r.val; omega)]
  rfl
theorem ldL_apply (p : Dev nD) (q : Fin 4) (h : Fin 8) (r : Fin 64) : shapeCast S64 (ldL m p q h) shapeCasts_S1x1x64_S64 (ix1 r) = lT m p q h (ix1 r) := by
  rw [shapeCast_apply _ shapeCasts_S1x1x64_S64 (ix1 r) (ix3 0 0 r) (by rw [Shape.rowMajor_val_one, Shape.rowMajor_val_three]; show (0 * 1 + 0) * 64 + r.val = r.val; omega)]
  rfl
theorem extf_at {s : Shape} (a : FVec Ideal s .bf16) (i : s.Idx) : extf .f32 a bitsLt_bf16_f32 i = (a i : EReal) := rfl
theorem oB_apply (p : Dev nD) (q : Fin 4) (h : Fin 8) (i : S64x128.Idx) : oB m p q h i = (oT m p q h i : EReal) := rfl
theorem ldO_apply (p : Dev nD) (q : Fin 4) (h : Fin 8) (r : Fin 64) (d : Fin 128) :
    shapeCast S64x128 (ldO m p q h) shapeCasts_S1x64x128_S64x128 (ix2 r d) = oT m p q h (ix2 r d) :=
  (shapeCast_1ab_ab_apply _ _ _ _).trans rfl

/-- A sum over the devices, taken from any of them on. -/
theorem sum_nx {M : Type} [AddCommMonoid M] (f : Dev nD → M) (c : Dev nD) : 0 + f c + f (nx c 1) + f (nx c 2) + f (nx c 3) = ∑ p : Fin 4, f p := by
  have hc : c = (0 : Fin 4) ∨ c = (1 : Fin 4) ∨ c = (2 : Fin 4) ∨ c = (3 : Fin 4) := by
    revert c; decide
  rw [Fin.sum_univ_four, zero_add]
  rcases hc with hc | hc | hc | hc
  · rw [hc, show nx (0 : Fin 4) 1 = (1 : Fin 4) by decide, show nx (0 : Fin 4) 2 = (2 : Fin 4) by decide, show nx (0 : Fin 4) 3 = (3 : Fin 4) by decide]
  · rw [hc, show nx (1 : Fin 4) 1 = (2 : Fin 4) by decide, show nx (1 : Fin 4) 2 = (3 : Fin 4) by decide, show nx (1 : Fin 4) 3 = (0 : Fin 4) by decide]
    abel
  · rw [hc, show nx (2 : Fin 4) 1 = (3 : Fin 4) by decide, show nx (2 : Fin 4) 2 = (0 : Fin 4) by decide, show nx (2 : Fin 4) 3 = (1 : Fin 4) by decide]
    abel
  · rw [hc, show nx (3 : Fin 4) 1 = (0 : Fin 4) by decide, show nx (3 : Fin 4) 2 = (1 : Fin 4) by decide, show nx (3 : Fin 4) 3 = (2 : Fin 4) by decide]
    abel

/-- The attention output of row `r` of device `c`'s query block, head `h`, column `d`: a quotient of sums of weights
    over the selected keys of all devices, at some level. -/
theorem ctxA_apply (c : Dev nD) (h : Fin 8) (r : Fin 64) (s : Fin 4 × (Fin 2 × Fin 512) → ℝ)
    (hs : ∀ (p : Dev nD) b t, scE m p h (qrow c r) (krow b c t) = (s (p, (b, t)) : EReal)) :
    ∃ μ : ℝ, ∀ d : Fin 128, ctxA m c h (ix2 r d)
      = Ideal.div (Os s (fun x => vE m x.1 (krow x.2.1 c x.2.2) h d) μ) (Es s μ : EReal) := by
  choose μp hm hl ho using fun p : Dev nD => device m p c h r (fun x => s (p, x)) (hs p)
  have hA : mA m c h (ix1 r) = Max.max (Max.max (mT m c c h (ix1 r)) (mT m (nx c 1) c h (ix1 r))) (Max.max (mT m (nx c 2) c h (ix1 r)) (mT m (nx c 3) c h (ix1 r))) := by
    unfold mA
    rw [maximumf_at, maximumf_at, maximumf_at, ldM_apply, ldM_apply, ldM_apply, ldM_apply]
  obtain ⟨μ, hμ⟩ : IsReal (mA m c h (ix1 r)) := by
    rw [hA]
    exact IsReal.max (IsReal.max ⟨_, hm _⟩ ⟨_, hm _⟩) (IsReal.max ⟨_, hm _⟩ ⟨_, hm _⟩)
  have hE : ∀ p, eA m c p h (ix1 r) = Ideal.exp ((μp p : EReal) - (μ : EReal)) := fun p => by
    unfold eA
    rw [exp_at, subf_at, ldM_apply, hm, hμ]
  have hD : ∀ p, dA m c p h (ix1 r) = (Es (fun x => s (p, x)) μ : EReal) := fun p => by
    unfold dA
    rw [mulf_at, ldL_apply, hl, hE, mul_comm, Es_rescale]
  refine ⟨μ, fun d => ?_⟩
  have hO : nO m c h (ix2 r d) = Os (fun x => s (c, x)) (fun x => vE m c (krow x.1 c x.2) h d) μ := by
    unfold nO
    rw [mulf_at, bcC_apply, extf_at, oB_apply, hE, ho, mul_comm, Os_rescale]
  have hP : ∀ p, nA m c p h (ix2 r d) = Os (fun x => s (p, x)) (fun x => vE m p (krow x.1 c x.2) h d) μ := fun p => by
    unfold nA
    rw [mulf_at, bcC_apply, extf_at, ldO_apply, hE, ho, mul_comm, Os_rescale]
  unfold ctxA
  rw [divf_at, bcC_apply, addf_at, addf_at, addf_at, addf_at, addf_at, addf_at, addf_at, addf_at, hO, hP, hP, hP, hD, hD, hD, hD]
  refine congrArg₂ Ideal.div ?_ ?_
  · refine Eq.trans (congrArg (fun z : EReal => z + _ + _ + _ + _) Ideal.ofBits_zero_f32) ?_
    refine (sum_nx (fun p => Os (fun x => s (p, x)) (fun x => vE m p (krow x.1 c x.2) h d) μ) c).trans ?_
    exact (Os_parts (fun p x => s (p, x)) (fun p x => vE m p (krow x.1 c x.2) h d) μ).symm
  · refine Eq.trans (congrArg (fun z : EReal => z + _ + _ + _ + _) Ideal.ofBits_zero_f32) ?_
    refine (sum_nx (fun p => (Es (fun x => s (p, x)) μ : EReal)) c).trans ?_
    rw [← coe_sum_real]
    exact congrArg _ (Es_parts (fun p x => s (p, x)) μ).symm

/-! ## The result -/

theorem outQ_apply (c : Dev nD) (r : Fin 64) (j : Fin 1024) :
    outQ m c (ix2 r j) = ∑ k : Fin 1024, ctxA m c ⟨k.val / 128, by omega⟩ (ix2 r ⟨k.val % 128, by omega⟩) * woE m c k j := by
  unfold outQ
  simp only [matmul]
  rw [dot_out, Ideal.matmul_plain_apply]
  rw [show (constant S64x1024 .f32 0x00000000#32 : FVec Ideal S64x1024 .f32) (ix2 r j) = 0 from Ideal.ofBits_zero_f32, zero_add]
  refine Finset.sum_congr rfl fun k _ => ?_
  refine congrArg₂ (· * ·) ?_ rfl
  exact concatenate_ofFn_apply (t := S64x1024) (s₁ := S64x128) 1
    (fun n : Fin 8 => (ctxA m c n : S64x128.Idx → EReal))
    concatenates_S64x128_S64x128_S64x128_S64x128_S64x128_S64x128_S64x128_S64x128_S64x1024_d1 rfl 128 rfl (ix2 r k)
    ⟨k.val / 128, by omega⟩ rfl (ix2 r ⟨k.val % 128, by omega⟩) rfl (fun b hb => by
      match b with
      | ⟨0, _⟩ => rfl
      | ⟨1, _⟩ => exact absurd rfl hb)

/-- Every device's result is the same array: row `64 p + r` is row `r` of device `p`'s output. -/
theorem outW_apply (c : Dev nD) (p : Fin 4) (r : Fin 64) (j : Fin 1024) :
    (outW m c : FVec Ideal S1x256x1024 .f32) (ix3 0 (qrow p r) j) = outQ m p (ix2 r j) := by
  have h1 : (64 * p.val + r.val) / 64 = p.val := by omega
  have h2 : (64 * p.val + r.val) % 64 = r.val := by omega
  have e1 : ∀ hh, (⟨(64 * p.val + r.val) % 64, hh⟩ : Fin 64) = r := fun _ => Fin.ext h2
  have e2 : ∀ hh, (⟨(64 * p.val + r.val) / 64, hh⟩ : Dev nD) = p := fun _ => Fin.ext h1
  by_cases hc : (64 * p.val + r.val) / 64 = c.val
  · refine (if_pos hc).trans ?_
    have hcp : c = p := Fin.ext (hc.symm.trans h1)
    rw [hcp]
    exact congrArg (fun z => outQ m p (ix2 z j)) (e1 (Nat.mod_lt _ (by decide)))
  · refine (if_neg hc).trans ?_
    refine (extf_at (outS m _) _).trans ?_
    exact congrArg₂ (fun y z => outQ m y (ix2 z j)) (e2 _) (e1 _)

end Cert.AttnProof
end
-- ==== Proof.RefVal.lean ====
/- What the reference computes, element by element over the extended reals: which keys a row keeps, the scores, the
   weights, and the result. -/
module

public import proofs.«01_k».proof.Proof.Gen.ReferenceIdeal.Read
public import proofs.«01_k».proof.Proof.Merge
public import Idealize.ShloMosaic.Lib.Routing.Words
public import Idealize.ShloMosaic.Lib.IdealHost

@[expose] public section

set_option maxRecDepth 16384

noncomputable section

namespace Cert.AttnProof.Ref

open Cert.ReferenceIdeal Cert.ReferenceIdeal.Gen Cert.ReferenceIdeal.Read
open Idealize.ShloMosaic Idealize.ShloMosaic.TcCoe Idealize.ShloMosaic.ValueIdx

/-! ## Which keys a row keeps -/

theorem v3_val (i : Fin 256) : val_main_v3 (F := Ideal) (ix1 i) = BitVec.ofNat 32 (i.val / 64) :=
  (show val_main_v3 (F := Ideal) (ix1 i) = Routing.pyDiv bcast_S_S256 (val_main_v2 (F := Ideal)) (val_main_c (F := Ideal)) (ix1 i) from rfl).trans
    (Routing.pyDiv_ap _ _ _ _ rfl rfl (by omega) (by decide) (by decide))
theorem v6_val (j : Fin 16384) : val_main_v6 (F := Ideal) (ix1 j) = BitVec.ofNat 32 (j.val / 64) :=
  (show val_main_v6 (F := Ideal) (ix1 j) = Routing.pyDiv bcast_S_S16384 (val_main_v5 (F := Ideal)) (val_main_c_0 (F := Ideal)) (ix1 j) from rfl).trans
    (Routing.pyDiv_ap _ _ _ _ rfl rfl (by omega) (by decide) (by decide))
theorem v4_val (i : Fin 256) : val_main_v4 (F := Ideal) (ix2 i 0) = BitVec.ofNat 32 (i.val / 64) := by
  rw [val_main_v4_apply]
  refine Eq.trans (congrArg _ ?_) (v3_val i)
  funext a
  match a with
  | ⟨0, _⟩ => rfl
theorem v7_val (j : Fin 16384) : val_main_v7 (F := Ideal) (ix2 0 j) = BitVec.ofNat 32 (j.val / 64) := by
  rw [val_main_v7_apply]
  refine Eq.trans (congrArg _ ?_) (v6_val j)
  funext a
  match a with
  | ⟨0, _⟩ => rfl
theorem v11_val (j : Fin 16384) : val_main_v11 (F := Ideal) (ix2 0 j) = BitVec.ofNat 32 (j.val / 64 % 4) :=
  (show val_main_v11 (F := Ideal) (ix2 0 j) = Routing.pyRem bcast_S_S1x16384 (val_main_v7 (F := Ideal)) (val_main_c_1 (F := Ideal)) (ix2 0 j) from rfl).trans
    (Routing.pyRem_ap _ _ _ _ (v7_val j) rfl (by omega) (by decide) (by decide))
theorem v12_val (i : Fin 256) : val_main_v12 (F := Ideal) (ix2 i 0) = BitVec.ofNat 32 (i.val / 64 % 4) :=
  (show val_main_v12 (F := Ideal) (ix2 i 0) = Routing.pyRem bcast_S_S256x1 (val_main_v4 (F := Ideal)) (val_main_c_2 (F := Ideal)) (ix2 i 0) from rfl).trans
    (Routing.pyRem_ap _ _ _ _ (v4_val i) rfl (by omega) (by decide) (by decide))

theorem row_idx {α : Type} (y : S256x1.Idx → α) (i : Fin 256) (j : Fin 16384) : y (idx_main_v8 (ix2 i j)) = y (ix2 i 0) := by
  refine congrArg y ?_
  funext a
  match a with
  | ⟨0, _⟩ => rfl
  | ⟨1, _⟩ => rfl
theorem col_idx {α : Type} (y : S1x16384.Idx → α) (i : Fin 256) (j : Fin 16384) : y (idx_main_v9 (ix2 i j)) = y (ix2 0 j) := by
  refine congrArg y ?_
  funext a
  match a with
  | ⟨0, _⟩ => rfl
  | ⟨1, _⟩ => rfl

/-- Row `i` keeps key `j` exactly when the key's block number is the row's block number modulo 4. -/
theorem mask_iff (i : Fin 256) (j : Fin 16384) : val_main_v16 (F := Ideal) (ix2 i j) = 1#1 ↔ j.val / 64 % 4 = i.val / 64 := by
  have h : val_main_v16 (F := Ideal) (ix2 i j)
      = IntOp.ori (IntOp.cmpi .eq (BitVec.ofNat 32 (i.val / 64)) (BitVec.ofNat 32 (j.val / 64)))
          (IntOp.cmpi .eq (BitVec.ofNat 32 (j.val / 64 % 4)) (BitVec.ofNat 32 (i.val / 64 % 4))) := by
    show IntOp.ori (IntOp.cmpi .eq (val_main_v8 (F := Ideal) (ix2 i j)) (val_main_v9 (F := Ideal) (ix2 i j)))
      (IntOp.cmpi .eq (val_main_v13 (F := Ideal) (ix2 i j)) (val_main_v14 (F := Ideal) (ix2 i j))) = _
    rw [val_main_v8_apply, val_main_v9_apply, val_main_v13_apply, val_main_v14_apply]
    rw [row_idx (val_main_v4 (F := Ideal)), col_idx (val_main_v7 (F := Ideal)), v4_val, v7_val]
    rw [show val_main_v11 (F := Ideal) (idx_main_v13 (ix2 i j)) = _ from col_idx _ i j, show val_main_v12 (F := Ideal) (idx_main_v14 (ix2 i j)) = _ from row_idx _ i j, v11_val, v12_val]
  rw [h, IntOp.ori_eq_one, WordCmp.cmpi_eq_ofNat_eq_one_iff (by omega) (by omega), WordCmp.cmpi_eq_ofNat_eq_one_iff (by omega) (by omega)]
  have := i.isLt
  omega

theorem bit_zero {b : BitVec 1} (h : ¬ b = 1#1) : b = 0#1 := by revert b; decide

/-- A fold by `or` that meets a 1 is 1. -/
theorem foldl_ori {ι : Type} (f : ι → BitVec 1) : ∀ (l : List ι) (b : BitVec 1), (b = 1#1 ∨ ∃ n ∈ l, f n = 1#1) → l.foldl (fun r n => IntOp.ori r (f n)) b = 1#1
  | [], b, h => by
    rcases h with h | ⟨n, hn, _⟩
    · exact h
    · exact nomatch hn
  | a :: l, b, h => by
    refine foldl_ori f l _ ?_
    rcases h with h | ⟨n, hn, e⟩
    · exact .inl (IntOp.ori_eq_one.2 (.inl h))
    · rcases List.mem_cons.1 hn with rfl | hn
      · exact .inl (IntOp.ori_eq_one.2 (.inr e))
      · exact .inr ⟨n, hn, e⟩

/-- Every row keeps some key. -/
theorem v27_val (i : Fin 256) : val_main_v27 (F := Ideal) (ix1 i) = 1#1 := by
  unfold val_main_v27
  rw [Host.reduce_eq_foldl]
  refine foldl_ori _ _ _ (.inr ⟨ix2 i ⟨i.val, by omega⟩, ?_, (mask_iff i _).2 (by show i.val / 64 % 4 = i.val / 64; omega)⟩)
  rw [List.mem_filter]
  refine ⟨List.mem_map.2 ⟨S256x16384.rowMajor (ix2 i ⟨i.val, by omega⟩), List.mem_finRange _, Equiv.symm_apply_apply _ _⟩, ?_⟩
  rw [decide_eq_true_iff]
  funext a
  match a with
  | ⟨0, _⟩ => rfl

/-! ## Scores -/

section Values
variable (x0 : FVec Ideal S1x256x1024 .f32) (x1 : FVec Ideal S1024x1024 .f32) (x2 x3 : FVec Ideal S1x16384x8x128 .f32) (x4 : FVec Ideal S1024x1024 .f32)

/-- The arrays at coordinates. -/
def rx (i : Fin 256) (k : Fin 1024) : EReal := x0 (ix3 0 i k)
def rwt (k j : Fin 1024) : EReal := x1 (ix2 k j)
def rk (j : Fin 16384) (h : Fin 8) (d : Fin 128) : EReal := x2 (ix4 0 j h d)

/-- The projected query, and the score of row `i` against key `j`. -/
def rq (i : Fin 256) (j : Fin 1024) : EReal := ∑ k : Fin 1024, rx x0 i k * rwt x1 k j
def rs (h : Fin 8) (i : Fin 256) (j : Fin 16384) : EReal :=
  (∑ d : Fin 128, rq x0 x1 i ⟨128 * h.val + d.val, by omega⟩ * rk x2 j h d) * Ideal.ofBits .f32 0x3DB504F3#32

theorem v1_val (i : Fin 256) (h : Fin 8) (d : Fin 128) : val_main_v1 (F := Ideal) x0 x1 (ix4 0 i h d) = rq x0 x1 i ⟨128 * h.val + d.val, by omega⟩ := by
  rw [val_main_v1_apply, val_main_v0_apply]
  unfold rq
  refine Finset.sum_congr rfl fun k _ => ?_
  refine congrArg₂ (· * ·) (congrArg x0 ?_) (congrArg x1 ?_)
  · funext a
    match a with
    | ⟨0, _⟩ => rfl
    | ⟨1, _⟩ => apply Fin.ext; show (((0 * 256 + i.val) * 8 + h.val) * 128 + d.val) / 1024 % 256 = i.val; omega
    | ⟨2, _⟩ => rfl
  · funext a
    match a with
    | ⟨0, _⟩ => rfl
    | ⟨1, _⟩ => apply Fin.ext; show (((0 * 256 + i.val) * 8 + h.val) * 128 + d.val) % 1024 = 128 * h.val + d.val; omega

theorem v17_val (h : Fin 8) (i : Fin 256) (j : Fin 16384) :
    val_main_v17 (F := Ideal) x0 x1 x2 (ix4 0 h i j) = ∑ d : Fin 128, rq x0 x1 i ⟨128 * h.val + d.val, by omega⟩ * rk x2 j h d := by
  rw [val_main_v17_apply]
  refine Finset.sum_congr rfl fun d _ => ?_
  refine congrArg₂ (· * ·) (Eq.trans (congrArg _ ?_) (v1_val x0 x1 i h d)) (congrArg x2 ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

theorem v19_val (h : Fin 8) (i : Fin 256) (j : Fin 16384) : val_main_v19 (F := Ideal) x0 x1 x2 (ix4 0 h i j) = rs x0 x1 x2 h i j := by
  rw [val_main_v19_apply, v17_val, val_main_v18_apply]
  rfl

theorem mask4 (h : Fin 8) (i : Fin 256) (j : Fin 16384) : val_main_call4_v1 (F := Ideal) (ix4 0 h i j) = val_main_v16 (F := Ideal) (ix2 i j) := by
  rw [val_main_call4_v1_apply, val_main_v20_apply]
  refine congrArg _ ?_
  funext a
  match a with
  | ⟨0, _⟩ => rfl
  | ⟨1, _⟩ => rfl

theorem ninf : (Ideal.ofBits .f32 0xFF800000#32 : EReal) = ⊥ := by simp [Ideal.ofBits, Ideal.ieee]

theorem v21_val (h : Fin 8) (i : Fin 256) (j : Fin 16384) :
    val_main_v21 (F := Ideal) x0 x1 x2 (ix4 0 h i j) = if j.val / 64 % 4 = i.val / 64 then rs x0 x1 x2 h i j else ⊥ := by
  rw [val_main_v21_apply, mask4, v19_val, val_main_call4_v2_apply]
  by_cases hh : j.val / 64 % 4 = i.val / 64
  · rw [(mask_iff i j).2 hh, if_pos hh]; rfl
  · rw [bit_zero (fun e => hh ((mask_iff i j).1 e)), if_neg hh]; exact ninf

/-! ## Weights -/

theorem v22_val (h : Fin 8) (i : Fin 256) : val_main_v22 (F := Ideal) x0 x1 x2 (ix3 0 h i)
    = (Finset.univ : Finset (Fin 16384)).fold max (⊥ : EReal) (fun j => if j.val / 64 % 4 = i.val / 64 then rs x0 x1 x2 h i j else ⊥) := by
  have hR : S1x8x256x16384.Reduces [3] S1x8x256 := by decide
  have h1 := Host.reduce_eq_fold_single (FloatOps.maximumf (F := Ideal) (φ := .f32)) (val_main_v21 (F := Ideal) x0 x1 x2) (val_main_cst_4 (F := Ideal))
    reducesTo_S1x8x256x16384_S1x8x256_d3 hR h_S_ (ix3 0 h i)
  have h2 : (val_main_v21 (F := Ideal) x0 x1 x2 ∘ Shape.Reduces.lift hR (ix3 0 h i)) = fun j : Fin 16384 => if j.val / 64 % 4 = i.val / 64 then rs x0 x1 x2 h i j else ⊥ := by
    funext j
    refine Eq.trans (congrArg (val_main_v21 (F := Ideal) x0 x1 x2) ?_) (v21_val x0 x1 x2 h i j)
    funext a
    match a with
    | ⟨0, _⟩ => rfl
    | ⟨1, _⟩ => rfl
    | ⟨2, _⟩ => rfl
    | ⟨3, _⟩ => rfl
  have h3 : val_main_cst_4 (F := Ideal) (Shape.Idx.first h_S_) = (⊥ : EReal) := ninf
  rw [h2, h3] at h1
  exact h1

variable (h : Fin 8) (i : Fin 256) (s : Fin 16384 → ℝ)

/-- The kept weights of a row at level `M`. -/
def wt (M : ℝ) (j : Fin 16384) : EReal := if j.val / 64 % 4 = i.val / 64 then ((Real.exp (s j - M) : ℝ) : EReal) else 0

/-- The weights of a row with real scores are those at a real level. -/
theorem v26_val (hs : ∀ j, rs x0 x1 x2 h i j = (s j : EReal)) :
    ∃ M : ℝ, ∀ j, val_main_v26 (F := Ideal) x0 x1 x2 (ix4 0 h i j) = wt i s M j := by
  obtain ⟨M, hM⟩ : IsReal (val_main_v22 (F := Ideal) x0 x1 x2 (ix3 0 h i)) := by
    rw [v22_val]
    refine isReal_fold _ _ (fun j _ => ?_) (⟨i.val, by omega⟩ : Fin 16384) (Finset.mem_univ _) ⟨s ⟨i.val, by omega⟩, ?_⟩
    · by_cases hh : j.val / 64 % 4 = i.val / 64
      · rw [if_pos hh, hs]; exact EReal.coe_ne_top _
      · rw [if_neg hh]; exact bot_ne_top
    · rw [if_pos (by show i.val / 64 % 4 = i.val / 64; omega), hs]
  refine ⟨M, fun j => ?_⟩
  have h24 : val_main_v24 (F := Ideal) x0 x1 x2 (ix4 0 h i j) = (M : EReal) := by
    rw [val_main_v24_apply, val_main_v23_apply]
    refine Eq.trans (congrArg _ ?_) hM
    funext a
    match a with
    | ⟨0, _⟩ => rfl
    | ⟨1, _⟩ => rfl
    | ⟨2, _⟩ => rfl
  rw [val_main_v26_apply, val_main_v25_apply, h24, v21_val, hs]
  show Ideal.exp ((if j.val / 64 % 4 = i.val / 64 then (s j : EReal) else ⊥) - (M : EReal)) = _
  unfold wt
  by_cases hh : j.val / 64 % 4 = i.val / 64
  · rw [if_pos hh, if_pos hh, exp_sub_real]
  · rw [if_neg hh, if_neg hh, EReal.bot_sub]; rfl

/-- The attention output of a row, head `h`, column `d`. -/
theorem v37_val (hs : ∀ j, rs x0 x1 x2 h i j = (s j : EReal)) : ∃ M : ℝ, ∀ d : Fin 128,
    val_main_v37 (F := Ideal) x0 x1 x2 x3 (ix4 0 i h d) = ∑ j : Fin 16384, rk x3 j h d * Ideal.div (wt i s M j) (∑ k : Fin 16384, wt i s M k) := by
  obtain ⟨M, hw⟩ := v26_val x0 x1 x2 h i s hs
  refine ⟨M, fun d => ?_⟩
  have h29 : val_main_v29 (F := Ideal) x0 x1 x2 (ix3 0 h i) = ∑ k : Fin 16384, wt i s M k := by
    rw [val_main_v29_apply, show val_main_cst_6 (F := Ideal) (Shape.Idx.first h_S_) = (0 : EReal) from Ideal.ofBits_zero_f32, zero_add]
    refine Finset.sum_congr rfl fun k _ => Eq.trans (congrArg _ ?_) (hw k)
    funext a
    match a with
    | ⟨0, _⟩ => rfl
    | ⟨1, _⟩ => rfl
    | ⟨2, _⟩ => rfl
    | ⟨3, _⟩ => rfl
  have h28 : val_main_call5_v1 (F := Ideal) (ix4 0 h i 0) = 1#1 := by
    rw [val_main_call5_v1_apply, val_main_v28_apply]
    refine Eq.trans (congrArg _ ?_) (v27_val i)
    funext a
    match a with
    | ⟨0, _⟩ => rfl
  have h31 : val_main_v31 (F := Ideal) x0 x1 x2 (ix4 0 h i 0) = ∑ k : Fin 16384, wt i s M k := by
    rw [val_main_v31_apply, h28, select_one, val_main_v30_apply]
    refine Eq.trans (congrArg _ ?_) h29
    funext a
    match a with
    | ⟨0, _⟩ => rfl
    | ⟨1, _⟩ => rfl
    | ⟨2, _⟩ => rfl
  have h35 : ∀ j, val_main_v35 (F := Ideal) x0 x1 x2 (ix4 0 h i j) = Ideal.div (wt i s M j) (∑ k : Fin 16384, wt i s M k) := fun j => by
    have h34 : val_main_call6_v1 (F := Ideal) (ix4 0 h i j) = 1#1 := by
      rw [val_main_call6_v1_apply, val_main_v34_apply]
      refine Eq.trans (congrArg _ ?_) (v27_val i)
      funext a
      match a with
      | ⟨0, _⟩ => rfl
    have h32 : val_main_v32 (F := Ideal) x0 x1 x2 (ix4 0 h i j) = ∑ k : Fin 16384, wt i s M k := by
      rw [val_main_v32_apply]
      refine Eq.trans (congrArg _ ?_) h31
      funext a
      match a with
      | ⟨0, _⟩ => rfl
      | ⟨1, _⟩ => rfl
      | ⟨2, _⟩ => rfl
      | ⟨3, _⟩ => rfl
    rw [val_main_v35_apply, h34, select_one, val_main_v33_apply, hw, h32]
    rfl
  rw [val_main_v37_apply, val_main_v36_apply]
  refine Finset.sum_congr rfl fun j _ => ?_
  refine congrArg₂ (· * ·) (congrArg x3 ?_) (Eq.trans (congrArg _ ?_) (h35 j))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

end Values

/-- The result: the attention output of all heads against the output weights. -/
theorem v39_val (x0 : FVec Ideal S1x256x1024 .f32) (x1 : FVec Ideal S1024x1024 .f32) (x2 x3 : FVec Ideal S1x16384x8x128 .f32) (x4 : FVec Ideal S1024x1024 .f32)
    (i : Fin 256) (j : Fin 1024) : val_main_v39 (F := Ideal) x0 x1 x2 x3 x4 (ix3 0 i j)
      = ∑ k : Fin 1024, val_main_v37 (F := Ideal) x0 x1 x2 x3 (ix4 0 i ⟨k.val / 128, by omega⟩ ⟨k.val % 128, by omega⟩) * rwt x4 k j := by
  rw [val_main_v39_apply]
  refine Finset.sum_congr rfl fun k _ => ?_
  rw [val_main_v38_apply]
  refine congrArg₂ (· * ·) (congrArg _ ?_) (congrArg x4 ?_)
  · funext a
    match a with
    | ⟨0, _⟩ => rfl
    | ⟨1, _⟩ => apply Fin.ext; show ((0 * 256 + i.val) * 1024 + k.val) / 1024 % 256 = i.val; omega
    | ⟨2, _⟩ => apply Fin.ext; show ((0 * 256 + i.val) * 1024 + k.val) / 128 % 8 = k.val / 128; omega
    | ⟨3, _⟩ => apply Fin.ext; show ((0 * 256 + i.val) * 1024 + k.val) % 128 = k.val % 128; omega
  · funext a
    match a with
    | ⟨0, _⟩ => rfl
    | ⟨1, _⟩ => rfl

end Cert.AttnProof.Ref
end
-- ==== Proof.Equal.lean ====
/- The kernel's result is the reference's: finite arguments have real scores, a query block's keys on the four devices
   are the keys the reference's rows keep, and with real scores the level of the weights does not matter. -/
module

public import proofs.«01_k».proof.Proof.KRow
public import proofs.«01_k».proof.Proof.RefVal
public import proofs.«01_k».proof.Proof.Gen.Pre_finite_KernelIdeal
public import Idealize.ShloMosaic.Lib.ReduceAll
public import Idealize.ShloMosaic.Lib.LayoutAt

@[expose] public section

set_option maxRecDepth 16384

noncomputable section

namespace Cert.AttnProof

open Cert.KernelIdeal Cert.KernelIdeal.Gen
open Idealize.ShloMosaic Idealize.ShloMosaic.TcCoe Idealize.ShloMosaic.ValueIdx

/-! ## Finite arguments -/

theorem ofBits_inf : Ideal.ofBits .f32 0x7F800000#32 = ⊤ := by simp [Ideal.ofBits, Ideal.ieee]

/-- A value of magnitude under `⊤` is real. -/
theorem isReal_of_abs {x : EReal} (h : Ideal.cmp .olt (max x (-x)) (Ideal.ofBits .f32 0x7F800000#32) = 1#1) : IsReal x := by
  rw [ofBits_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  rw [max_lt_iff] at hlt
  refine isReal_iff.2 ⟨fun e => ?_, hlt.1.ne⟩
  rw [e] at hlt
  exact absurd hlt.2 (by simp)

theorem sclE_real : IsReal (Ideal.ofBits .f32 0x3DB504F3#32) := by
  refine ⟨((2 ^ 23 + 3474675 : ℕ) : ℝ) * (2 : ℝ) ^ (-27 : ℤ), ?_⟩
  simp [Ideal.ofBits, Ideal.ieee, -EReal.coe_mul]

/-- The precondition's three arrays hold real numbers only. -/
theorem finite_real (a0 : FVec Ideal S1x256x1024 .f32) (a1 : FVec Ideal S1024x1024 .f32) (a2 a3 : FVec Ideal S1x4096x8x128 .f32)
    (a4 : FVec Ideal S1024x1024 .f32) (h : Cert.Pre_finite_KernelIdeal.fn (F := Ideal) a0 a1 a2 a3 a4 = fun _ => 1#1) :
    (∀ i, IsReal (a0 i)) ∧ (∀ i, IsReal (a1 i)) ∧ (∀ i, IsReal (a2 i)) := by
  haveI : Subsingleton Cert.Pre_finite_KernelIdeal.S_.Idx := ⟨fun a b => funext fun k => k.elim0⟩
  have h0 := congrFun h (fun k => k.elim0)
  unfold Cert.Pre_finite_KernelIdeal.fn at h0
  obtain ⟨h1, h2⟩ := IntOp.andi_eq_one.1 h0
  obtain ⟨h3, h4⟩ := IntOp.andi_eq_one.1 h1
  exact ⟨fun i => isReal_of_abs (Host.reduce_andi_all _ _ _ _ _ h3 i), fun i => isReal_of_abs (Host.reduce_andi_all _ _ _ _ _ h4 i),
    fun i => isReal_of_abs (Host.reduce_andi_all _ _ _ _ _ h2 i)⟩

/-! ## The keys a query block keeps -/

/-- The key of the whole array that is the `x.2.2`-th one of chunk `x.2.1` on device `x.1`. -/
def gkey (q : Fin 4) (x : Fin 4 × (Fin 2 × Fin 512)) : Fin 16384 := ⟨4096 * x.1.val + (krow x.2.1 q x.2.2).val, by have := (krow x.2.1 q x.2.2).isLt; omega⟩

theorem gkey_val (q : Fin 4) (p : Fin 4) (b : Fin 2) (t : Fin 512) :
    (gkey q (p, (b, t))).val = 4096 * p.val + (2048 * b.val + (64 * q.val + 256 * (t.val / 64) + t.val % 64)) := rfl

theorem gkey_mask (q : Fin 4) (x : Fin 4 × (Fin 2 × Fin 512)) : (gkey q x).val / 64 % 4 = q.val := by
  obtain ⟨p, b, t⟩ := x
  rw [gkey_val]; omega

theorem gkey_inj (q : Fin 4) : Function.Injective (gkey q) := by
  rintro ⟨p, b, t⟩ ⟨p', b', t'⟩ h
  have h1 := congrArg Fin.val h
  rw [gkey_val, gkey_val] at h1
  have hp : p.val = p'.val := by omega
  have hb : b.val = b'.val := by omega
  have ht : t.val = t'.val := by omega
  rw [Fin.ext hp, Fin.ext hb, Fin.ext ht]

theorem gkey_surj (q : Fin 4) (j : Fin 16384) (hj : j.val / 64 % 4 = q.val) : ∃ x, gkey q x = j := by
  refine ⟨(⟨j.val / 4096, by omega⟩, (⟨j.val % 4096 / 2048, by omega⟩, ⟨64 * (j.val % 2048 / 256) + j.val % 64, by omega⟩)), ?_⟩
  apply Fin.ext
  rw [gkey_val]
  show 4096 * (j.val / 4096) + (2048 * (j.val % 4096 / 2048) + (64 * q.val + 256 * ((64 * (j.val % 2048 / 256) + j.val % 64) / 64)
    + (64 * (j.val % 2048 / 256) + j.val % 64) % 64)) = j.val
  omega

/-- A sum over all keys whose other terms are zero is the sum over the block's keys. -/
theorem sum_keys (q : Fin 4) (f : Fin 16384 → EReal) (hf : ∀ j, ¬ j.val / 64 % 4 = q.val → f j = 0) :
    ∑ j, f j = ∑ x, f (gkey q x) := by
  refine (Finset.sum_of_injOn (gkey q) (fun a _ b _ h => gkey_inj q h) (fun _ _ => Finset.mem_coe.2 (Finset.mem_univ _)) (fun j _ hj => hf j fun e => ?_) (fun _ _ => rfl)).symm
  obtain ⟨x, hx⟩ := gkey_surj q j e
  exact hj ⟨x, Finset.mem_coe.2 (Finset.mem_univ _), hx⟩

/-! ## The two results -/

section
variable (m : (ℓ : Loc nD τ sig) → Buf (Elt Ideal) ℓ)
  (y0 : FVec Ideal Cert.ReferenceIdeal.S1x256x1024 .f32) (y1 : FVec Ideal Cert.ReferenceIdeal.S1024x1024 .f32)
  (y2 y3 : FVec Ideal Cert.ReferenceIdeal.S1x16384x8x128 .f32) (y4 : FVec Ideal Cert.ReferenceIdeal.S1024x1024 .f32)

/-- Each device holds the queries and the weights whole and its part of the keys and the values. -/
structure Holds : Prop where
  x : ∀ c i k, xE m c i k = Ref.rx y0 i k
  wq : ∀ c k j, wqE m c k j = Ref.rwt y1 k j
  k : ∀ (c : Dev nD) j h d, kE m c j h d = Ref.rk y2 ⟨4096 * c.val + j.val, by have : c.val < 4 := c.isLt; omega⟩ h d
  v : ∀ (c : Dev nD) j h d, vE m c j h d = Ref.rk y3 ⟨4096 * c.val + j.val, by have : c.val < 4 := c.isLt; omega⟩ h d
  wo : ∀ c k j, woE m c k j = Ref.rwt y4 k j

variable (H : Holds m y0 y1 y2 y3 y4)
include H

theorem qE_eq (c : Dev nD) (i : Fin 256) (j : Fin 1024) : qE m c i j = Ref.rq y0 y1 i j := by
  unfold qE Ref.rq
  exact Finset.sum_congr rfl fun k _ => by rw [H.x, H.wq]

theorem scE_eq (c : Dev nD) (h : Fin 8) (i : Fin 256) (q : Fin 4) (b : Fin 2) (t : Fin 512) :
    scE m c h i (krow b q t) = Ref.rs y0 y1 y2 h i (gkey q (c, (b, t))) := by
  unfold scE Ref.rs
  refine congrArg₂ (· * ·) (Finset.sum_congr rfl fun d _ => ?_) rfl
  rw [qE_eq m y0 y1 y2 y3 y4 H, H.k]
  rfl

theorem rs_real (hx : ∀ i, IsReal (y0 i)) (hw : ∀ i, IsReal (y1 i)) (hk : ∀ i, IsReal (y2 i)) (h : Fin 8) (i : Fin 256) (j : Fin 16384) :
    IsReal (Ref.rs y0 y1 y2 h i j) :=
  (isReal_sum fun d => (isReal_sum fun k => (hx _).mul (hw _)).mul (hk _)).mul sclE_real

/-- One row of one head. -/
theorem ctx_eq (hx : ∀ i, IsReal (y0 i)) (hw : ∀ i, IsReal (y1 i)) (hk : ∀ i, IsReal (y2 i)) (q : Fin 4) (h : Fin 8) (r : Fin 64) (d : Fin 128) :
    ctxA m q h (ix2 r d) = Cert.ReferenceIdeal.Read.val_main_v37 (F := Ideal) y0 y1 y2 y3 (ix4 0 (qrow q r) h d) := by
  choose s hs using rs_real m y0 y1 y2 y3 y4 H hx hw hk h (qrow q r)
  obtain ⟨μ, hμ⟩ := ctxA_apply m q h r (fun x => s (gkey q x)) (fun p b t => (scE_eq m y0 y1 y2 y3 y4 H p h (qrow q r) q b t).trans (hs _))
  obtain ⟨M, hM⟩ := Ref.v37_val y0 y1 y2 y3 h (qrow q r) s hs
  have hq : (qrow q r).val / 64 = q.val := by show (64 * q.val + r.val) / 64 = q.val; omega
  have w0 : ∀ j : Fin 16384, ¬ j.val / 64 % 4 = q.val → Ref.wt (qrow q r) s M j = 0 := fun j hj => if_neg (by rw [hq]; exact hj)
  have w1 : ∀ x, Ref.wt (qrow q r) s M (gkey q x) = ((Real.exp (s (gkey q x) - M) : ℝ) : EReal) := fun x => if_pos (by rw [hq]; exact gkey_mask q x)
  have hS : ∑ k : Fin 16384, Ref.wt (qrow q r) s M k = ((Es (fun x => s (gkey q x)) M : ℝ) : EReal) := by
    rw [sum_keys q _ w0]
    unfold Es
    rw [coe_sum_real]
    exact Finset.sum_congr rfl fun x _ => w1 x
  rw [hμ, hM, hS, quotient_level _ _ μ M, sum_keys q _ (fun j hj => by
    rw [w0 j hj, Ideal.div_coe (Es_pos _ M).ne', zero_mul, mul_zero])]
  refine Finset.sum_congr rfl fun x _ => ?_
  rw [w1 x, H.v]
  rfl

/-- The whole result. -/
theorem out_eq (hx : ∀ i, IsReal (y0 i)) (hw : ∀ i, IsReal (y1 i)) (hk : ∀ i, IsReal (y2 i)) (c : Dev nD) :
    (outW m c : FVec Ideal S1x256x1024 .f32) = Cert.ReferenceIdeal.Read.val_main_v39 (F := Ideal) y0 y1 y2 y3 y4 := by
  have key : ∀ (p : Fin 4) (r : Fin 64) (j : Fin 1024), (outW m c : FVec Ideal S1x256x1024 .f32) (ix3 0 (qrow p r) j)
      = Cert.ReferenceIdeal.Read.val_main_v39 (F := Ideal) y0 y1 y2 y3 y4 (ix3 0 (qrow p r) j) := by
    intro p r j
    refine (outW_apply m c p r j).trans ((outQ_apply m p r j).trans (Eq.trans ?_ (Ref.v39_val y0 y1 y2 y3 y4 (qrow p r) j).symm))
    refine Finset.sum_congr rfl fun k _ => ?_
    rw [ctx_eq m y0 y1 y2 y3 y4 H hx hw hk, H.wo]
  funext i
  have hi1 : (i 1).val < 256 := (i 1).isLt
  have hi : i = ix3 0 (qrow ⟨(i 1).val / 64, by omega⟩ ⟨(i 1).val % 64, by omega⟩) ⟨(i 2).val, (i 2).isLt⟩ := by
    funext a
    match a with
    | ⟨0, _⟩ => exact Subsingleton.elim (α := Fin 1) _ _
    | ⟨1, _⟩ => apply Fin.ext; show (i 1).val = 64 * ((i 1).val / 64) + (i 1).val % 64; omega
    | ⟨2, _⟩ => rfl
  rw [hi]
  exact key _ _ _

end

end Cert.AttnProof
end
-- ==== Proof.Result.lean ====
/- The algebraic claim: with finite queries, weights and keys, every device's result array ends holding the reference's. -/
module

public import proofs.«01_k».proof.Defs
public import proofs.«01_k».proof.Proof.Equal
public import proofs.«01_k».proof.Proof.Launch
public import proofs.«01_k».proof.Proof.Gen.ReferenceIdeal.Run
public import Idealize.ShloMosaic.Lib.Pipeline.ValueKit

@[expose] public section

set_option maxRecDepth 16384

noncomputable section

namespace Cert.AttnProof

open Idealize.ShloMosaic Idealize.ShloMosaic.TcCoe Idealize.SL.Sem

section
open Cert.KernelIdeal Cert.KernelIdeal.Gen
open Idealize.ShloMosaic.Pipeline (Dat)

/-- The result's array after the run holds what the body wrote. -/
theorem arrAt_out (m : (ℓ : Loc nD τ sig) → Buf (Elt Ideal) ℓ) (ρ : Dev nD → PrngReg) (c : Dev nD) :
    (dats m ρ 0 c).arrAt (2 : Fin 3) cfg0.N = (outW m c : FVec Ideal S1x256x1024 .f32) :=
  (dats m ρ 0 c).arrAt_eq_of_after_last (2 : Fin 3) t0_0 (by decide +kernel) (outW m c : FVec Ideal S1x256x1024 .f32) (fun j => rfl)

/-- A device's part of an array cut in four along its keys. -/
theorem block_at (x : FVec Ideal S1x4096x8x128 .f32) (y : FVec Ideal Cert.ReferenceIdeal.S1x16384x8x128 .f32) (c : Dev nD)
    (e : x = Layout.block ⟨4, ![1, 4096, 8, 128]⟩ ⟨4, ![1, 16384, 8, 128]⟩ 1 4 c y) (j : Fin 4096) (h : Fin 8) (d : Fin 128) :
    x (ValueIdx.ix4 0 j h d) = Ref.rk y ⟨4096 * c.val + j.val, by have : c.val < 4 := c.isLt; omega⟩ h d := by
  rw [e]
  unfold Ref.rk
  refine congrArg y ?_
  funext a
  match a with
  | ⟨0, _⟩ => exact Subsingleton.elim (α := Fin 1) _ _
  | ⟨1, _⟩ => apply Fin.ext; show c.val * 4096 + j.val = 4096 * c.val + j.val; omega
  | ⟨2, _⟩ => rfl
  | ⟨3, _⟩ => rfl
end

theorem algebraic : Cert.algebraic_KernelIdeal_ReferenceIdeal_pre_finite_KernelIdeal := by
  intro m g m' g' hpre hargs
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c i k => congrFun (hargs c).1 (ValueIdx.ix3 0 i k)
      wq := fun c k j => congrFun (hargs c).2.1 (ValueIdx.ix2 k j)
      k := fun c j h d => block_at _ _ c (hargs c).2.2.1 j h d
      v := fun c j h d => block_at _ _ c (hargs c).2.2.2.1 j h d
      wo := fun c k j => congrFun (hargs c).2.2.2.2 (ValueIdx.ix2 k j) }
  have hreal := fun c => finite_real _ _ _ _ _ (hpre c)
  have hx : ∀ i, IsReal (m' (((0 : Dev Cert.ReferenceIdeal.nD).tc : Thread Cert.ReferenceIdeal.nD Cert.ReferenceIdeal.τ).loc Cert.ReferenceIdeal.main_arg0) i) :=
    fun i => (congrArg IsReal (congrFun (hargs 0).1 i)).mp ((hreal 0).1 i)
  have hw : ∀ i, IsReal (m' (((0 : Dev Cert.ReferenceIdeal.nD).tc : Thread Cert.ReferenceIdeal.nD Cert.ReferenceIdeal.τ).loc Cert.ReferenceIdeal.main_arg1) i) :=
    fun i => (congrArg IsReal (congrFun (hargs 0).2.1 i)).mp ((hreal 0).2.1 i)
  have hk : ∀ i : Cert.ReferenceIdeal.S1x16384x8x128.Idx,
      IsReal ((m' (((0 : Dev Cert.ReferenceIdeal.nD).tc : Thread Cert.ReferenceIdeal.nD Cert.ReferenceIdeal.τ).loc Cert.ReferenceIdeal.main_arg2) : FVec Ideal Cert.ReferenceIdeal.S1x16384x8x128 .f32) i) := by
    intro i
    have h1 : (i 1).val < 16384 := (i 1).isLt
    have hc : (i 1).val / 4096 < 4 := by omega
    have e := block_at _ _ (⟨(i 1).val / 4096, hc⟩ : Dev Cert.KernelIdeal.nD) (hargs _).2.2.1 ⟨(i 1).val % 4096, by omega⟩ (i 2) (i 3)
    have r := (hreal (⟨(i 1).val / 4096, hc⟩ : Dev Cert.KernelIdeal.nD)).2.2 (ValueIdx.ix4 0 ⟨(i 1).val % 4096, by omega⟩ (i 2) (i 3))
    have r2 := (congrArg IsReal e).mp r
    refine (congrArg IsReal ?_).mp r2
    unfold Ref.rk
    refine congrArg (m' (((0 : Dev Cert.ReferenceIdeal.nD).tc : Thread Cert.ReferenceIdeal.nD Cert.ReferenceIdeal.τ).loc Cert.ReferenceIdeal.main_arg2) : FVec Ideal Cert.ReferenceIdeal.S1x16384x8x128 .f32) ?_
    funext a
    match a with
    | ⟨0, _⟩ => exact Subsingleton.elim (α := Fin 1) _ _
    | ⟨1, _⟩ => apply Fin.ext; show 4096 * ((i 1).val / 4096) + (i 1).val % 4096 = (i 1).val; omega
    | ⟨2, _⟩ => rfl
    | ⟨3, _⟩ => rfl
  refine ⟨Cert.ReferenceIdeal.Value.res_main_v39 (F := Ideal) m' 0, ?_, ?_⟩
  · refine (θ_run Cert.KernelIdeal.defs _ _).mono (fun r h c => ⟨?_, ((h.1 c).1 0).trans (arrAt_x m g c), ((h.1 c).1 1).trans (arrAt_wq m g c), (h.1 c).2⟩) (run_main m g)
    exact (((h.1 c).1 2).trans (arrAt_out m g c)).trans ((out_eq m _ _ _ _ _ H hx hw hk c).trans (Cert.ReferenceIdeal.Read.val_main_v39_eq m' 0).symm)
  · exact (θ_run Cert.ReferenceIdeal.defs _ _).mono (fun r h => h 0) (Cert.ReferenceIdeal.Value.run (F := Ideal) m' g')

end Cert.AttnProof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Result

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.AttnProof.frame_kernel, Cert.AttnProof.frame_ideal, fun m ρ _ => Cert.AttnProof.frame_ideal m ρ trivial,
  Cert.AttnProof.frame_ref, fun m ρ _ => Cert.AttnProof.frame_ref m ρ trivial, trivial, Cert.AttnProof.algebraic⟩

end Cert.Proof

end
